-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_ffn [hPre_finite_ffn : Cert.Pre_finite_ffn.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_ffn.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_ffn [hPre_finite_ffn : Cert.Pre_finite_ffn.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_ffn.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite [hPre_finite : Cert.Pre_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite [hPre_finite : Cert.Pre_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_ffn [hKernel5Ideal : Cert.Kernel5Ideal.Facts] [hPre_finite_ffn : Cert.Pre_finite_ffn.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_ffn m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_ffn [hReference5Ideal : Cert.Reference5Ideal.Facts] [hPre_finite_ffn : Cert.Pre_finite_ffn.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_ffn m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite [hKernel17Ideal : Cert.Kernel17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite [hReference17Ideal : Cert.Reference17Ideal.Facts] [hPre_finite : Cert.Pre_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "neg_inf" .f32 0xF149F2CA#32 ⊥
  ∧ IdealRules.named_const.Statement Cert.KernelIdeal.κ "ln2" .f32 0x3F317218#32 ((Real.log 2 : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_ffn [hKernel5Ideal : Cert.Kernel5Ideal.Facts] [hReference5Ideal : Cert.Reference5Ideal.Facts] [hPre_finite_ffn : Cert.Pre_finite_ffn.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_ffn m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v28) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "scale_log2e" .f32 0x3E38AA3B#32 (((1 / 8) * (Real.log 2)⁻¹ : ℝ) : EReal)
  ∧ IdealRules.named_const.Statement Cert.Kernel17Ideal.κ "neg_inf" .f32 0xF149F2CA#32 ⊥
  ∧ IdealRules.named_const.Statement Cert.Kernel17Ideal.κ "ln2" .f32 0x3F317218#32 ((Real.log 2 : ℝ) : EReal)

def algebraic_Kernel17Ideal_Reference17Ideal_pre_finite [hKernel17Ideal : Cert.Kernel17Ideal.Facts] [hReference17Ideal : Cert.Reference17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v73_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v73_2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v41) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite_ffn : Cert.Pre_finite_ffn.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_ffn (hKernel5Ideal := hKernel5Ideal) (hPre_finite_ffn := hPre_finite_ffn)
    ∧ quiescent_Reference5Ideal (hReference5Ideal := hReference5Ideal)
    ∧ quiescent_Reference5Ideal_pre_finite_ffn (hReference5Ideal := hReference5Ideal) (hPre_finite_ffn := hPre_finite_ffn)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite (hKernel17Ideal := hKernel17Ideal) (hPre_finite := hPre_finite)
    ∧ quiescent_Reference17Ideal (hReference17Ideal := hReference17Ideal)
    ∧ quiescent_Reference17Ideal_pre_finite (hReference17Ideal := hReference17Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_ffn (hKernel5Ideal := hKernel5Ideal) (hReference5Ideal := hReference5Ideal) (hPre_finite_ffn := hPre_finite_ffn)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite (hKernel17Ideal := hKernel17Ideal) (hReference17Ideal := hReference17Ideal) (hPre_finite := hPre_finite)
-- ==== Pre_finite.lean ====
abbrev S4096x3200 : Shape := ⟨2, ![4096, 3200]⟩
abbrev S16x4096 : Shape := ⟨2, ![16, 4096]⟩
abbrev S4096x1024 : Shape := ⟨2, ![4096, 1024]⟩
abbrev S4096x2048 : Shape := ⟨2, ![4096, 2048]⟩
abbrev S_ : Shape := ⟨0, ![]⟩

class Facts : Prop where
  slices_S4096x3200_S4096x2048_0_0 : S4096x3200.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4096x3200 .f32) (main_arg1 : FVec F S16x4096 .f32) (main_arg2 : FVec F S4096x1024 .f32) : IVec S_ 1 :=
  let main_v0 : FVec F S4096x2048 .f32 := (extractStridedSlice S4096x2048 ![0, 0] · slices_S4096x3200_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S16x4096 .f32 := Host.absf main_arg1
  let main_cst_0 : FVec F S_ .f32 := constant S_ .f32 0x7F800000#32
  let main_v6 : FVec F S16x4096 .f32 := broadcastInDim S16x4096 ![] bcast_S_S16x4096 main_cst_0
  let main_v7 : IVec S16x4096 1 := cmpf .olt main_v5 main_v6
  let main_c_1 : IVec S_ 1 := constantI S_ 1 1#1
  let main_v8 : IVec S_ 1 := (fun x v => Host.reduce IntOp.andi x v reducesTo_S16x4096_S_d0_1 h_S_) main_v7 main_c_1
  let main_v9 : IVec S_ 1 := andi main_v4 main_v8
  main_v9
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x5632 .f32) (main_arg2 : FVec F S2816x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x3200 : Shape := ⟨2, ![4096, 3200]⟩
abbrev S16x4096 : Shape := ⟨2, ![16, 4096]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x2x4096 : Shape := ⟨3, ![8, 2, 4096]⟩
abbrev S8x4096x2 : Shape := ⟨3, ![8, 4096, 2]⟩
abbrev S8x4096x4 : Shape := ⟨3, ![8, 4096, 4]⟩
abbrev S16x64x4096 : Shape := ⟨3, ![16, 64, 4096]⟩
abbrev S16x8x1x512 : Shape := ⟨4, ![16, 8, 1, 512]⟩
abbrev S4096x128 : Shape := ⟨2, ![4096, 128]⟩
abbrev S512x128 : Shape := ⟨2, ![512, 128]⟩
abbrev S1x4096x4 : Shape := ⟨3, ![1, 4096, 4]⟩
abbrev S1x4096x2 : Shape := ⟨3, ![1, 4096, 2]⟩
abbrev S2x1x1x512 : Shape := ⟨4, ![2, 1, 1, 512]⟩
abbrev S2x4096x256 : Shape := ⟨3, ![2, 4096, 256]⟩
abbrev S2x4096x128 : Shape := ⟨3, ![2, 4096, 128]⟩
abbrev S4096x2 : Shape := ⟨2, ![4096, 2]⟩
abbrev S2x512 : Shape := ⟨2, ![2, 512]⟩
abbrev S1x512x4 : Shape := ⟨3, ![1, 512, 4]⟩
abbrev S512x4 : Shape := ⟨2, ![512, 4]⟩
abbrev S1x512x128 : Shape := ⟨3, ![1, 512, 128]⟩
abbrev S512x1 : Shape := ⟨2, ![512, 1]⟩
abbrev S512 : Shape := ⟨1, ![512]⟩
abbrev S512x256 : Shape := ⟨2, ![512, 256]⟩
abbrev S512x2 : Shape := ⟨2, ![512, 2]⟩
abbrev S1x512x256 : Shape := ⟨3, ![1, 512, 256]⟩
abbrev S512x512 : Shape := ⟨2, ![512, 512]⟩
abbrev S1x512x1 : Shape := ⟨3, ![1, 512, 1]⟩
abbrev S1x512 : Shape := ⟨2, ![1, 512]⟩
abbrev S1x1x1x512 : Shape := ⟨4, ![1, 1, 1, 512]⟩

abbrev nBuf : Space → Nat
  | .hbm => 98
  | .vmem => 29
  | .smem => 0
  | _ => 0

abbrev bufTy : (tb : Table) → Fin (tcTables nBuf tb) → BufTy
  | .hbm, ⟨0, _⟩ => ⟨S4096x3200, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S16x4096x1, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096, .f32⟩
  | .hbm, ⟨38, _⟩ => ⟨S16x4096, .f32⟩
  | .hbm, ⟨39, _⟩ => ⟨S_, .f32⟩
  | .hbm, ⟨40, _⟩ => ⟨S_, .f32⟩
  | .hbm, ⟨41, _⟩ => ⟨S16x4096, .f32⟩
  | .hbm, ⟨42, _⟩ => ⟨S16x4096, .f32⟩
  | .hbm, ⟨43, _⟩ => ⟨S8x2x4096, .f32⟩
  | .hbm, ⟨44, _⟩ => ⟨S8x4096x2, .f32⟩
  | .hbm, ⟨45, _⟩ => ⟨S_, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S8x2x4096, .f32⟩
  | .hbm, ⟨50, _⟩ => ⟨S8x4096x2, .f32⟩
  | .hbm, ⟨51, _⟩ => ⟨S8x4096x4, .f32⟩
  | .hbm, ⟨52, _⟩ => ⟨S4096x16x64, .f32⟩
  | .hbm, ⟨53, _⟩ => ⟨S4096x16x64, .f32⟩
  | .hbm, ⟨54, _⟩ => ⟨S16x4096x4096, .f32⟩
  | .hbm, ⟨55, _⟩ => ⟨S_, .f32⟩
  | .hbm, ⟨56, _⟩ => ⟨S16x4096x4096, .f32⟩
  | .hbm, ⟨57, _⟩ => ⟨S16x4096x4096, .f32⟩
  | .hbm, ⟨58, _⟩ => ⟨S16x4096x1, .f32⟩
  | .hbm, ⟨59, _⟩ => ⟨S16x1x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S4096, .i32⟩
  | .hbm, ⟨65, _⟩ => ⟨S1x4096, .i32⟩
  | .hbm, ⟨66, _⟩ => ⟨S4096x1, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S_, .f32⟩
  | .hbm, ⟨71, _⟩ => ⟨S_, .f32⟩
  | .hbm, ⟨72, _⟩ => ⟨S16x4096x4096, .i1⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S_, .f32⟩
  | .hbm, ⟨78, _⟩ => ⟨S16x4096, .f32⟩
  | .hbm, ⟨79, _⟩ => ⟨S16x4096, .f32⟩
  | .hbm, ⟨80, _⟩ => ⟨S16x4096x1, .f32⟩
  | .hbm, ⟨81, _⟩ => ⟨S16x4096x4096, .f32⟩
  | .hbm, ⟨82, _⟩ => ⟨S16x4096x4096, .f32⟩
  | .hbm, ⟨83, _⟩ => ⟨S16x4096x4096, .f32⟩
  | .hbm, ⟨84, _⟩ => ⟨S_, .f32⟩
  | .hbm, ⟨85, _⟩ => ⟨S16x4096, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S4096x16x64, .f32⟩
  | .hbm, ⟨90, _⟩ => ⟨S16x64x4096, .f32⟩
  | .hbm, ⟨91, _⟩ => ⟨S4096x16x64, .f32⟩
  | .hbm, ⟨92, _⟩ => ⟨S4096x1024, .f32⟩
  | .hbm, ⟨93, _⟩ => ⟨S4096x1024, .bf16⟩
  | .hbm, ⟨94, _⟩ => ⟨S4096x1024, .bf16⟩
  | .hbm, ⟨95, _⟩ => ⟨S4096x1024, .bf16⟩
  | .hbm, ⟨96, _⟩ => ⟨S8x4096x2, .f32⟩
  | .hbm, ⟨97, _⟩ => ⟨S16x8x1x512, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x4096x4, .f32⟩
  | .local _ .vmem, ⟨7, _⟩ => ⟨S1x4096x4, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x4096x2, .f32⟩
  | .local _ .vmem, ⟨19, _⟩ => ⟨S1x4096x2, .f32⟩
  | .local _ .vmem, ⟨20, _⟩ => ⟨S2x1x1x512, .f32⟩
  | .local _ .vmem, ⟨21, _⟩ => ⟨S2x1x1x512, .f32⟩
  | .local _ .vmem, ⟨22, _⟩ => ⟨S2x4096x256, .bf16⟩
  | .local _ .vmem, ⟨23, _⟩ => ⟨S2x4096x128, .bf16⟩
  | .local _ .vmem, ⟨24, _⟩ => ⟨S4096x2, .f32⟩
  | .local _ .vmem, ⟨25, _⟩ => ⟨S4096x128, .f32⟩
  | .local _ .vmem, ⟨26, _⟩ => ⟨S512x128, .f32⟩
  | .local _ .vmem, ⟨27, _⟩ => ⟨S512x128, .f32⟩
  | .local _ .vmem, ⟨28, _⟩ => ⟨S2x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73_0 : Ref sig .tc := ⟨.hbm, 93, rfl⟩
abbrev main_v73_1 : Ref sig .tc := ⟨.hbm, 94, rfl⟩
abbrev main_v73_2 : Ref sig .tc := ⟨.hbm, 95, rfl⟩
abbrev main_v73_3 : Ref sig .tc := ⟨.hbm, 96, rfl⟩
abbrev main_v73_4 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_131 : BitVec 32 := 0#32
  let c8_i32_132 : BitVec 32 := 8#32
  let v271 : BitVec 32 := Scalar.addi c0_i32_131 c8_i32_132
  let c1_i32_133 : BitVec 32 := 1#32
  ⟨c0_i32_131, v271, c1_i32_133⟩
def k0_mult1 (k0_t1 : Fin k0_t1_loop.trips) : BitVec 32 :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  v272
def k0_off1 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v277 : Index := Scalar.indexCast v273
  let c0_137 : Index := 0#32
  ![v277.toNat, 0]
def k0_off2 (k0_t1 : Fin k0_t1_loop.trips) : Fin 3 → Nat :=
  let c0_141 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v287 : Index := Scalar.indexCast v273
  let c0_142 : Index := 0#32
  ![0, v287.toNat, 0]
def k0_off3 (k0_t1 : Fin k0_t1_loop.trips) : Fin 3 → Nat :=
  let c0_145 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v294 : Index := Scalar.indexCast v273
  let c0_146 : Index := 0#32
  ![0, v294.toNat, 0]
def k0_off4 (k0_t1 : Fin k0_t1_loop.trips) : Fin 3 → Nat :=
  let c0_151 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v329 : Index := Scalar.indexCast v273
  let c128 : Index := 128#32
  ![0, v329.toNat, 128]
def k0_off5 (k0_t1 : Fin k0_t1_loop.trips) : Fin 3 → Nat :=
  let c0_153 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v336 : Index := Scalar.indexCast v273
  let c0_154 : Index := 0#32
  ![0, v336.toNat, 0]
def k0_off6 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v344 : Index := Scalar.indexCast v273
  let c0_157 : Index := 0#32
  ![v344.toNat, 0]
def k0_off7 (k0_t1 : Fin k0_t1_loop.trips) : Fin 3 → Nat :=
  let c1_159 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v351 : Index := Scalar.indexCast v273
  let c0_160 : Index := 0#32
  ![1, v351.toNat, 0]
def k0_off8 (k0_t1 : Fin k0_t1_loop.trips) : Fin 3 → Nat :=
  let c1_167 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v386 : Index := Scalar.indexCast v273
  let c128_168 : Index := 128#32
  ![1, v386.toNat, 128]
def k0_off9 (k0_t1 : Fin k0_t1_loop.trips) : Fin 3 → Nat :=
  let c1_170 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v393 : Index := Scalar.indexCast v273
  let c0_171 : Index := 0#32
  ![1, v393.toNat, 0]
def k0_off10 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v401 : Index := Scalar.indexCast v273
  let c1_174 : Index := 1#32
  ![v401.toNat, 1]
def k0_mult2 (i : grid0.Coords) : BitVec 32 :=
  let arg1 : BitVec 32 := BitVec.ofNat 32 (i 1).val
  let c512_i32 : BitVec 32 := 512#32
  let v26 : BitVec 32 := Scalar.muli arg1 c512_i32
  v26
def k0_off11 (i : grid0.Coords) : Fin 3 → Nat :=
  let c0_12 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  let c0_13 : Index := 0#32
  ![0, v28.toNat, 0]
def k0_mult3 (i : grid0.Coords) : BitVec 32 :=
  let arg1 : BitVec 32 := BitVec.ofNat 32 (i 1).val
  let c512_i32_31 : BitVec 32 := 512#32
  let v109 : BitVec 32 := Scalar.muli arg1 c512_i32_31
  v109
def k0_off12 (i : grid0.Coords) : Fin 2 → Nat :=
  let arg1 : BitVec 32 := BitVec.ofNat 32 (i 1).val
  let c512_i32_31 : BitVec 32 := 512#32
  let v109 : BitVec 32 := Scalar.muli arg1 c512_i32_31
  let v110 : BitVec 32 := v109
  let v114 : Index := Scalar.indexCast v110
  let c0_34 : Index := 0#32
  ![v114.toNat, 0]
def k0_off13 (i : grid0.Coords) : Fin 2 → Nat :=
  let arg1 : BitVec 32 := BitVec.ofNat 32 (i 1).val
  let c512_i32_31 : BitVec 32 := 512#32
  let v109 : BitVec 32 := Scalar.muli arg1 c512_i32_31
  let v110 : BitVec 32 := v109
  let v116 : Index := Scalar.indexCast v110
  let c0_35 : Index := 0#32
  ![v116.toNat, 0]
def k0_off14 (i : grid0.Coords) : Fin 3 → Nat :=
  let c0_36 : Index := 0#32
  let arg1 : BitVec 32 := BitVec.ofNat 32 (i 1).val
  let c512_i32_31 : BitVec 32 := 512#32
  let v109 : BitVec 32 := Scalar.muli arg1 c512_i32_31
  let v110 : BitVec 32 := v109
  let v118 : Index := Scalar.indexCast v110
  let c0_37 : Index := 0#32
  ![0, v118.toNat, 0]
def k0_off15 (i : grid0.Coords) : Fin 3 → Nat :=
  let c0_38 : Index := 0#32
  let arg1 : BitVec 32 := BitVec.ofNat 32 (i 1).val
  let c512_i32_31 : BitVec 32 := 512#32
  let v109 : BitVec 32 := Scalar.muli arg1 c512_i32_31
  let v110 : BitVec 32 := v109
  let v121 : Index := Scalar.indexCast v110
  let c0_39 : Index := 0#32
  ![0, v121.toNat, 0]
def k0_off16 (i : grid0.Coords) : Fin 3 → Nat :=
  let c0_50 : Index := 0#32
  let arg1 : BitVec 32 := BitVec.ofNat 32 (i 1).val
  let c512_i32_31 : BitVec 32 := 512#32
  let v109 : BitVec 32 := Scalar.muli arg1 c512_i32_31
  let v110 : BitVec 32 := v109
  let v148 : Index := Scalar.indexCast v110
  let c0_51 : Index := 0#32
  ![0, v148.toNat, 0]
def k0_off17 (i : grid0.Coords) : Fin 3 → Nat :=
  let c0_57 : Index := 0#32
  let arg1 : BitVec 32 := BitVec.ofNat 32 (i 1).val
  let c512_i32_31 : BitVec 32 := 512#32
  let v109 : BitVec 32 := Scalar.muli arg1 c512_i32_31
  let v110 : BitVec 32 := v109
  let v160 : Index := Scalar.indexCast v110
  let c0_58 : Index := 0#32
  ![0, v160.toNat, 0]
def k0_off18 (i : grid0.Coords) : Fin 3 → Nat :=
  let c1 : Index := 1#32
  let arg1 : BitVec 32 := BitVec.ofNat 32 (i 1).val
  let c512_i32_31 : BitVec 32 := 512#32
  let v109 : BitVec 32 := Scalar.muli arg1 c512_i32_31
  let v110 : BitVec 32 := v109
  let v177 : Index := Scalar.indexCast v110
  let c0_67 : Index := 0#32
  ![1, v177.toNat, 0]
def k0_off19 (i : grid0.Coords) : Fin 3 → Nat :=
  let c1_68 : Index := 1#32
  let arg1 : BitVec 32 := BitVec.ofNat 32 (i 1).val
  let c512_i32_31 : BitVec 32 := 512#32
  let v109 : BitVec 32 := Scalar.muli arg1 c512_i32_31
  let v110 : BitVec 32 := v109
  let v180 : Index := Scalar.indexCast v110
  let c0_69 : Index := 0#32
  ![1, v180.toNat, 0]
def k0_off20 (i : grid0.Coords) : Fin 3 → Nat :=
  let c1_80 : Index := 1#32
  let arg1 : BitVec 32 := BitVec.ofNat 32 (i 1).val
  let c512_i32_31 : BitVec 32 := 512#32
  let v109 : BitVec 32 := Scalar.muli arg1 c512_i32_31
  let v110 : BitVec 32 := v109
  let v207 : Index := Scalar.indexCast v110
  let c0_81 : Index := 0#32
  ![1, v207.toNat, 0]
def k0_off21 (i : grid0.Coords) : Fin 3 → Nat :=
  let c0_87 : Index := 0#32
  let arg1 : BitVec 32 := BitVec.ofNat 32 (i 1).val
  let c512_i32_31 : BitVec 32 := 512#32
  let v109 : BitVec 32 := Scalar.muli arg1 c512_i32_31
  let v110 : BitVec 32 := v109
  let v219 : Index := Scalar.indexCast v110
  let c1_88 : Index := 1#32
  ![0, v219.toNat, 1]
@[reducible] def k0_t2_loop (i : grid0.Coords) : Scf.Loop 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_100 : BitVec 32 := 1#32
  ⟨v240, v245, c1_i32_100⟩
def k0_mult4 (i : grid0.Coords) (k0_t2 : Fin (k0_t2_loop i).trips) : BitVec 32 :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  v265
def k0_off22 (i : grid0.Coords) (k0_t2 : Fin (k0_t2_loop i).trips) : Fin 3 → Nat :=
  let c0_125 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v267 : Index := Scalar.indexCast v266
  let c0_126 : Index := 0#32
  ![0, v267.toNat, 0]
def k0_off23 (i : grid0.Coords) (k0_t2 : Fin (k0_t2_loop i).trips) : Fin 2 → Nat :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v270 : Index := Scalar.indexCast v266
  let c0_127 : Index := 0#32
  ![v270.toNat, 0]
def k0_off24 (i : grid0.Coords) (k0_t2 : Fin (k0_t2_loop i).trips) : Fin 2 → Nat :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v272 : Index := Scalar.indexCast v266
  let c0_128 : Index := 0#32
  ![v272.toNat, 0]
def k0_off25 (i : grid0.Coords) (k0_t2 : Fin (k0_t2_loop i).trips) : Fin 3 → Nat :=
  let c0_129 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v274 : Index := Scalar.indexCast v266
  let c0_130 : Index := 0#32
  ![0, v274.toNat, 0]
def k0_off26 (i : grid0.Coords) (k0_t2 : Fin (k0_t2_loop i).trips) : Fin 3 → Nat :=
  let c0_131 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v277 : Index := Scalar.indexCast v266
  let c0_132 : Index := 0#32
  ![0, v277.toNat, 0]
def k0_off27 (i : grid0.Coords) (k0_t2 : Fin (k0_t2_loop i).trips) : Fin 3 → Nat :=
  let c0_142 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v299 : Index := Scalar.indexCast v266
  let c0_143 : Index := 0#32
  ![0, v299.toNat, 0]
def k0_off28 (i : grid0.Coords) (k0_t2 : Fin (k0_t2_loop i).trips) : Fin 3 → Nat :=
  let c0_149 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v311 : Index := Scalar.indexCast v266
  let c0_150 : Index := 0#32
  ![0, v311.toNat, 0]
def k0_off29 (i : grid0.Coords) (k0_t2 : Fin (k0_t2_loop i).trips) : Fin 3 → Nat :=
  let c1_159 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v328 : Index := Scalar.indexCast v266
  let c0_160 : Index := 0#32
  ![1, v328.toNat, 0]
def k0_off30 (i : grid0.Coords) (k0_t2 : Fin (k0_t2_loop i).trips) : Fin 3 → Nat :=
  let c1_161 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v331 : Index := Scalar.indexCast v266
  let c0_162 : Index := 0#32
  ![1, v331.toNat, 0]
def k0_off31 (i : grid0.Coords) (k0_t2 : Fin (k0_t2_loop i).trips) : Fin 3 → Nat :=
  let c1_172 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v353 : Index := Scalar.indexCast v266
  let c0_173 : Index := 0#32
  ![1, v353.toNat, 0]
def k0_off32 (i : grid0.Coords) (k0_t2 : Fin (k0_t2_loop i).trips) : Fin 3 → Nat :=
  let c0_179 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v365 : Index := Scalar.indexCast v266
  let c1_180 : Index := 1#32
  ![0, v365.toNat, 1]
@[reducible] def k0_t3_loop (i : grid0.Coords) : Scf.Loop 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let v242 : BitVec 32 := Scalar.addi v240 v241
  let c1_i32_101 : BitVec 32 := 1#32
  ⟨v245, v242, c1_i32_101⟩
def k0_mult5 (i : grid0.Coords) (k0_t3 : Fin (k0_t3_loop i).trips) : BitVec 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  v265
def k0_off33 (i : grid0.Coords) (k0_t3 : Fin (k0_t3_loop i).trips) : Fin 3 → Nat :=
  let c0_125 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v267 : Index := Scalar.indexCast v266
  let c0_126 : Index := 0#32
  ![0, v267.toNat, 0]
def k0_off34 (i : grid0.Coords) (k0_t3 : Fin (k0_t3_loop i).trips) : Fin 2 → Nat :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v270 : Index := Scalar.indexCast v266
  let c0_127 : Index := 0#32
  ![v270.toNat, 0]
def k0_off35 (i : grid0.Coords) (k0_t3 : Fin (k0_t3_loop i).trips) : Fin 2 → Nat :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v272 : Index := Scalar.indexCast v266
  let c0_128 : Index := 0#32
  ![v272.toNat, 0]
def k0_off36 (i : grid0.Coords) (k0_t3 : Fin (k0_t3_loop i).trips) : Fin 3 → Nat :=
  let c0_129 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v274 : Index := Scalar.indexCast v266
  let c0_130 : Index := 0#32
  ![0, v274.toNat, 0]
def k0_off37 (i : grid0.Coords) (k0_t3 : Fin (k0_t3_loop i).trips) : Fin 3 → Nat :=
  let c0_131 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v277 : Index := Scalar.indexCast v266
  let c0_132 : Index := 0#32
  ![0, v277.toNat, 0]
def k0_off38 (i : grid0.Coords) (k0_t3 : Fin (k0_t3_loop i).trips) : Fin 3 → Nat :=
  let c0_142 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v299 : Index := Scalar.indexCast v266
  let c0_143 : Index := 0#32
  ![0, v299.toNat, 0]
def k0_off39 (i : grid0.Coords) (k0_t3 : Fin (k0_t3_loop i).trips) : Fin 3 → Nat :=
  let c0_149 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v311 : Index := Scalar.indexCast v266
  let c0_150 : Index := 0#32
  ![0, v311.toNat, 0]
def k0_off40 (i : grid0.Coords) (k0_t3 : Fin (k0_t3_loop i).trips) : Fin 3 → Nat :=
  let c1_159 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v328 : Index := Scalar.indexCast v266
  let c0_160 : Index := 0#32
  ![1, v328.toNat, 0]
def k0_off41 (i : grid0.Coords) (k0_t3 : Fin (k0_t3_loop i).trips) : Fin 3 → Nat :=
  let c1_161 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v331 : Index := Scalar.indexCast v266
  let c0_162 : Index := 0#32
  ![1, v331.toNat, 0]
def k0_off42 (i : grid0.Coords) (k0_t3 : Fin (k0_t3_loop i).trips) : Fin 3 → Nat :=
  let c1_172 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v353 : Index := Scalar.indexCast v266
  let c0_173 : Index := 0#32
  ![1, v353.toNat, 0]
def k0_off43 (i : grid0.Coords) (k0_t3 : Fin (k0_t3_loop i).trips) : Fin 3 → Nat :=
  let c0_179 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v365 : Index := Scalar.indexCast v266
  let c1_180 : Index := 1#32
  ![0, v365.toNat, 1]
def k0_cond2 (i : grid0.Coords) : BitVec 1 :=
  let arg1 : BitVec 32 := BitVec.ofNat 32 (i 1).val
  let c7_i32 : BitVec 32 := 7#32
  let v262 : BitVec 1 := Scalar.cmpi .eq arg1 c7_i32
  let v263 : BitVec 32 := Scalar.extui v262
  let c0_i32_123 : BitVec 32 := 0#32
  let v264 : BitVec 1 := Scalar.cmpi .ne v263 c0_i32_123
  v264

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | "neg_inf" => some ⊥
  | "scale_log2e" => some (((1 / 8) * (Real.log 2)⁻¹ : ℝ) : EReal)
  | _ => none
-- ==== ReferenceIdeal.lean ====
abbrev S4096x3200 : Shape := ⟨2, ![4096, 3200]⟩
abbrev S16x4096 : Shape := ⟨2, ![16, 4096]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S16x4096x64 : Shape := ⟨3, ![16, 4096, 64]⟩
abbrev S8x2x4096 : Shape := ⟨3, ![8, 2, 4096]⟩
abbrev S8x4096x2 : Shape := ⟨3, ![8, 4096, 2]⟩
abbrev S16x8x1x512 : Shape := ⟨4, ![16, 8, 1, 512]⟩

abbrev nBuf : Space → Nat
  | .hbm => 122
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .i1⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .i1⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S16x4096, .f32⟩
  | .hbm, ⟨55, _⟩ => ⟨S16x4096, .f32⟩
  | .hbm, ⟨56, _⟩ => ⟨S16x4096x1, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S_, .f32⟩
  | .hbm, ⟨61, _⟩ => ⟨S16x4096, .f32⟩
  | .hbm, ⟨62, _⟩ => ⟨S16x4096x1, .f32⟩
  | .hbm, ⟨63, _⟩ => ⟨S16x4096x4096, .f32⟩
  | .hbm, ⟨64, _⟩ => ⟨S16x4096x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S4096x16x64, .f32⟩
  | .hbm, ⟨70, _⟩ => ⟨S16x64x4096, .f32⟩
  | .hbm, ⟨71, _⟩ => ⟨S4096x16x64, .f32⟩
  | .hbm, ⟨72, _⟩ => ⟨S4096x1024, .f32⟩
  | .hbm, ⟨73, _⟩ => ⟨S4096x16x64, .f32⟩
  | .hbm, ⟨74, _⟩ => ⟨S16x64x4096, .f32⟩
  | .hbm, ⟨75, _⟩ => ⟨S16x4096x4096, .f32⟩
  | .hbm, ⟨76, _⟩ => ⟨S16x64x4096, .f32⟩
  | .hbm, ⟨77, _⟩ => ⟨S4096x16x64, .f32⟩
  | .hbm, ⟨78, _⟩ => ⟨S4096x1024, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S16x4096x1, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x4096x4096, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096x4096, .f32⟩
  | .hbm, ⟨95, _⟩ => ⟨S16x4096x4096, .f32⟩
  | .hbm, ⟨96, _⟩ => ⟨S_, .f32⟩
  | .hbm, ⟨97, _⟩ => ⟨S16x4096, .f32⟩
  | .hbm, ⟨98, _⟩ => ⟨S16x4096x1, .f32⟩
  | .hbm, ⟨99, _⟩ => ⟨S16x4096x4096, .f32⟩
  | .hbm, ⟨100, _⟩ => ⟨S_, .f32⟩
  | .hbm, ⟨101, _⟩ => ⟨S16x4096, .f32⟩
  | .hbm, ⟨102, _⟩ => ⟨S16x1x4096, .f32⟩
  | .hbm, ⟨103, _⟩ => ⟨S_, .f32⟩
  | .hbm, ⟨104, _⟩ => ⟨S16x4096, .f32⟩
  | .hbm, ⟨105, _⟩ => ⟨S_, .f32⟩
  | .hbm, ⟨106, _⟩ => ⟨S16x4096, .f32⟩
  | .hbm, ⟨107, _⟩ => ⟨S_, .f32⟩
  | .hbm, ⟨108, _⟩ => ⟨S16x4096x4096, .f32⟩
  | .hbm, ⟨109, _⟩ => ⟨S16x4096x4096, .f32⟩
  | .hbm, ⟨110, _⟩ => ⟨S16x4096x64, .f32⟩
  | .hbm, ⟨111, _⟩ => ⟨S4096x16x64, .f32⟩
  | .hbm, ⟨112, _⟩ => ⟨S16x4096x64, .f32⟩
  | .hbm, ⟨113, _⟩ => ⟨S4096x16x64, .f32⟩
  | .hbm, ⟨114, _⟩ => ⟨S4096x1024, .f32⟩
  | .hbm, ⟨115, _⟩ => ⟨S4096x1024, .f32⟩
  | .hbm, ⟨116, _⟩ => ⟨S4096x1024, .bf16⟩
  | .hbm, ⟨117, _⟩ => ⟨S4096x1024, .bf16⟩
  | .hbm, ⟨118, _⟩ => ⟨S4096x1024, .bf16⟩
  | .hbm, ⟨119, _⟩ => ⟨S8x2x4096, .f32⟩
  | .hbm, ⟨120, _⟩ => ⟨S8x4096x2, .f32⟩
  | .hbm, ⟨121, _⟩ => ⟨S16x8x1x512, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_v20_1 : Ref sig .tc := ⟨.hbm, 26, rfl⟩
abbrev main_call0_v2 : Ref sig .tc := ⟨.hbm, 27, rfl⟩
abbrev main_v20_0 : Ref sig .tc := ⟨.hbm, 28, rfl⟩
abbrev main_call0_cst : Ref sig .tc := ⟨.hbm, 29, rfl⟩
abbrev main_v20_2 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x4x704, .f32⟩
  | .hbm, ⟨18, _⟩ => ⟨S4x4096x704, .f32⟩
  | .hbm, ⟨19, _⟩ => ⟨S4x4096x704, .bf16⟩
  | .hbm, ⟨20, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1024x2816 : Shape := ⟨2, ![1024, 2816]⟩
abbrev S4x704x1024 : Shape := ⟨3, ![4, 704, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S2816x1024, .f32⟩
  | .hbm, ⟨26, _⟩ => ⟨S2816x1024, .bf16⟩
  | .hbm, ⟨27, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 41
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x5632, .f32⟩
  | .hbm, ⟨37, _⟩ => ⟨S4096x8x704, .f32⟩
  | .hbm, ⟨38, _⟩ => ⟨S8x4096x704, .f32⟩
  | .hbm, ⟨39, _⟩ => ⟨S8x4096x704, .bf16⟩
  | .hbm, ⟨40, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S5632x1024 : Shape := ⟨2, ![5632, 1024]⟩
abbrev S8x704x1024 : Shape := ⟨3, ![8, 704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x5632, .f32⟩
  | .hbm, ⟨36, _⟩ => ⟨S5632x1024, .f32⟩
  | .hbm, ⟨37, _⟩ => ⟨S1024x5632, .f32⟩
  | .hbm, ⟨38, _⟩ => ⟨S5632x1024, .f32⟩
  | .hbm, ⟨39, _⟩ => ⟨S5632x1024, .bf16⟩
  | .hbm, ⟨40, _⟩ => ⟨S8x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4096x5632 : Shape := ⟨2, ![4096, 5632]⟩
abbrev S4096x2816 : Shape := ⟨2, ![4096, 2816]⟩
abbrev S_ : Shape := ⟨0, ![]⟩
abbrev S4096x8x704 : Shape := ⟨3, ![4096, 8, 704]⟩
abbrev S8x4096x704 : Shape := ⟨3, ![8, 4096, 704]⟩
abbrev S2x1024x704 : Shape := ⟨3, ![2, 1024, 704]⟩
abbrev S2x704x1024 : Shape := ⟨3, ![2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 43
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S5632x1024, .f32⟩
  | .hbm, ⟨5, _⟩ => ⟨S8x704x1024, .f32⟩
  | .hbm, ⟨6, _⟩ => ⟨S8x704x1024, .bf16⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x5632, .f32⟩
  | .hbm, ⟨39, _⟩ => ⟨S4096x8x704, .f32⟩
  | .hbm, ⟨40, _⟩ => ⟨S8x4096x704, .f32⟩
  | .hbm, ⟨41, _⟩ => ⟨S8x4096x704, .bf16⟩
  | .hbm, ⟨42, _⟩ => ⟨S4096x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩
abbrev S4096x5632 : Shape := ⟨2, ![4096, 5632]⟩
abbrev S4096x2816 : Shape := ⟨2, ![4096, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x5632, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S2816x1024 : Shape := ⟨2, ![2816, 1024]⟩
abbrev S4x704x1024 : Shape := ⟨3, ![4, 704, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S2x4x4096x704 : Shape := ⟨4, ![2, 4, 4096, 704]⟩
abbrev S512x1024 : Shape := ⟨2, ![512, 1024]⟩
abbrev S1x704x1024 : Shape := ⟨3, ![1, 704, 1024]⟩
abbrev S2x1x512x704 : Shape := ⟨4, ![2, 1, 512, 704]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4x704x1024, .f32⟩
  | .hbm, ⟨5, _⟩ => ⟨S4x704x1024, .bf16⟩
  | .hbm, ⟨6, _⟩ => ⟨S4096x5632, .f32⟩
  | .hbm, ⟨7, _⟩ => ⟨S4096x8x704, .f32⟩
  | .hbm, ⟨8, _⟩ => ⟨S8x4096x704, .f32⟩
  | .hbm, ⟨9, _⟩ => ⟨S8x4096x704, .bf16⟩
  | .hbm, ⟨10, _⟩ => ⟨S2x4x4096x704, .bf16⟩
  | .hbm, ⟨11, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x5632, .f32⟩
  | .hbm, ⟨36, _⟩ => ⟨S4096x5632, .bf16⟩
  | .hbm, ⟨37, _⟩ => ⟨S4096x2x4x704, .bf16⟩
  | .hbm, ⟨38, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S5632x1024 : Shape := ⟨2, ![5632, 1024]⟩
abbrev S8x704x1024 : Shape := ⟨3, ![8, 704, 1024]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S5632x1024, .f32⟩
  | .hbm, ⟨3, _⟩ => ⟨S8x704x1024, .f32⟩
  | .hbm, ⟨4, _⟩ => ⟨S8x704x1024, .bf16⟩
  | .hbm, ⟨5, _⟩ => ⟨S4096x1024, .bf16⟩
  | .hbm, ⟨6, _⟩ => ⟨S2x4x4096x704, .bf16⟩
  | .hbm, ⟨7, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x5632, .bf16⟩
  | .hbm, ⟨17, _⟩ => ⟨S4096x2x4x704, .bf16⟩
  | .hbm, ⟨18, _⟩ => ⟨S2x4x4096x704, .bf16⟩
  | .hbm, ⟨19, _⟩ => ⟨S4096x4x704, .bf16⟩
  | .hbm, ⟨20, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4x704x1024 : Shape := ⟨3, ![4, 704, 1024]⟩
abbrev S4096x5632 : Shape := ⟨2, ![4096, 5632]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S1x1024 : Shape := ⟨2, ![1, 1024]⟩
abbrev S4096x1 : Shape := ⟨2, ![4096, 1]⟩
abbrev S4x512x704 : Shape := ⟨3, ![4, 512, 704]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 29
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4x704x1024, .f32⟩
  | .hbm, ⟨6, _⟩ => ⟨S4x704x1024, .bf16⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x4x704, .f32⟩
  | .hbm, ⟨21, _⟩ => ⟨S4x4096x704, .f32⟩
  | .hbm, ⟨22, _⟩ => ⟨S4x4096x704, .bf16⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096x5632 : Shape := ⟨2, ![4096, 5632]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel8.lean ====
abbrev S4096x1024 : Shape := ⟨2, ![4096, 1024]⟩
abbrev S1024x3200 : Shape := ⟨2, ![1024, 3200]⟩
abbrev S4096x3200 : Shape := ⟨2, ![4096, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x1024, .bf16⟩
  | .hbm, ⟨3, _⟩ => ⟨S1024x3200, .bf16⟩
  | .hbm, ⟨4, _⟩ => ⟨S4096x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S4096x3200 : Shape := ⟨2, ![4096, 3200]⟩
abbrev S1024x3200 : Shape := ⟨2, ![1024, 3200]⟩
abbrev S4096x512 : Shape := ⟨2, ![4096, 512]⟩
abbrev S4096x640 : Shape := ⟨2, ![4096, 640]⟩
abbrev S512x640 : Shape := ⟨2, ![512, 640]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S4096x3200, .bf16⟩
  | .hbm, ⟨3, _⟩ => ⟨S1024x3200, .f32⟩
  | .local _ .vmem, ⟨0, _⟩ => ⟨S4096x512, .f32⟩
  | .local _ .vmem, ⟨1, _⟩ => ⟨S4096x512, .f32⟩
  | .local _ .vmem, ⟨2, _⟩ => ⟨S4096x640, .bf16⟩
  | .local _ .vmem, ⟨3, _⟩ => ⟨S4096x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S_, .f32⟩
  | .hbm, ⟨3, _⟩ => ⟨S1024x3200, .f32⟩
  | .hbm, ⟨4, _⟩ => ⟨S4096x3200, .f32⟩
  | .hbm, ⟨5, _⟩ => ⟨S3200x1024, .f32⟩
  | .hbm, ⟨6, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x3200 : Shape := ⟨2, ![4096, 3200]⟩
abbrev S1024x3200 : Shape := ⟨2, ![1024, 3200]⟩
abbrev S4096x1024 : Shape := ⟨2, ![4096, 1024]⟩
abbrev S512x3200 : Shape := ⟨2, ![512, 3200]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x3200, .f32⟩
  | .hbm, ⟨1, _⟩ => ⟨S1024x3200, .f32⟩
  | .hbm, ⟨2, _⟩ => ⟨S4096x1024, .f32⟩
  | .hbm, ⟨3, _⟩ => ⟨S4096x3200, .bf16⟩
  | .hbm, ⟨4, _⟩ => ⟨S1024x3200, .bf16⟩
  | .hbm, ⟨5, _⟩ => ⟨S4096x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x3200 : Shape := ⟨2, ![4096, 3200]⟩
abbrev S1024x3200 : Shape := ⟨2, ![1024, 3200]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S1024x3200, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x3200, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel14.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x3200 : Shape := ⟨2, ![4096, 3200]⟩
abbrev S16x4096 : Shape := ⟨2, ![16, 4096]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x2x4096 : Shape := ⟨3, ![8, 2, 4096]⟩
abbrev S8x4096x2 : Shape := ⟨3, ![8, 4096, 2]⟩
abbrev S8x4096x4 : Shape := ⟨3, ![8, 4096, 4]⟩
abbrev S16x64x4096 : Shape := ⟨3, ![16, 64, 4096]⟩
abbrev S16x8x1x512 : Shape := ⟨4, ![16, 8, 1, 512]⟩
abbrev S4096x128 : Shape := ⟨2, ![4096, 128]⟩
abbrev S512x128 : Shape := ⟨2, ![512, 128]⟩
abbrev S1x4096x4 : Shape := ⟨3, ![1, 4096, 4]⟩
abbrev S1x4096x2 : Shape := ⟨3, ![1, 4096, 2]⟩
abbrev S2x1x1x512 : Shape := ⟨4, ![2, 1, 1, 512]⟩
abbrev S2x4096x256 : Shape := ⟨3, ![2, 4096, 256]⟩
abbrev S2x4096x128 : Shape := ⟨3, ![2, 4096, 128]⟩
abbrev S4096x2 : Shape := ⟨2, ![4096, 2]⟩
abbrev S2x512 : Shape := ⟨2, ![2, 512]⟩
abbrev S1x512x4 : Shape := ⟨3, ![1, 512, 4]⟩
abbrev S512x4 : Shape := ⟨2, ![512, 4]⟩
abbrev S1x512x128 : Shape := ⟨3, ![1, 512, 128]⟩
abbrev S512x1 : Shape := ⟨2, ![512, 1]⟩
abbrev S512 : Shape := ⟨1, ![512]⟩
abbrev S512x256 : Shape := ⟨2, ![512, 256]⟩
abbrev S512x2 : Shape := ⟨2, ![512, 2]⟩
abbrev S1x512x256 : Shape := ⟨3, ![1, 512, 256]⟩
abbrev S512x512 : Shape := ⟨2, ![512, 512]⟩
abbrev S1x512x1 : Shape := ⟨3, ![1, 512, 1]⟩
abbrev S1x512 : Shape := ⟨2, ![1, 512]⟩
abbrev S1x1x1x512 : Shape := ⟨4, ![1, 1, 1, 512]⟩

abbrev nBuf : Space → Nat
  | .hbm => 98
  | .vmem => 29
  | .smem => 0
  | _ => 0

abbrev bufTy : (tb : Table) → Fin (tcTables nBuf tb) → BufTy
  | .hbm, ⟨0, _⟩ => ⟨S4096x3200, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S16x4096x1, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096, .f32⟩
  | .hbm, ⟨38, _⟩ => ⟨S16x4096, .f32⟩
  | .hbm, ⟨39, _⟩ => ⟨S_, .f32⟩
  | .hbm, ⟨40, _⟩ => ⟨S_, .f32⟩
  | .hbm, ⟨41, _⟩ => ⟨S16x4096, .f32⟩
  | .hbm, ⟨42, _⟩ => ⟨S16x4096, .f32⟩
  | .hbm, ⟨43, _⟩ => ⟨S8x2x4096, .f32⟩
  | .hbm, ⟨44, _⟩ => ⟨S8x4096x2, .f32⟩
  | .hbm, ⟨45, _⟩ => ⟨S_, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S8x2x4096, .f32⟩
  | .hbm, ⟨50, _⟩ => ⟨S8x4096x2, .f32⟩
  | .hbm, ⟨51, _⟩ => ⟨S8x4096x4, .f32⟩
  | .hbm, ⟨52, _⟩ => ⟨S4096x16x64, .f32⟩
  | .hbm, ⟨53, _⟩ => ⟨S4096x16x64, .f32⟩
  | .hbm, ⟨54, _⟩ => ⟨S16x4096x4096, .f32⟩
  | .hbm, ⟨55, _⟩ => ⟨S_, .f32⟩
  | .hbm, ⟨56, _⟩ => ⟨S16x4096x4096, .f32⟩
  | .hbm, ⟨57, _⟩ => ⟨S16x4096x4096, .f32⟩
  | .hbm, ⟨58, _⟩ => ⟨S16x4096x1, .f32⟩
  | .hbm, ⟨59, _⟩ => ⟨S16x1x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S4096, .i32⟩
  | .hbm, ⟨65, _⟩ => ⟨S1x4096, .i32⟩
  | .hbm, ⟨66, _⟩ => ⟨S4096x1, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S_, .f32⟩
  | .hbm, ⟨71, _⟩ => ⟨S_, .f32⟩
  | .hbm, ⟨72, _⟩ => ⟨S16x4096x4096, .i1⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S_, .f32⟩
  | .hbm, ⟨78, _⟩ => ⟨S16x4096, .f32⟩
  | .hbm, ⟨79, _⟩ => ⟨S16x4096, .f32⟩
  | .hbm, ⟨80, _⟩ => ⟨S16x4096x1, .f32⟩
  | .hbm, ⟨81, _⟩ => ⟨S16x4096x4096, .f32⟩
  | .hbm, ⟨82, _⟩ => ⟨S16x4096x4096, .f32⟩
  | .hbm, ⟨83, _⟩ => ⟨S16x4096x4096, .f32⟩
  | .hbm, ⟨84, _⟩ => ⟨S_, .f32⟩
  | .hbm, ⟨85, _⟩ => ⟨S16x4096, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S4096x16x64, .f32⟩
  | .hbm, ⟨90, _⟩ => ⟨S16x64x4096, .f32⟩
  | .hbm, ⟨91, _⟩ => ⟨S4096x16x64, .f32⟩
  | .hbm, ⟨92, _⟩ => ⟨S4096x1024, .f32⟩
  | .hbm, ⟨93, _⟩ => ⟨S4096x1024, .bf16⟩
  | .hbm, ⟨94, _⟩ => ⟨S4096x1024, .bf16⟩
  | .hbm, ⟨95, _⟩ => ⟨S4096x1024, .bf16⟩
  | .hbm, ⟨96, _⟩ => ⟨S8x4096x2, .f32⟩
  | .hbm, ⟨97, _⟩ => ⟨S16x8x1x512, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x4096x4, .f32⟩
  | .local _ .vmem, ⟨7, _⟩ => ⟨S1x4096x4, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x4096x2, .f32⟩
  | .local _ .vmem, ⟨19, _⟩ => ⟨S1x4096x2, .f32⟩
  | .local _ .vmem, ⟨20, _⟩ => ⟨S2x1x1x512, .f32⟩
  | .local _ .vmem, ⟨21, _⟩ => ⟨S2x1x1x512, .f32⟩
  | .local _ .vmem, ⟨22, _⟩ => ⟨S2x4096x256, .bf16⟩
  | .local _ .vmem, ⟨23, _⟩ => ⟨S2x4096x128, .bf16⟩
  | .local _ .vmem, ⟨24, _⟩ => ⟨S4096x2, .f32⟩
  | .local _ .vmem, ⟨25, _⟩ => ⟨S4096x128, .f32⟩
  | .local _ .vmem, ⟨26, _⟩ => ⟨S512x128, .f32⟩
  | .local _ .vmem, ⟨27, _⟩ => ⟨S512x128, .f32⟩
  | .local _ .vmem, ⟨28, _⟩ => ⟨S2x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73_0 : Ref sig .tc := ⟨.hbm, 93, rfl⟩
abbrev main_v73_1 : Ref sig .tc := ⟨.hbm, 94, rfl⟩
abbrev main_v73_2 : Ref sig .tc := ⟨.hbm, 95, rfl⟩
abbrev main_v73_3 : Ref sig .tc := ⟨.hbm, 96, rfl⟩
abbrev main_v73_4 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_131 : BitVec 32 := 0#32
  let c8_i32_132 : BitVec 32 := 8#32
  let v271 : BitVec 32 := Scalar.addi c0_i32_131 c8_i32_132
  let c1_i32_133 : BitVec 32 := 1#32
  ⟨c0_i32_131, v271, c1_i32_133⟩
def k0_mult1 (k0_t1 : Fin k0_t1_loop.trips) : BitVec 32 :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  v272
def k0_off1 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v277 : Index := Scalar.indexCast v273
  let c0_137 : Index := 0#32
  ![v277.toNat, 0]
def k0_off2 (k0_t1 : Fin k0_t1_loop.trips) : Fin 3 → Nat :=
  let c0_141 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v287 : Index := Scalar.indexCast v273
  let c0_142 : Index := 0#32
  ![0, v287.toNat, 0]
def k0_off3 (k0_t1 : Fin k0_t1_loop.trips) : Fin 3 → Nat :=
  let c0_145 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v294 : Index := Scalar.indexCast v273
  let c0_146 : Index := 0#32
  ![0, v294.toNat, 0]
def k0_off4 (k0_t1 : Fin k0_t1_loop.trips) : Fin 3 → Nat :=
  let c0_151 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v329 : Index := Scalar.indexCast v273
  let c128 : Index := 128#32
  ![0, v329.toNat, 128]
def k0_off5 (k0_t1 : Fin k0_t1_loop.trips) : Fin 3 → Nat :=
  let c0_153 : Index := 0#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v336 : Index := Scalar.indexCast v273
  let c0_154 : Index := 0#32
  ![0, v336.toNat, 0]
def k0_off6 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v344 : Index := Scalar.indexCast v273
  let c0_157 : Index := 0#32
  ![v344.toNat, 0]
def k0_off7 (k0_t1 : Fin k0_t1_loop.trips) : Fin 3 → Nat :=
  let c1_159 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v351 : Index := Scalar.indexCast v273
  let c0_160 : Index := 0#32
  ![1, v351.toNat, 0]
def k0_off8 (k0_t1 : Fin k0_t1_loop.trips) : Fin 3 → Nat :=
  let c1_167 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v386 : Index := Scalar.indexCast v273
  let c128_168 : Index := 128#32
  ![1, v386.toNat, 128]
def k0_off9 (k0_t1 : Fin k0_t1_loop.trips) : Fin 3 → Nat :=
  let c1_170 : Index := 1#32
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v393 : Index := Scalar.indexCast v273
  let c0_171 : Index := 0#32
  ![1, v393.toNat, 0]
def k0_off10 (k0_t1 : Fin k0_t1_loop.trips) : Fin 2 → Nat :=
  let c0_i32_131 : BitVec 32 := 0#32
  let c1_i32_133 : BitVec 32 := 1#32
  let arg20 : BitVec 32 := Scf.iv c0_i32_131 c1_i32_133 k0_t1
  let c512_i32_135 : BitVec 32 := 512#32
  let v272 : BitVec 32 := Scalar.muli arg20 c512_i32_135
  let v273 : BitVec 32 := v272
  let v401 : Index := Scalar.indexCast v273
  let c1_174 : Index := 1#32
  ![v401.toNat, 1]
def k0_mult2 (i : grid0.Coords) : BitVec 32 :=
  let arg1 : BitVec 32 := BitVec.ofNat 32 (i 1).val
  let c512_i32 : BitVec 32 := 512#32
  let v26 : BitVec 32 := Scalar.muli arg1 c512_i32
  v26
def k0_off11 (i : grid0.Coords) : Fin 3 → Nat :=
  let c0_12 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  let c0_13 : Index := 0#32
  ![0, v28.toNat, 0]
def k0_mult3 (i : grid0.Coords) : BitVec 32 :=
  let arg1 : BitVec 32 := BitVec.ofNat 32 (i 1).val
  let c512_i32_31 : BitVec 32 := 512#32
  let v109 : BitVec 32 := Scalar.muli arg1 c512_i32_31
  v109
def k0_off12 (i : grid0.Coords) : Fin 2 → Nat :=
  let arg1 : BitVec 32 := BitVec.ofNat 32 (i 1).val
  let c512_i32_31 : BitVec 32 := 512#32
  let v109 : BitVec 32 := Scalar.muli arg1 c512_i32_31
  let v110 : BitVec 32 := v109
  let v114 : Index := Scalar.indexCast v110
  let c0_34 : Index := 0#32
  ![v114.toNat, 0]
def k0_off13 (i : grid0.Coords) : Fin 2 → Nat :=
  let arg1 : BitVec 32 := BitVec.ofNat 32 (i 1).val
  let c512_i32_31 : BitVec 32 := 512#32
  let v109 : BitVec 32 := Scalar.muli arg1 c512_i32_31
  let v110 : BitVec 32 := v109
  let v116 : Index := Scalar.indexCast v110
  let c0_35 : Index := 0#32
  ![v116.toNat, 0]
def k0_off14 (i : grid0.Coords) : Fin 3 → Nat :=
  let c0_36 : Index := 0#32
  let arg1 : BitVec 32 := BitVec.ofNat 32 (i 1).val
  let c512_i32_31 : BitVec 32 := 512#32
  let v109 : BitVec 32 := Scalar.muli arg1 c512_i32_31
  let v110 : BitVec 32 := v109
  let v118 : Index := Scalar.indexCast v110
  let c0_37 : Index := 0#32
  ![0, v118.toNat, 0]
def k0_off15 (i : grid0.Coords) : Fin 3 → Nat :=
  let c0_38 : Index := 0#32
  let arg1 : BitVec 32 := BitVec.ofNat 32 (i 1).val
  let c512_i32_31 : BitVec 32 := 512#32
  let v109 : BitVec 32 := Scalar.muli arg1 c512_i32_31
  let v110 : BitVec 32 := v109
  let v121 : Index := Scalar.indexCast v110
  let c0_39 : Index := 0#32
  ![0, v121.toNat, 0]
def k0_off16 (i : grid0.Coords) : Fin 3 → Nat :=
  let c0_50 : Index := 0#32
  let arg1 : BitVec 32 := BitVec.ofNat 32 (i 1).val
  let c512_i32_31 : BitVec 32 := 512#32
  let v109 : BitVec 32 := Scalar.muli arg1 c512_i32_31
  let v110 : BitVec 32 := v109
  let v148 : Index := Scalar.indexCast v110
  let c0_51 : Index := 0#32
  ![0, v148.toNat, 0]
def k0_off17 (i : grid0.Coords) : Fin 3 → Nat :=
  let c0_57 : Index := 0#32
  let arg1 : BitVec 32 := BitVec.ofNat 32 (i 1).val
  let c512_i32_31 : BitVec 32 := 512#32
  let v109 : BitVec 32 := Scalar.muli arg1 c512_i32_31
  let v110 : BitVec 32 := v109
  let v160 : Index := Scalar.indexCast v110
  let c0_58 : Index := 0#32
  ![0, v160.toNat, 0]
def k0_off18 (i : grid0.Coords) : Fin 3 → Nat :=
  let c1 : Index := 1#32
  let arg1 : BitVec 32 := BitVec.ofNat 32 (i 1).val
  let c512_i32_31 : BitVec 32 := 512#32
  let v109 : BitVec 32 := Scalar.muli arg1 c512_i32_31
  let v110 : BitVec 32 := v109
  let v177 : Index := Scalar.indexCast v110
  let c0_67 : Index := 0#32
  ![1, v177.toNat, 0]
def k0_off19 (i : grid0.Coords) : Fin 3 → Nat :=
  let c1_68 : Index := 1#32
  let arg1 : BitVec 32 := BitVec.ofNat 32 (i 1).val
  let c512_i32_31 : BitVec 32 := 512#32
  let v109 : BitVec 32 := Scalar.muli arg1 c512_i32_31
  let v110 : BitVec 32 := v109
  let v180 : Index := Scalar.indexCast v110
  let c0_69 : Index := 0#32
  ![1, v180.toNat, 0]
def k0_off20 (i : grid0.Coords) : Fin 3 → Nat :=
  let c1_80 : Index := 1#32
  let arg1 : BitVec 32 := BitVec.ofNat 32 (i 1).val
  let c512_i32_31 : BitVec 32 := 512#32
  let v109 : BitVec 32 := Scalar.muli arg1 c512_i32_31
  let v110 : BitVec 32 := v109
  let v207 : Index := Scalar.indexCast v110
  let c0_81 : Index := 0#32
  ![1, v207.toNat, 0]
def k0_off21 (i : grid0.Coords) : Fin 3 → Nat :=
  let c0_87 : Index := 0#32
  let arg1 : BitVec 32 := BitVec.ofNat 32 (i 1).val
  let c512_i32_31 : BitVec 32 := 512#32
  let v109 : BitVec 32 := Scalar.muli arg1 c512_i32_31
  let v110 : BitVec 32 := v109
  let v219 : Index := Scalar.indexCast v110
  let c1_88 : Index := 1#32
  ![0, v219.toNat, 1]
@[reducible] def k0_t2_loop (i : grid0.Coords) : Scf.Loop 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_100 : BitVec 32 := 1#32
  ⟨v240, v245, c1_i32_100⟩
def k0_mult4 (i : grid0.Coords) (k0_t2 : Fin (k0_t2_loop i).trips) : BitVec 32 :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  v265
def k0_off22 (i : grid0.Coords) (k0_t2 : Fin (k0_t2_loop i).trips) : Fin 3 → Nat :=
  let c0_125 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v267 : Index := Scalar.indexCast v266
  let c0_126 : Index := 0#32
  ![0, v267.toNat, 0]
def k0_off23 (i : grid0.Coords) (k0_t2 : Fin (k0_t2_loop i).trips) : Fin 2 → Nat :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v270 : Index := Scalar.indexCast v266
  let c0_127 : Index := 0#32
  ![v270.toNat, 0]
def k0_off24 (i : grid0.Coords) (k0_t2 : Fin (k0_t2_loop i).trips) : Fin 2 → Nat :=
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v272 : Index := Scalar.indexCast v266
  let c0_128 : Index := 0#32
  ![v272.toNat, 0]
def k0_off25 (i : grid0.Coords) (k0_t2 : Fin (k0_t2_loop i).trips) : Fin 3 → Nat :=
  let c0_129 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v274 : Index := Scalar.indexCast v266
  let c0_130 : Index := 0#32
  ![0, v274.toNat, 0]
def k0_off26 (i : grid0.Coords) (k0_t2 : Fin (k0_t2_loop i).trips) : Fin 3 → Nat :=
  let c0_131 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v277 : Index := Scalar.indexCast v266
  let c0_132 : Index := 0#32
  ![0, v277.toNat, 0]
def k0_off27 (i : grid0.Coords) (k0_t2 : Fin (k0_t2_loop i).trips) : Fin 3 → Nat :=
  let c0_142 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v299 : Index := Scalar.indexCast v266
  let c0_143 : Index := 0#32
  ![0, v299.toNat, 0]
def k0_off28 (i : grid0.Coords) (k0_t2 : Fin (k0_t2_loop i).trips) : Fin 3 → Nat :=
  let c0_149 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v311 : Index := Scalar.indexCast v266
  let c0_150 : Index := 0#32
  ![0, v311.toNat, 0]
def k0_off29 (i : grid0.Coords) (k0_t2 : Fin (k0_t2_loop i).trips) : Fin 3 → Nat :=
  let c1_159 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v328 : Index := Scalar.indexCast v266
  let c0_160 : Index := 0#32
  ![1, v328.toNat, 0]
def k0_off30 (i : grid0.Coords) (k0_t2 : Fin (k0_t2_loop i).trips) : Fin 3 → Nat :=
  let c1_161 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v331 : Index := Scalar.indexCast v266
  let c0_162 : Index := 0#32
  ![1, v331.toNat, 0]
def k0_off31 (i : grid0.Coords) (k0_t2 : Fin (k0_t2_loop i).trips) : Fin 3 → Nat :=
  let c1_172 : Index := 1#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v353 : Index := Scalar.indexCast v266
  let c0_173 : Index := 0#32
  ![1, v353.toNat, 0]
def k0_off32 (i : grid0.Coords) (k0_t2 : Fin (k0_t2_loop i).trips) : Fin 3 → Nat :=
  let c0_179 : Index := 0#32
  let arg1 : BitVec 32 := BitVec.ofNat 32 (i 1).val
  let c1_i32 : BitVec 32 := 1#32
  let v240 : BitVec 32 := Scalar.addi arg1 c1_i32
  let c1_i32_100 : BitVec 32 := 1#32
  let arg20 : BitVec 32 := Scf.iv v240 c1_i32_100 k0_t2
  let c512_i32_124 : BitVec 32 := 512#32
  let v265 : BitVec 32 := Scalar.muli arg20 c512_i32_124
  let v266 : BitVec 32 := v265
  let v365 : Index := Scalar.indexCast v266
  let c1_180 : Index := 1#32
  ![0, v365.toNat, 1]
@[reducible] def k0_t3_loop (i : grid0.Coords) : Scf.Loop 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let v242 : BitVec 32 := Scalar.addi v240 v241
  let c1_i32_101 : BitVec 32 := 1#32
  ⟨v245, v242, c1_i32_101⟩
def k0_mult5 (i : grid0.Coords) (k0_t3 : Fin (k0_t3_loop i).trips) : BitVec 32 :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  v265
def k0_off33 (i : grid0.Coords) (k0_t3 : Fin (k0_t3_loop i).trips) : Fin 3 → Nat :=
  let c0_125 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v267 : Index := Scalar.indexCast v266
  let c0_126 : Index := 0#32
  ![0, v267.toNat, 0]
def k0_off34 (i : grid0.Coords) (k0_t3 : Fin (k0_t3_loop i).trips) : Fin 2 → Nat :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v270 : Index := Scalar.indexCast v266
  let c0_127 : Index := 0#32
  ![v270.toNat, 0]
def k0_off35 (i : grid0.Coords) (k0_t3 : Fin (k0_t3_loop i).trips) : Fin 2 → Nat :=
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v272 : Index := Scalar.indexCast v266
  let c0_128 : Index := 0#32
  ![v272.toNat, 0]
def k0_off36 (i : grid0.Coords) (k0_t3 : Fin (k0_t3_loop i).trips) : Fin 3 → Nat :=
  let c0_129 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v274 : Index := Scalar.indexCast v266
  let c0_130 : Index := 0#32
  ![0, v274.toNat, 0]
def k0_off37 (i : grid0.Coords) (k0_t3 : Fin (k0_t3_loop i).trips) : Fin 3 → Nat :=
  let c0_131 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v277 : Index := Scalar.indexCast v266
  let c0_132 : Index := 0#32
  ![0, v277.toNat, 0]
def k0_off38 (i : grid0.Coords) (k0_t3 : Fin (k0_t3_loop i).trips) : Fin 3 → Nat :=
  let c0_142 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v299 : Index := Scalar.indexCast v266
  let c0_143 : Index := 0#32
  ![0, v299.toNat, 0]
def k0_off39 (i : grid0.Coords) (k0_t3 : Fin (k0_t3_loop i).trips) : Fin 3 → Nat :=
  let c0_149 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v311 : Index := Scalar.indexCast v266
  let c0_150 : Index := 0#32
  ![0, v311.toNat, 0]
def k0_off40 (i : grid0.Coords) (k0_t3 : Fin (k0_t3_loop i).trips) : Fin 3 → Nat :=
  let c1_159 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v328 : Index := Scalar.indexCast v266
  let c0_160 : Index := 0#32
  ![1, v328.toNat, 0]
def k0_off41 (i : grid0.Coords) (k0_t3 : Fin (k0_t3_loop i).trips) : Fin 3 → Nat :=
  let c1_161 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v331 : Index := Scalar.indexCast v266
  let c0_162 : Index := 0#32
  ![1, v331.toNat, 0]
def k0_off42 (i : grid0.Coords) (k0_t3 : Fin (k0_t3_loop i).trips) : Fin 3 → Nat :=
  let c1_172 : Index := 1#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v353 : Index := Scalar.indexCast v266
  let c0_173 : Index := 0#32
  ![1, v353.toNat, 0]
def k0_off43 (i : grid0.Coords) (k0_t3 : Fin (k0_t3_loop i).trips) : Fin 3 → Nat :=
  let c0_179 : Index := 0#32
  let arg1 : BitVec 32 := BitVec.ofNat 32 (i 1).val
  let c1_i32 : BitVec 32 := 1#32
  let v240 : BitVec 32 := Scalar.addi arg1 c1_i32
  let c8_i32 : BitVec 32 := 8#32
  let v241 : BitVec 32 := Scalar.subi c8_i32 v240
  let c1_i32_99 : BitVec 32 := 1#32
  let v243 : BitVec 32 := Scalar.divsi v241 c1_i32_99
  let v244 : BitVec 32 := Scalar.muli v243 c1_i32_99
  let v245 : BitVec 32 := Scalar.addi v240 v244
  let c1_i32_101 : BitVec 32 := 1#32
  let arg20 : BitVec 32 := Scf.iv v245 c1_i32_101 k0_t3
  let c512_i32_124 : BitVec 32 := 512#32
  let v265 : BitVec 32 := Scalar.muli arg20 c512_i32_124
  let v266 : BitVec 32 := v265
  let v365 : Index := Scalar.indexCast v266
  let c1_180 : Index := 1#32
  ![0, v365.toNat, 1]
def k0_cond2 (i : grid0.Coords) : BitVec 1 :=
  let arg1 : BitVec 32 := BitVec.ofNat 32 (i 1).val
  let c7_i32 : BitVec 32 := 7#32
  let v262 : BitVec 1 := Scalar.cmpi .eq arg1 c7_i32
  let v263 : BitVec 32 := Scalar.extui v262
  let c0_i32_123 : BitVec 32 := 0#32
  let v264 : BitVec 1 := Scalar.cmpi .ne v263 c0_i32_123
  v264

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel17Ideal.lean ====
variable {F : FTy → Type} [FloatOps F] [Named F]
def κ : String → Option EReal := fun
  | "ln2" => some ((Real.log 2 : ℝ) : EReal)
  | "neg_inf" => some ⊥
  | "scale_log2e" => some (((1 / 8) * (Real.log 2)⁻¹ : ℝ) : EReal)
  | _ => none
-- ==== Reference17Ideal.lean ====
abbrev S4096x3200 : Shape := ⟨2, ![4096, 3200]⟩
abbrev S16x4096 : Shape := ⟨2, ![16, 4096]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S4096x16x64, .f32⟩
  | .hbm, ⟨44, _⟩ => ⟨S16x64x4096, .f32⟩
  | .hbm, ⟨45, _⟩ => ⟨S4096x16x64, .f32⟩
  | .hbm, ⟨46, _⟩ => ⟨S4096x1024, .f32⟩
  | .hbm, ⟨47, _⟩ => ⟨S4096x16x64, .f32⟩
  | .hbm, ⟨48, _⟩ => ⟨S16x64x4096, .f32⟩
  | .hbm, ⟨49, _⟩ => ⟨S16x64x4096, .f32⟩
  | .hbm, ⟨50, _⟩ => ⟨S4096x16x64, .f32⟩
  | .hbm, ⟨51, _⟩ => ⟨S4096x1024, .f32⟩
  | .hbm, ⟨52, _⟩ => ⟨S4096x1024, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.KFrame.lean ====
/-
  The backward call of the forgetting attention, `KernelIdeal`: its frame. The call runs one pipeline over the grid of 8 head pairs by
  8 key blocks. The body is run once, at a symbolic grid point and from any contents of the eleven staging buffers and the seven scratch
  buffers, to its return; nothing is asked of what it leaves. Hence every run of the program ends, with its argument arrays as they were.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

/-- A memref owned whole at some contents. -/
abbrev some' (c : Dev nD) {S : Shape} {e : EltTy} (M : Memref sig .tc .vmem S e) : sProp 𝕄 :=
  iprop(∃ d, owns (c : Thread nD τ) M fullShare d)

set_option maxHeartbeats 0 in
/-- The body's run at any grid point: from any contents of its operands to its return. -/
theorem kernelRun (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole) (K : PUnit → sProp 𝕄) :
    iprop((some' (F := F) c arg2 ∗ some' (F := F) c arg3 ∗ some' (F := F) c arg4 ∗ some' (F := F) c arg5 ∗ some' (F := F) c arg6 ∗ some' (F := F) c arg7
          ∗ some' (F := F) c arg8 ∗ some' (F := F) c arg9 ∗ some' (F := F) c arg10 ∗ some' (F := F) c arg11 ∗ some' (F := F) c arg12
          ∗ some' (F := F) c arg13 ∗ some' (F := F) c arg14 ∗ some' (F := F) c arg15 ∗ some' (F := F) c arg16 ∗ some' (F := F) c arg17 ∗ some' (F := F) c arg18 ∗ some' (F := F) c arg19)
        ∗ (iprop(some' (F := F) c arg2 ∗ some' (F := F) c arg3 ∗ some' (F := F) c arg4 ∗ some' (F := F) c arg5 ∗ some' (F := F) c arg6 ∗ some' (F := F) c arg7
          ∗ some' (F := F) c arg8 ∗ some' (F := F) c arg9 ∗ some' (F := F) c arg10 ∗ some' (F := F) c arg11 ∗ some' (F := F) c arg12
          ∗ some' (F := F) c arg13 ∗ some' (F := F) c arg14 ∗ some' (F := F) c arg15 ∗ some' (F := F) c arg16 ∗ some' (F := F) c arg17 ∗ some' (F := F) c arg18 ∗ some' (F := F) c arg19)
          -∗ K ⟨⟩))
      ⊢ wp frame (wpE (defs₀ (F := F)) Variants.none c none) Set.univ
          (cc0_fox_attn_bwd i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19) K := by
  unfold some' owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, ⟨%d13, %f13, -, H13⟩,
    ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  by_cases h1 : k0_cond1 i = 1#1 <;> by_cases h2 : k0_cond2 i = 1#1
  all_goals
    sl_unfold [cc0_fox_attn_bwd]
    sl_exec
    sl_step
    iapply Hk
    isplitl [H2]; iexists _, _; isplitr; swap; iexact H2; ipureintro; rfl
    isplitl [H3]; iexists _, _; isplitr; swap; iexact H3; ipureintro; rfl
    isplitl [H4]; iexists _, _; isplitr; swap; iexact H4; ipureintro; rfl
    isplitl [H5]; iexists _, _; isplitr; swap; iexact H5; ipureintro; rfl
    isplitl [H6]; iexists _, _; isplitr; swap; iexact H6; ipureintro; rfl
    isplitl [H7]; iexists _, _; isplitr; swap; iexact H7; ipureintro; rfl
    isplitl [H8]; iexists _, _; isplitr; swap; iexact H8; ipureintro; rfl
    isplitl [H9]; iexists _, _; isplitr; swap; iexact H9; ipureintro; rfl
    isplitl [H10]; iexists _, _; isplitr; swap; iexact H10; ipureintro; rfl
    isplitl [H11]; iexists _, _; isplitr; swap; iexact H11; ipureintro; rfl
    isplitl [H12]; iexists _, _; isplitr; swap; iexact H12; ipureintro; rfl
    isplitl [H13]; iexists _, _; isplitr; swap; iexact H13; ipureintro; rfl
    isplitl [H14]; iexists _, _; isplitr; swap; iexact H14; ipureintro; rfl
    isplitl [H15]; iexists _, _; isplitr; swap; iexact H15; ipureintro; rfl
    isplitl [H16]; iexists _, _; isplitr; swap; iexact H16; ipureintro; rfl
    isplitl [H17]; iexists _, _; isplitr; swap; iexact H17; ipureintro; rfl
    isplitl [H18]; iexists _, _; isplitr; swap; iexact H18; ipureintro; rfl
    iexists _, _; isplitr; swap; iexact H19; ipureintro; rfl

end Cert.KernelIdeal.Hand

end
-- ==== Proof.KRun.lean ====
/-
  The backward call of the forgetting attention, `KernelIdeal`: every run ends, with the argument arrays as they were and every
  semaphore counter at zero. The proof data says nothing of what the body leaves in a staging buffer; the scratch buffers are held at
  some contents between two grid points.
-/
module

public import proofs.«01_k».proof.Proof.KFrame
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them, nothing asked of the staging buffers, the scratch buffers at
    some contents between the points, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The invariant between two points, buffer by buffer: the seven scratch buffers at some contents, the generator register at some
    state. -/
theorem ΦA0_eq (c : Dev nD) :
    (Pipeline.ΦA spec0 c : sProp 𝕄)
      = iprop((some' (F := F) c (Memref.whole cc0_scratch0) ∗ some' (F := F) c (Memref.whole cc0_scratch1) ∗ some' (F := F) c (Memref.whole cc0_scratch2)
          ∗ some' (F := F) c (Memref.whole cc0_scratch3) ∗ some' (F := F) c (Memref.whole cc0_scratch4) ∗ some' (F := F) c (Memref.whole cc0_scratch5)
          ∗ some' (F := F) c (Memref.whole cc0_scratch6)) ∗ ∃ r, prngReg c r) := by
  unfold Pipeline.ΦA
  rw [scopedRest0_eq]; simp only [some', owns_whole]

/-- The body table's row at the point is the body on the point's staging buffers. -/
theorem defs₀_row (t : Fin cfg0.N) : defs₀ (F := F) .tc cfg0.body (cfg0.bodyArgs t (cfg0.slots t)) = bodyAt0 t := by
  unfold defs₀; rw [Defs.onTc_tc]

/-- The body at every grid point keeps the invariant and hands every staging buffer back. -/
theorem body_obligation (c : Dev nD) : (rdat (F := F) m c).BodyObligation (defs₀ (F := F)) Variants.none () Set.univ := fun t Y _ => by
  rw [bigSep_W0, bigSep_W0, defs₀_row]
  rw [show (rdat m c).Φ t.succ = Pipeline.ΦA spec0 c from rfl, show (rdat m c).Φ t.castSucc = Pipeline.ΦA spec0 c from rfl, ΦA0_eq,
    show (rdat m c).owesAt () t.succ = (rdat m c).owesAt () t.castSucc from rfl]
  iintro ⟨⟨⟨S0, S1, S2, S3, S4, S5, S6⟩, Hg⟩, HO, H0, H1, H2, H3, H4, H5, H6, H7, H8, H9, H10⟩
  iapply kernelRun
  isplitl [H0 H1 H2 H3 H4 H5 H6 H7 H8 H9 H10 S0 S1 S2 S3 S4 S5 S6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [H0]; · iexists d0; isplitr; · ipureintro; trivial
                  iexact H0
  isplitl [H1]; · iexists d1; isplitr; · ipureintro; trivial
                  iexact H1
  isplitl [H2]; · iexists d2; isplitr; · ipureintro; trivial
                  iexact H2
  isplitl [H3]; · iexists d3; isplitr; · ipureintro; trivial
                  iexact H3
  isplitl [H4]; · iexists d4; isplitr; · ipureintro; trivial
                  iexact H4
  isplitl [H5]; · iexists d5; isplitr; · ipureintro; trivial
                  iexact H5
  isplitl [H6]; · iexists d6; isplitr; · ipureintro; trivial
                  iexact H6
  isplitl [H7]; · iexists d7; isplitr; · ipureintro; trivial
                  iexact H7
  isplitl [H8]; · iexists d8; isplitr; · ipureintro; trivial
                  iexact H8
  isplitl [H9]; · iexists d9; isplitr; · ipureintro; trivial
                  iexact H9
  iexists d10; isplitr; · ipureintro; trivial
  iexact H10

set_option backward.isDefEq.respectTransparency.types false in
/-- Every run of `main` ends with the arrays the call reads as it found them, and every semaphore counter at zero. -/
theorem run_main :
    θ_run defs (onTc (τ := τ) (main (F := F))) (s₀ m ρ)
      (fun r => RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m) (hmain := hmain m Variants.none)
    (hA := fun _ _ => rfl) (hin := fun _ => .rfl) (hout := fun _ => .rfl)

set_option maxHeartbeats 4000000 in
/-- The frame: every run ends, the argument arrays are as they were, every semaphore counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1.arr_in c 0 rfl).trans (V_main_arg0 m c),
     ((h.1 c).2 main_arg1 (Pipeline.mem_restRefs_of main_arg1 (by decide) (by decide))).trans (V_main_arg1 m c),
     (h.1.arr_in c 5 rfl).trans (V_main_arg2 m c)⟩, h.2⟩) (run_main m ρ)

end Cert.KernelIdeal.Hand

end
-- ==== Proof.Hidden.lean ====
/-
  The gated hidden layer of `x ↦ ½·(silu(gate)·up)·W_out`, `(gate, up) = x·W_in`, and the gradient with respect to `x·W_in`, as terms of
  host operations over the arguments: what both the host lines of the kernels and the references compute before their last product.
-/
module

public import proofs.«01_k».proof.Proof.Gen.Reference3Ideal

@[expose] public section

set_option maxRecDepth 16384

noncomputable section

namespace Cert.Hidden

open Cert.Reference3Ideal Cert.Reference3Ideal.Gen Idealize.ShloMosaic

variable {F : FTy → Type} [FloatOps F]
variable (x : FVec F S4096x1024 .f32) (w : FVec F S1024x5632 .f32) (v : FVec F S2816x1024 .f32) (dz : FVec F S4096x1024 .f32)

/-- `x·W_in`. -/
def pre : FVec F S4096x5632 .f32 := Host.dotGeneral dot_S4096x1024_S1024x5632_S4096x5632_1_0_0_1_n_n none x w

/-- The gate half. -/
def gate : FVec F S4096x2816 .f32 := extractStridedSlice S4096x2816 ![0, 0] (pre x w) slices_S4096x5632_S4096x2816_0_0

/-- The other half. -/
def up : FVec F S4096x2816 .f32 := extractStridedSlice S4096x2816 ![0, 2816] (pre x w) slices_S4096x5632_S4096x2816_0_2816

/-- One everywhere. -/
def one : FVec F S4096x2816 .f32 := broadcastInDim S4096x2816 ![] bcast_S_S4096x2816 (constant S_ .f32 0x3F800000#32)

/-- The logistic function of the gate. -/
def sig : FVec F S4096x2816 .f32 := Host.divf one (addf one (Host.exp (Host.negf (gate x w))))

/-- `silu(gate)·up`. -/
def act : FVec F S4096x2816 .f32 := mulf (mulf (gate x w) (sig x w)) (up x w)

/-- `(½·dz)·W_outᵀ`, the gradient with respect to the activation. -/
def dact : FVec F S4096x2816 .f32 :=
  Host.dotGeneral dot_S4096x1024_S2816x1024_S4096x2816_1_1_0_0_n_n none
    (mulf (broadcastInDim S4096x1024 ![] bcast_S_S4096x1024 (constant S_ .f32 0x3F000000#32)) dz) v

/-- The gradient with respect to the gate. -/
def dgate : FVec F S4096x2816 .f32 :=
  addf (mulf (mulf (dact v dz) (up x w)) (sig x w))
    (mulf (mulf (gate x w) (mulf (dact v dz) (up x w))) (mulf (sig x w) (subf one (sig x w))))

/-- The gradient with respect to the other half. -/
def dup : FVec F S4096x2816 .f32 := mulf (mulf (gate x w) (sig x w)) (dact v dz)

/-- The gradient with respect to `x·W_in`. -/
def dpre : FVec F S4096x5632 .f32 :=
  concatenate S4096x5632 1 [⟨S4096x2816, dgate x w v dz⟩, ⟨S4096x2816, dup x w v dz⟩] concatenates_S4096x2816_S4096x2816_S4096x5632_d1

end Cert.Hidden

end
-- ==== Proof.Dwin.lean ====
/-
  `Kernel3Ideal`, the product that gives the gradient of the feed-forward block with respect to `W_in`: the array it returns is the
  reference's, at the ideal instance.
-/
module

public import proofs.«01_k».proof.Proof.Hidden
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

variable (m : (ℓ : Loc nD τ sig) → Buf (Elt Ideal) ℓ)

/-- The reference's result over the gradient `d` of the hidden layer. -/
def REF (x : FVec Ideal Cert.Reference3Ideal.S4096x1024 .f32) (d : FVec Ideal Cert.Reference3Ideal.S4096x5632 .f32) :
    FVec Ideal Cert.Reference3Ideal.S8x704x1024 .bf16 :=
  shapeCast _ (truncf .bf16 (transpose Cert.Reference3Ideal.S5632x1024 [1, 0] (transpose Cert.Reference3Ideal.S1024x5632 [1, 0]
    (Host.dotGeneral Cert.Reference3Ideal.dot_S4096x5632_S4096x1024_S5632x1024_0_0_1_1_n_n none d x)
    Cert.Reference3Ideal.Gen.transposes_S5632x1024_S1024x5632_1_0) Cert.Reference3Ideal.Gen.transposes_S1024x5632_S5632x1024_1_0)
    Cert.Reference3Ideal.Gen.bitsLt_bf16_f32) Cert.Reference3Ideal.Gen.shapeCasts_S5632x1024_S8x704x1024

/-- The first operand of the product as the region finds it: the gradient of the hidden layer, cut into eight blocks of columns. -/
theorem entry_d (c : Dev nD) : V m c main_v18
    = truncf .bf16 (transpose S8x4096x704 [1, 0, 2] (shapeCast S4096x8x704
        (Cert.Hidden.dpre (F := Ideal) (m ((c : Thread nD τ).loc main_arg0)) (m ((c : Thread nD τ).loc main_arg1)) (m ((c : Thread nD τ).loc main_arg2))
          (m ((c : Thread nD τ).loc main_arg3))) shapeCasts_S4096x5632_S4096x8x704) transposes_S4096x8x704_S8x4096x704_1_0_2) bitsLt_bf16_f32 := by
  entry_read
  rfl

/-- The second operand as the region finds it: `x`. -/
theorem entry_x (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Where each window's block lies at a point. -/
theorem idx_val : ∀ t : Fin cfg0.N, win0_0.index t = ![t.val, 0, 0] ∧ win0_1.index t = ![0, 0] ∧ win0_2.index t = ![t.val, 0, 0] :=
  (by decide +kernel : ∀ t : Fin grid0.N, _)

/-- The zero payload. -/
theorem hzero (j : S704x1024.Idx) : k0_pay1 (F := Ideal) j = 0 := by pointwise [k0_pay1]

/-- The array the region leaves is the reference's product. -/
theorem final (c : Dev nD) (d : FVec Ideal S4096x5632 .f32)
    (hd : V m c main_v18 = truncf .bf16 (transpose S8x4096x704 [1, 0, 2] (shapeCast S4096x8x704 d shapeCasts_S4096x5632_S4096x8x704)
      transposes_S4096x8x704_S8x4096x704_1_0_2) bitsLt_bf16_f32) :
    (dats m 0 c).arrAt 2 (cfgs 0).N = REF (m ((c : Thread nD τ).loc main_arg0)) d := by
  refine (dats m 0 c).arrAt_eq_of_covers 2 _ (by decide +kernel) fun t hf y => ?_
  blk_simp
  rw [after0_2]
  unfold Gen.outsAt0
  frame_out
  obtain ⟨e0, e1, e2⟩ := idx_val t
  pointwise [k0_pay3, k0_pay2, k0_pay1, REF]
  refine Fin.sum_fin_congr fun x => Ideal.mul_congr ?_ ?_
  · show (V m c main_v18) _ = _
    rw [hd]
    pointwise
    blk_point [idx_val t]
  · show (V m c main_v0) _ = _
    rw [entry_x]
    pointwise
    blk_point [idx_val t]

end Cert.Kernel3Ideal.Hand

end
-- ==== Proof.Scale.lean ====
/-
  A nonnegative real factor goes into a finite sum of extended reals, and the two constants of the feed-forward block.
-/
module

public import Idealize.ShloMosaic.Lib.Pipeline.ValueKit
public import Idealize.ShloMosaic.Lib.Pointwise

@[expose] public section

noncomputable section

open Idealize.ShloMosaic

namespace Cert.Scale

/-- The bits of one half are one half. -/
theorem half_eq : Ideal.ofBits .f32 0x3F000000#32 = (((1 : ℝ) / 2 : ℝ) : EReal) := by
  simp [Ideal.ofBits, Ideal.ieee, -EReal.coe_mul]; norm_num

/-- The bits of one are one. -/
theorem one_eq : Ideal.ofBits .f32 0x3F800000#32 = ((1 : ℝ) : EReal) := by
  simp [Ideal.ofBits, Ideal.ieee, -EReal.coe_mul]; norm_num

/-- A nonnegative real factor goes into a sum. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- A sum of products taken in runs and scaled at the end is the sum of the scaled products. -/
theorem runs_mul_half {S n L : ℕ} {A : Fin S → Fin n → EReal} {f g : Fin L → EReal} {h : EReal} (hh : h = (((1 : ℝ) / 2 : ℝ) : EReal))
    (hL : L = S * n) (hA : ∀ (s : Fin S) (k : Fin n) (hl : s.val * n + k.val < L), A s k = f ⟨s.val * n + k.val, hl⟩ * g ⟨s.val * n + k.val, hl⟩) :
    (∑ s, ∑ k, A s k) * h = ∑ l, h * g l * f l := by
  have e : (∑ s, ∑ k, A s k) = ∑ l, f l * g l := Fin.sum_mul_add_congr (hL := hL) fun s k hl => hA s k hl
  rw [e, hh, sum_mul_real _ _ (by norm_num)]
  exact Finset.sum_congr rfl fun l _ => by ac_rfl

/-- The same for one sum. -/
theorem sum_mul_half {L : ℕ} {A : Fin L → EReal} {f g : Fin L → EReal} {h : EReal} (hh : h = (((1 : ℝ) / 2 : ℝ) : EReal))
    (hA : ∀ l, A l = f l * g l) : (∑ l, A l) * h = ∑ l, h * f l * g l := by
  rw [hh, sum_mul_real _ _ (by norm_num)]
  exact Finset.sum_congr rfl fun l _ => by rw [hA]; ac_rfl

/-- Runs of two stretches each are the axis. -/
theorem runs_pair {S n L : ℕ} {A B : Fin S → Fin n → EReal} {f : Fin L → EReal} (hL : L = S * (2 * n))
    (hA : ∀ (s : Fin S) (k : Fin n) (hl : (s.val * 2 + 0) * n + k.val < L), A s k = f ⟨(s.val * 2 + 0) * n + k.val, hl⟩)
    (hB : ∀ (s : Fin S) (k : Fin n) (hl : (s.val * 2 + 1) * n + k.val < L), B s k = f ⟨(s.val * 2 + 1) * n + k.val, hl⟩) :
    (∑ s, ((∑ k, A s k) + ∑ k, B s k)) = ∑ l, f l := by
  subst hL
  rw [← Fin.sum_mul_add_fin S (2 * n) f rfl]
  refine Finset.sum_congr rfl fun s _ => ?_
  rw [← Fin.sum_mul_add_fin 2 n (fun l : Fin (2 * n) => f ⟨s.val * (2 * n) + l.val, _⟩) rfl, Fin.sum_univ_two]
  have e0 : ∀ k : Fin n, s.val * (2 * n) + ((0 : Fin 2).val * n + k.val) = (s.val * 2 + 0) * n + k.val := fun k => by
    simp only [Fin.val_zero]; ring
  have e1 : ∀ k : Fin n, s.val * (2 * n) + ((1 : Fin 2).val * n + k.val) = (s.val * 2 + 1) * n + k.val := fun k => by
    simp only [Fin.val_one]; ring
  have b0 : ∀ k : Fin n, (s.val * 2 + 0) * n + k.val < S * (2 * n) := fun k => by
    have := s.isLt; have := k.isLt; nlinarith
  have b1 : ∀ k : Fin n, (s.val * 2 + 1) * n + k.val < S * (2 * n) := fun k => by
    have := s.isLt; have := k.isLt; nlinarith
  refine congrArg₂ (· + ·) (Finset.sum_congr rfl fun k _ => ?_) (Finset.sum_congr rfl fun k _ => ?_)
  · rw [hA s k (b0 k)]; exact congrArg f (Fin.ext (e0 k).symm)
  · rw [hB s k (b1 k)]; exact congrArg f (Fin.ext (e1 k).symm)

end Cert.Scale

end
-- ==== Proof.Dwout.lean ====
/-
  `Kernel2Ideal`, the product that gives the gradient of the feed-forward block with respect to `W_out`: the array it returns is the
  reference's, at the ideal instance.
-/
module

public import proofs.«01_k».proof.Proof.Hidden
public import proofs.«01_k».proof.Proof.Scale
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

variable (m : (ℓ : Loc nD τ sig) → Buf (Elt Ideal) ℓ)

/-- The reference's result over the activation `a` and the cotangent. -/
def REF (a : FVec Ideal Cert.Reference2Ideal.S4096x2816 .f32) (dz : FVec Ideal Cert.Reference2Ideal.S4096x1024 .f32) :
    FVec Ideal Cert.Reference2Ideal.S4x704x1024 .bf16 :=
  shapeCast _ (truncf .bf16 (transpose Cert.Reference2Ideal.S2816x1024 [1, 0]
    (Host.dotGeneral Cert.Reference2Ideal.dot_S4096x1024_S4096x2816_S1024x2816_0_0_1_1_n_n none
      (mulf (broadcastInDim Cert.Reference2Ideal.S4096x1024 ![] Cert.Reference2Ideal.Gen.bcast_S_S4096x1024
        (constant Cert.Reference2Ideal.S_ .f32 0x3F000000#32)) dz) a)
    Cert.Reference2Ideal.Gen.transposes_S1024x2816_S2816x1024_1_0)
    Cert.Reference2Ideal.Gen.bitsLt_bf16_f32) Cert.Reference2Ideal.Gen.shapeCasts_S2816x1024_S4x704x1024

/-- The first operand of the product as the region finds it: the activation, cut into four blocks of columns. -/
theorem entry_a (c : Dev nD) : V m c main_v7
    = truncf .bf16 (transpose S4x4096x704 [1, 0, 2] (shapeCast S4096x4x704
        (Cert.Hidden.act (F := Ideal) (m ((c : Thread nD τ).loc main_arg0)) (m ((c : Thread nD τ).loc main_arg1)))
        shapeCasts_S4096x2816_S4096x4x704) transposes_S4096x4x704_S4x4096x704_1_0_2) bitsLt_bf16_f32 := by
  entry_read
  rfl

/-- Where each window's block lies at a point. -/
theorem idx_val : ∀ t : Fin cfg0.N, win0_0.index t = ![t.val / 2, t.val % 2, 0] ∧ win0_1.index t = ![t.val % 2, 0]
    ∧ win0_2.index t = ![t.val / 2, 0, 0] :=
  (by decide +kernel : ∀ t : Fin grid0.N, _)

/-- The zero payload. -/
theorem hzero (j : S704x1024.Idx) : k0_pay1 (F := Ideal) j = 0 := by pointwise [k0_pay1]

/-- The accumulating payload. -/
theorem hpay (a : FVec Ideal S1x2048x704 .bf16) (b : FVec Ideal S2048x1024 .f32) (acc : FVec Ideal S704x1024 .f32) (j : S704x1024.Idx) :
    k0_pay2 a b acc j = acc j + ∑ k : Fin 2048, a (ix3 0 k (j 0)) * b (ix2 k (j 1)) := by
  pointwise [k0_pay2]

/-- At the last point of a run the output is the accumulator times one half. -/
theorem out_last (c : Dev nD) (t : Fin cfg0.N) (h : t.val % 2 = 1) :
    (outsAt0 m c t.val t.isLt).1 = k0_pay3 (outsAt0 m c t.val t.isLt).2 := by
  rw [outsAt0_B m c t (by omega) h]
  frame_out

/-- The array the region leaves is the reference's product. -/
theorem final (c : Dev nD) (d : FVec Ideal S4096x2816 .f32)
    (hd : V m c main_v7 = truncf .bf16 (transpose S4x4096x704 [1, 0, 2] (shapeCast S4096x4x704 d shapeCasts_S4096x2816_S4096x4x704)
      transposes_S4096x4x704_S4x4096x704_1_0_2) bitsLt_bf16_f32) :
    (dats m 0 c).arrAt 2 (cfgs 0).N = REF d (m ((c : Thread nD τ).loc main_arg3)) := by
  refine (dats m 0 c).arrAt_eq_of_covers 2 _ (by decide +kernel) fun t hf y => ?_
  have ht := (flush0_2 t).mp hf
  blk_simp
  rw [after0_2, out_last m c t ht]
  pointwise [k0_pay3, REF]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay]; exact congrArg (· + _) (congrFun (Memref.IsWhole.read_unread (Memref.isWhole_whole cc0_scratch0) _) j))
    t ht _, zero_add]
  refine Cert.Scale.runs_mul_half Cert.Scale.half_eq (by norm_num) fun s k hl => Ideal.mul_congr ?_ ?_
  · show (V m c main_v7) _ = _
    rw [hd]
    pointwise
    blk_point [idx_val t, idx_val ⟨_, Pipeline.run_point_lt_of_flush t ((flush0_2 t).mp hf) s⟩]
  · show (V m c main_arg3) _ = _
    blk_point [V, idx_val t, idx_val ⟨_, Pipeline.run_point_lt_of_flush t ((flush0_2 t).mp hf) s⟩]

end Cert.Kernel2Ideal.Hand

end
-- ==== Proof.Dx.lean ====
/-
  `Kernel4Ideal`, the product that gives the gradient of the residual feed-forward block with respect to its input: the array it returns
  is the reference's, at the ideal instance.
-/
module

public import proofs.«01_k».proof.Proof.Hidden
public import proofs.«01_k».proof.Proof.Scale
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

/-- The reference's result over the gradient `d` of the hidden layer, the weights and the cotangent. -/
def REF (d : FVec Ideal Cert.Reference4Ideal.S4096x5632 .f32) (w : FVec Ideal Cert.Reference4Ideal.S1024x5632 .f32)
    (dz : FVec Ideal Cert.Reference4Ideal.S4096x1024 .f32) : FVec Ideal Cert.Reference4Ideal.S4096x1024 .f32 :=
  addf (Host.dotGeneral Cert.Reference4Ideal.dot_S4096x5632_S1024x5632_S4096x1024_1_1_0_0_n_n none d w)
    (mulf (broadcastInDim Cert.Reference4Ideal.S4096x1024 ![] Cert.Reference4Ideal.Gen.bcast_S_S4096x1024
        (constant Cert.Reference4Ideal.S_ .f32 0x3FD744FD#32)) dz)

/-- The first operand of the product as the region finds it: the gradient of the hidden layer, cut into eight blocks of columns. -/
theorem entry_d (c : Dev nD) : V m c main_v20
    = truncf .bf16 (transpose S8x4096x704 [1, 0, 2] (shapeCast S4096x8x704
        (Cert.Hidden.dpre (F := Ideal) (m ((c : Thread nD τ).loc main_arg0)) (m ((c : Thread nD τ).loc main_arg1)) (m ((c : Thread nD τ).loc main_arg2))
          (m ((c : Thread nD τ).loc main_arg3))) shapeCasts_S4096x5632_S4096x8x704) transposes_S4096x8x704_S8x4096x704_1_0_2) bitsLt_bf16_f32 := by
  entry_read
  rfl

/-- The second operand as the region finds it: `W_inᵀ` cut into eight blocks of rows. -/
theorem entry_w (c : Dev nD) : V m c main_v2
    = (truncf (F := Ideal) .bf16 (shapeCast S8x704x1024 (transpose S5632x1024 [1, 0] (m ((c : Thread nD τ).loc main_arg1) : FVec Ideal S1024x5632 .f32)
        transposes_S1024x5632_S5632x1024_1_0) shapeCasts_S5632x1024_S8x704x1024) bitsLt_bf16_f32 : FVec Ideal S8x704x1024 .bf16) := by
  entry_read
  rfl

/-- Where each window's block lies at a point. -/
theorem idx_val : ∀ t : Fin cfg0.N, win0_0.index t = ![t.val % 4, t.val / 4, 0] ∧ win0_1.index t = ![t.val % 4, 0, 0]
    ∧ win0_2.index t = ![t.val / 4, 0] ∧ win0_3.index t = ![t.val / 4, 0] :=
  (by decide +kernel : ∀ t : Fin grid0.N, _)

/-- The zero payload. -/
theorem hzero (j : S1024x1024.Idx) : k0_pay1 (F := Ideal) j = 0 := by pointwise [k0_pay1]

/-- The accumulating payload. -/
theorem hpay (a : FVec Ideal S1x1024x704 .bf16) (b : FVec Ideal S1x704x1024 .bf16) (a' : FVec Ideal S1x1024x704 .bf16)
    (b' : FVec Ideal S1x704x1024 .bf16) (acc : FVec Ideal S1024x1024 .f32) (j : S1024x1024.Idx) :
    k0_pay2 a b a' b' acc j = acc j + ((∑ k : Fin 704, a (ix3 0 (j 0) k) * b (ix3 0 k (j 1))) + ∑ k : Fin 704, a' (ix3 0 (j 0) k) * b' (ix3 0 k (j 1))) := by
  pointwise [k0_pay2]

/-- At the last point of a run the output is the accumulator and the residual branch. -/
theorem out_last (c : Dev nD) (t : Fin cfg0.N) (h : t.val % 4 = 3) :
    (outsAt0 m c t.val t.isLt).1 = k0_pay3 (outsAt0 m c t.val t.isLt).2 (iblk m c 2 t) := by
  rw [outsAt0_C m c t (by omega) h]
  frame_out

set_option maxHeartbeats 2000000 in
/-- The array the region leaves is the reference's product. -/
theorem final (c : Dev nD) (d : FVec Ideal S4096x5632 .f32)
    (hd : V m c main_v20 = truncf .bf16 (transpose S8x4096x704 [1, 0, 2] (shapeCast S4096x8x704 d shapeCasts_S4096x5632_S4096x8x704)
      transposes_S4096x8x704_S8x4096x704_1_0_2) bitsLt_bf16_f32) :
    (dats m 0 c).arrAt 3 (cfgs 0).N = REF d (m ((c : Thread nD τ).loc main_arg1)) (m ((c : Thread nD τ).loc main_arg3)) := by
  refine (dats m 0 c).arrAt_eq_of_covers 3 _ (by decide +kernel) fun t hf y => ?_
  have ht := (flush0_3 t).mp hf
  blk_simp
  rw [after0_3, out_last m c t ht]
  pointwise [k0_pay3, REF]
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t ht _, zero_add]
  refine Ideal.add_congr (Cert.Scale.runs_pair (by norm_num) (fun s k hl => Ideal.mul_congr ?_ ?_) (fun s k hl => Ideal.mul_congr ?_ ?_))
    (Ideal.mul_congr rfl ?_)
  · show (V m c main_v20) _ = _
    rw [hd]
    pointwise
    blk_point [idx_val t, idx_val ⟨_, Pipeline.run_point_lt_of_flush t ((flush0_3 t).mp hf) s⟩]
  · show (V m c main_v2) _ = _
    rw [entry_w]
    pointwise
    blk_point [idx_val t, idx_val ⟨_, Pipeline.run_point_lt_of_flush t ((flush0_3 t).mp hf) s⟩]
  · show (V m c main_v20) _ = _
    rw [hd]
    pointwise
    blk_point [idx_val t, idx_val ⟨_, Pipeline.run_point_lt_of_flush t ((flush0_3 t).mp hf) s⟩]
  · show (V m c main_v2) _ = _
    rw [entry_w]
    pointwise
    blk_point [idx_val t, idx_val ⟨_, Pipeline.run_point_lt_of_flush t ((flush0_3 t).mp hf) s⟩]
  · show (V m c main_arg3) _ = _
    blk_point [V, idx_val t]

end Cert.Kernel4Ideal.Hand

end
-- ==== Proof.Gate.lean ====
/-
  Finite extended reals, and the derivative of `silu(g)·u` written with the hyperbolic tangent and with the logistic function.
-/
module

public import proofs.«01_k».proof.Proof.Scale

@[expose] public section

noncomputable section

open Idealize.ShloMosaic

namespace Cert.Gate

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The sum of reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i ∈ s, IsReal (f i)) : IsReal (∑ i ∈ s, f i) := by
  classical
  choose! g hg using h
  refine ⟨∑ i ∈ s, g i, ?_⟩
  rw [coe_sum]
  exact Finset.sum_congr rfl hg

/-- An absolute value that compares below the infinity constant is that of a real. -/
theorem isReal_of_lt {x : EReal} (h : FloatOps.cmpf (F := Ideal) .olt (φ := .f32) (FloatOps.hostAbsf (F := Ideal) (φ := .f32) x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | coe r => exact ⟨r, rfl⟩
  | top => simp [Ideal.cmp] at h'

/-- The logistic function by the hyperbolic tangent, on reals. -/
theorem real_sig (g : ℝ) : 1 / 2 * Real.tanh (1 / 2 * g) + 1 / 2 = 1 / (1 + Real.exp (-g)) := by
  have e : Real.exp (-g) = Real.exp (-(1 / 2 * g)) * Real.exp (-(1 / 2 * g)) := by rw [← Real.exp_add]; congr 1; ring
  have e1 : Real.exp (1 / 2 * g) * Real.exp (-(1 / 2 * g)) = 1 := by rw [← Real.exp_add]; simp
  have p := Real.exp_pos (1 / 2 * g)
  have q := Real.exp_pos (-(1 / 2 * g))
  rw [Real.tanh_eq_sinh_div_cosh, Real.sinh_eq, Real.cosh_eq, e]
  generalize Real.exp (1 / 2 * g) = a at *
  generalize Real.exp (-(1 / 2 * g)) = b at *
  have : a + b ≠ 0 := by positivity
  have : 1 + b * b ≠ 0 := by positivity
  field_simp
  linear_combination (2 * b) * e1

/-- The logistic function by the hyperbolic tangent, as the kernel and the references spell the two. -/
theorem sig_eq {g : EReal} (hg : IsReal g) :
    Ideal.ofBits .f32 0x3F000000#32 * Ideal.tanh (Ideal.ofBits .f32 0x3F000000#32 * g) + Ideal.ofBits .f32 0x3F000000#32
      = Ideal.div 1 (1 + Ideal.exp (-g)) := by
  obtain ⟨g, rfl⟩ := hg
  have hp : (1 : ℝ) + Real.exp (-g) ≠ 0 := by positivity
  rw [Scale.half_eq, ← EReal.coe_neg, Ideal.exp_coe, ← EReal.coe_one, ← EReal.coe_add, Ideal.div_coe hp, ← EReal.coe_mul, Ideal.tanh_coe,
    ← EReal.coe_mul, ← EReal.coe_add, ← EReal.coe_mul, real_sig, one_mul]

/-- The same at every extended real. -/
theorem sig_all (g : EReal) :
    Ideal.ofBits .f32 0x3F000000#32 * Ideal.tanh (Ideal.ofBits .f32 0x3F000000#32 * g) + Ideal.ofBits .f32 0x3F000000#32
      = Ideal.div 1 (1 + Ideal.exp (-g)) := by
  induction g using EReal.rec with
  | coe r => exact sig_eq ⟨r, rfl⟩
  | bot =>
    have e1 : Ideal.tanh ⊥ = ((-1 : ℝ) : EReal) := rfl
    have e2 : Ideal.exp ⊤ = ⊤ := rfl
    have e3 : (1 : EReal) + ⊤ = ⊤ := by rw [← EReal.coe_one]; exact EReal.coe_add_top 1
    rw [Scale.half_eq, EReal.coe_mul_bot_of_pos (by norm_num), e1, EReal.neg_bot, e2, e3, ← EReal.coe_mul, ← EReal.coe_add]
    simp [Ideal.div]
  | top =>
    have e1 : Ideal.tanh ⊤ = ((1 : ℝ) : EReal) := rfl
    have e2 : Ideal.exp ⊥ = 0 := rfl
    rw [Scale.half_eq, EReal.coe_mul_top_of_pos (by norm_num), e1, EReal.neg_top, e2, add_zero, ← EReal.coe_mul, ← EReal.coe_add]
    simp only [Ideal.div, one_ne_zero, if_false, inv_one, mul_one]
    norm_num

theorem isReal_sig {g : EReal} (hg : IsReal g) :
    IsReal (Ideal.div 1 (1 + Ideal.exp (-g))) := by
  obtain ⟨g, rfl⟩ := hg
  have hp : (1 : ℝ) + Real.exp (-g) ≠ 0 := by positivity
  rw [← EReal.coe_neg, Ideal.exp_coe, ← EReal.coe_one, ← EReal.coe_add, Ideal.div_coe hp, ← EReal.coe_mul]
  exact ⟨_, rfl⟩

/-- The gradient with respect to the gate: the kernel's spelling is the reference's, for reals. -/
theorem dgate_eq {a u g s t : EReal} (ha : IsReal a) (hu : IsReal u) (hg : IsReal g) (hs : IsReal s) (ht : t = s) :
    a * u * (t + g * t * (1 - t)) = a * u * s + g * (a * u) * (s * (1 - s)) := by
  subst ht
  obtain ⟨a, rfl⟩ := ha; obtain ⟨u, rfl⟩ := hu; obtain ⟨g, rfl⟩ := hg; obtain ⟨s, rfl⟩ := hs
  norm_cast
  ring

theorem isReal_half : IsReal (Ideal.ofBits .f32 0x3F000000#32) := ⟨_, Scale.half_eq⟩

/-- One element of the gradient with respect to the gate. -/
theorem gate_point {n : ℕ} {a b a' b' : Fin n → EReal} {g g' u u' : EReal} (hg : IsReal g') (hu : IsReal u') (ha : ∀ k, IsReal (a' k))
    (hb : ∀ k, IsReal (b' k)) (eg : g = g') (eu : u = u') (ea : ∀ k, a k = a' k) (eb : ∀ k, b k = b' k) :
    (∑ k, a k * b k) * Ideal.ofBits .f32 0x3F000000#32 * u
        * (Ideal.ofBits .f32 0x3F000000#32 * Ideal.tanh (Ideal.ofBits .f32 0x3F000000#32 * g) + Ideal.ofBits .f32 0x3F000000#32
          + g * (Ideal.ofBits .f32 0x3F000000#32 * Ideal.tanh (Ideal.ofBits .f32 0x3F000000#32 * g) + Ideal.ofBits .f32 0x3F000000#32)
            * (1 - (Ideal.ofBits .f32 0x3F000000#32 * Ideal.tanh (Ideal.ofBits .f32 0x3F000000#32 * g) + Ideal.ofBits .f32 0x3F000000#32)))
      = (∑ k, Ideal.ofBits .f32 0x3F000000#32 * a' k * b' k) * u' * Ideal.div 1 (1 + Ideal.exp (-g'))
        + g' * ((∑ k, Ideal.ofBits .f32 0x3F000000#32 * a' k * b' k) * u')
          * (Ideal.div 1 (1 + Ideal.exp (-g')) * (1 - Ideal.div 1 (1 + Ideal.exp (-g')))) := by
  rw [eg, eu, Scale.sum_mul_half (f := a') (g := b') Scale.half_eq fun k => by rw [ea, eb]]
  exact dgate_eq (IsReal.sum _ fun k _ => (isReal_half.mul (ha k)).mul (hb k)) hu hg (isReal_sig hg) (sig_eq hg)

/-- One element of the gradient with respect to the other half. -/
theorem up_point {n : ℕ} {a b a' b' : Fin n → EReal} {g g' : EReal} (hg : IsReal g') (eg : g = g') (ea : ∀ k, a k = a' k)
    (eb : ∀ k, b k = b' k) :
    (∑ k, a k * b k) * Ideal.ofBits .f32 0x3F000000#32
        * (g * (Ideal.ofBits .f32 0x3F000000#32 * Ideal.tanh (Ideal.ofBits .f32 0x3F000000#32 * g) + Ideal.ofBits .f32 0x3F000000#32))
      = g' * Ideal.div 1 (1 + Ideal.exp (-g')) * ∑ k, Ideal.ofBits .f32 0x3F000000#32 * a' k * b' k := by
  rw [eg, Scale.sum_mul_half (f := a') (g := b') Scale.half_eq fun k => by rw [ea, eb], sig_eq hg, mul_comm]

end Cert.Gate

end
-- ==== Proof.Dh.lean ====
/-
  `Kernel5Ideal`, the gradient of the feed-forward block with respect to its hidden layer: the array it returns is the reference's, at the
  ideal instance, on finite inputs.
-/
module

public import proofs.«01_k».proof.Proof.Hidden
public import proofs.«01_k».proof.Proof.Gate
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen

variable (m : (ℓ : Loc nD τ sig) → Buf (Elt Ideal) ℓ)

/-- The reference's result over the gradient `d` of the hidden layer. -/
def REF (d : FVec Ideal Cert.Reference5Ideal.S4096x5632 .f32) : FVec Ideal Cert.Reference5Ideal.S2x4x4096x704 .bf16 :=
  transpose Cert.Reference5Ideal.S2x4x4096x704 [1, 2, 0, 3] (shapeCast Cert.Reference5Ideal.S4096x2x4x704
    (truncf .bf16 d Cert.Reference5Ideal.Gen.bitsLt_bf16_f32) Cert.Reference5Ideal.Gen.shapeCasts_S4096x5632_S4096x2x4x704)
    Cert.Reference5Ideal.Gen.transposes_S4096x2x4x704_S2x4x4096x704_1_2_0_3

/-- Where each window's block lies at a point. -/
theorem idx_val : ∀ t : Fin cfg0.N, win0_0.index t = ![t.val / 4, 0] ∧ win0_1.index t = ![t.val % 4, 0, 0]
    ∧ win0_2.index t = ![0, t.val % 4, t.val / 4, 0] ∧ win0_3.index t = ![0, t.val % 4, t.val / 4, 0] :=
  (by decide +kernel : ∀ t : Fin grid0.N, _)

/-- The weights as the region finds them. -/
theorem entry_w (c : Dev nD) : V m c main_v1
    = (truncf (F := Ideal) .bf16 (shapeCast S4x704x1024 (m ((c : Thread nD τ).loc main_arg2) : FVec Ideal S2816x1024 .f32)
        shapeCasts_S2816x1024_S4x704x1024) bitsLt_bf16_f32 : FVec Ideal S4x704x1024 .bf16) := by
  entry_read
  rfl

/-- The hidden layer as the region finds it. -/
theorem entry_h (c : Dev nD) : V m c main_v6
    = (shapeCast S2x4x4096x704 (truncf (F := Ideal) .bf16 (transpose S8x4096x704 [1, 0, 2] (shapeCast S4096x8x704
        (Cert.Hidden.pre (F := Ideal) (m ((c : Thread nD τ).loc main_arg0)) (m ((c : Thread nD τ).loc main_arg1)))
        shapeCasts_S4096x5632_S4096x8x704) transposes_S4096x8x704_S8x4096x704_1_0_2) bitsLt_bf16_f32)
        shapeCasts_S8x4096x704_S2x4x4096x704 : FVec Ideal S2x4x4096x704 .bf16) := by
  entry_read
  rfl

/-- Every entry of `x·W_in` is a real, for finite `x` and `W_in`. -/
theorem pre_real (x : FVec Ideal Cert.Reference3Ideal.S4096x1024 .f32) (w : FVec Ideal Cert.Reference3Ideal.S1024x5632 .f32)
    (hx : ∀ i, Cert.Gate.IsReal (x i)) (hw : ∀ i, Cert.Gate.IsReal (w i)) (i : Cert.Reference3Ideal.S4096x5632.Idx) :
    Cert.Gate.IsReal (Cert.Hidden.pre (F := Ideal) x w i) := by
  have e : Cert.Hidden.pre (F := Ideal) x w i = ∑ k : Fin 1024, x (ix2 (i 0) k) * w (ix2 k (i 1)) := by pointwise [Cert.Hidden.pre]
  rw [e]
  exact Cert.Gate.IsReal.sum _ fun k _ => (hx _).mul (hw _)

/-- The eight blocks read as two times four. -/
theorem blocks_at (X : FVec Ideal S8x4096x704 .bf16) (p : Fin 2) (q : Fin 4) (r : Fin 4096) (k : Fin 704) :
    shapeCast S2x4x4096x704 X shapeCasts_S8x4096x704_S2x4x4096x704 (ix4 p q r k) = X (ix3 ⟨p.val * 4 + q.val, by omega⟩ r k) := by
  pointwise

/-- The columns read in eight blocks. -/
theorem cols_at (X : FVec Ideal S4096x5632 .f32) (p : Fin 8) (r : Fin 4096) (k : Fin 704) :
    (truncf (F := Ideal) .bf16 (transpose S8x4096x704 [1, 0, 2] (shapeCast S4096x8x704 X shapeCasts_S4096x5632_S4096x8x704)
      transposes_S4096x8x704_S8x4096x704_1_0_2) bitsLt_bf16_f32) (ix3 p r k) = X (ix2 r ⟨p.val * 704 + k.val, by omega⟩) := by
  pointwise

/-- The hidden layer's buffer at an index. -/
theorem h_at (c : Dev nD) (p : Fin 2) (q : Fin 4) (r : Fin 4096) (k : Fin 704) :
    (V m c main_v6 : FVec Ideal S2x4x4096x704 .bf16) (ix4 p q r k)
      = Cert.Hidden.pre (F := Ideal) (m ((c : Thread nD τ).loc main_arg0)) (m ((c : Thread nD τ).loc main_arg1))
        (ix2 r ⟨(p.val * 4 + q.val) * 704 + k.val, by have := p.isLt; have := q.isLt; have := k.isLt; omega⟩) := by
  rw [entry_h]
  exact (blocks_at _ p q r k).trans (cols_at _ _ r k)

/-- The rows read in four blocks. -/
theorem rows_at (X : FVec Ideal S2816x1024 .f32) (q : Fin 4) (k : Fin 704) (l : Fin 1024) :
    (truncf (F := Ideal) .bf16 (shapeCast S4x704x1024 X shapeCasts_S2816x1024_S4x704x1024) bitsLt_bf16_f32) (ix3 q k l)
      = X (ix2 ⟨q.val * 704 + k.val, by omega⟩ l) := by
  pointwise

/-- The weights' buffer at an index. -/
theorem w_at (c : Dev nD) (q : Fin 4) (k : Fin 704) (l : Fin 1024) :
    (V m c main_v1 : FVec Ideal S4x704x1024 .bf16) (ix3 q k l)
      = (m ((c : Thread nD τ).loc main_arg2) : FVec Ideal S2816x1024 .f32)
        (ix2 ⟨q.val * 704 + k.val, by have := q.isLt; have := k.isLt; omega⟩ l) := by
  rw [entry_w]
  exact rows_at _ q k l

/-- What a point reads of the hidden layer, in the reference's words. -/
theorem h_val (c : Dev nD) (t : Fin cfg0.N) (p : Fin 2) (r : Fin 512) (k : Fin 704) (i : Cert.Reference3Ideal.S4096x5632.Idx)
    (h0 : (i 0).val = t.val / 4 * 512 + r.val) (h1 : (i 1).val = (p.val * 4 + t.val % 4) * 704 + k.val) :
    iblk m c 2 t (ix4 p 0 r k) = Cert.Hidden.pre (F := Ideal) (m ((c : Thread nD τ).loc main_arg0)) (m ((c : Thread nD τ).loc main_arg1)) i := by
  have hN : t.val < 32 := lt_of_lt_of_eq t.isLt N_0
  have hb : iblk m c 2 t (ix4 p 0 r k) = (V m c main_v6 : FVec Ideal S2x4x4096x704 .bf16)
      (ix4 p ⟨t.val % 4, by omega⟩ ⟨t.val / 4 * 512 + r.val, by omega⟩ k) := by
    show (V m c main_v6 : FVec Ideal S2x4x4096x704 .bf16) _ = _
    generalize (V m c main_v6 : FVec Ideal S2x4x4096x704 .bf16) = X
    blk_point [idx_val t]
  refine hb.trans ((h_at m c p _ _ _).trans (congrArg _ ?_))
  funext a
  match a with
  | 0 => exact Fin.ext h0.symm
  | 1 => exact Fin.ext h1.symm

/-- What a point reads of the weights. -/
theorem w_val (c : Dev nD) (t : Fin cfg0.N) (k : Fin 704) (l : Fin 1024) (i : S2816x1024.Idx)
    (h0 : (i 0).val = t.val % 4 * 704 + k.val) (h1 : (i 1).val = l.val) :
    iblk m c 1 t (ix3 0 k l) = (m ((c : Thread nD τ).loc main_arg2) : FVec Ideal S2816x1024 .f32) i := by
  have hN : t.val < 32 := lt_of_lt_of_eq t.isLt N_0
  have hb : iblk m c 1 t (ix3 0 k l) = (V m c main_v1 : FVec Ideal S4x704x1024 .bf16) (ix3 ⟨t.val % 4, by omega⟩ k l) := by
    show (V m c main_v1 : FVec Ideal S4x704x1024 .bf16) _ = _
    generalize (V m c main_v1 : FVec Ideal S4x704x1024 .bf16) = X
    blk_point [idx_val t]
  refine hb.trans ((w_at m c _ k l).trans (congrArg _ ?_))
  funext a
  match a with
  | 0 => exact Fin.ext h0.symm
  | 1 => exact Fin.ext h1.symm

set_option maxHeartbeats 2000000 in
/-- The array the region leaves is the reference's, on finite inputs. -/
theorem final (c : Dev nD)
    (hx : ∀ i, Cert.Gate.IsReal ((m ((c : Thread nD τ).loc main_arg0) : FVec Ideal S4096x1024 .f32) i))
    (hw : ∀ i, Cert.Gate.IsReal ((m ((c : Thread nD τ).loc main_arg1) : FVec Ideal S1024x5632 .f32) i))
    (hv : ∀ i, Cert.Gate.IsReal ((m ((c : Thread nD τ).loc main_arg2) : FVec Ideal S2816x1024 .f32) i))
    (hz : ∀ i, Cert.Gate.IsReal ((m ((c : Thread nD τ).loc main_arg3) : FVec Ideal S4096x1024 .f32) i)) :
    (dats m 0 c).arrAt 3 (cfgs 0).N = REF (Cert.Hidden.dpre (F := Ideal) (m ((c : Thread nD τ).loc main_arg0))
      (m ((c : Thread nD τ).loc main_arg1)) (m ((c : Thread nD τ).loc main_arg2)) (m ((c : Thread nD τ).loc main_arg3))) := by
  refine (dats m 0 c).arrAt_eq_of_covers 3 _ (by decide +kernel) fun t hf y => ?_
  have hp := pre_real (m ((c : Thread nD τ).loc main_arg0)) (m ((c : Thread nD τ).loc main_arg1)) hx hw
  blk_simp
  rw [after0_3]
  unfold out0_3
  canon_tiles x h
  all_goals
    obtain ⟨e0, e1, e2, e3⟩ := idx_val t
    pointwise [k0_pay1, k0_pay7, k0_pay6, k0_pay5, k0_pay4, k0_pay3, k0_pay2, REF, Cert.Hidden.dpre, Cert.Hidden.dgate, Cert.Hidden.dup,
      Cert.Hidden.dact, Cert.Hidden.sig, Cert.Hidden.one, Cert.Hidden.gate, Cert.Hidden.up]
  case piece0 =>
    split
    · rename_i hl
      exfalso
      revert hl
      blk_simp [idx_val t]
      omega
    · refine Cert.Gate.up_point (hp _) ?_ (fun k => ?_) (fun k => ?_)
      · refine h_val m c t _ _ _ _ ?_ ?_ <;> (blk_simp [idx_val t]; try dsimp only; omega)
      · show (V m c main_arg3) _ = _
        blk_point [V, idx_val t]
      · refine w_val m c t _ _ _ ?_ ?_ <;> (blk_simp [idx_val t]; try (dsimp only; omega))
  case piece1 =>
    split
    · refine Cert.Gate.gate_point (hp _) (hp _) (fun k => hz _) (fun k => hv _) ?_ ?_ (fun k => ?_) (fun k => ?_)
      · refine h_val m c t _ _ _ _ ?_ ?_ <;> (blk_simp [idx_val t]; try dsimp only; omega)
      · refine h_val m c t _ _ _ _ ?_ ?_ <;> (blk_simp [idx_val t]; try dsimp only; omega)
      · show (V m c main_arg3) _ = _
        blk_point [V, idx_val t]
      · refine w_val m c t _ _ _ ?_ ?_ <;> (blk_simp [idx_val t]; try (dsimp only; omega))
    · rename_i hl
      exfalso
      revert hl
      blk_simp [idx_val t]
      omega

end Cert.Kernel5Ideal.Hand

end
-- ==== Proof.FfnClaims.lean ====
/-
  The four products of the feed-forward block's backward pass: their claims, from the arrays `Dwout`, `Dwin`, `Dx` and `Dh` find and
  the references' own runs.
-/
module

public import proofs.«01_k».proof.Defs
public import proofs.«01_k».proof.Proof.Dwin
public import proofs.«01_k».proof.Proof.Dwout
public import proofs.«01_k».proof.Proof.Dx
public import proofs.«01_k».proof.Proof.Dh
public import proofs.«01_k».proof.Proof.Gen.Pre_finite_ffn
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.FfnClaims

/-! ## The gradient of `W_out` -/

/-- The reference runs, ends with every counter at zero and keeps its arguments. -/
theorem frame_r2 : quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The array the kernel returns is the reference's result. -/
theorem result_2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (ρ' : Dev Cert.Reference2Ideal.nD → PrngReg)
    (hagree : ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    θ_run Cert.Reference2Ideal.defs (onTc (τ := Cert.Reference2Ideal.τ) (Cert.Reference2Ideal.main (F := Ideal))) ⟨m', fun _ => 0, ρ'⟩ fun r => ∀ c : Dev Cert.Reference2Ideal.nD,
      r.2.mem ((c.tc : Thread Cert.Reference2Ideal.nD Cert.Reference2Ideal.τ).loc Cert.Reference2Ideal.main_v13) = Cert.Kernel2Ideal.Hand.REF (Cert.Hidden.act (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3) := by
  refine (θ_run Cert.Reference2Ideal.defs _ _).mono (fun r h c => ⟨(h c).1.trans ?_, (h c).2⟩) (Cert.Reference2Ideal.Value.run (F := Ideal) m' ρ')
  obtain ⟨h0, h1, h2, h3⟩ := hagree c
  try rw [h0]
  try rw [h1]
  try rw [h2]
  try rw [h3]
  rfl

/-- The kernel and the reference return equal arrays. -/
theorem value_2 : algebraic_Kernel2Ideal_Reference2Ideal (hKernel2Ideal := Cert.Kernel2Ideal.Gen.facts)
    (hReference2Ideal := Cert.Reference2Ideal.Gen.facts) := fun m ρ m' ρ' _ hagree =>
  ⟨fun c => Cert.Kernel2Ideal.Hand.REF (Cert.Hidden.act (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3)),
    (θ_run Cert.Kernel2Ideal.defs _ _).mono (fun r h c => ⟨(h c).1.trans ((Cert.Kernel2Ideal.Value.final2 m c).symm.trans (Cert.Kernel2Ideal.Hand.final m c _ (Cert.Kernel2Ideal.Hand.entry_a m c))), (h c).2⟩) (Cert.Kernel2Ideal.Value.run (F := Ideal) m ρ),
    result_2 m m' ρ' hagree⟩

/-! ## The gradient of `W_in` -/

/-- The reference runs, ends with every counter at zero and keeps its arguments. -/
theorem frame_r3 : quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The array the kernel returns is the reference's result. -/
theorem result_3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (ρ' : Dev Cert.Reference3Ideal.nD → PrngReg)
    (hagree : ∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    θ_run Cert.Reference3Ideal.defs (onTc (τ := Cert.Reference3Ideal.τ) (Cert.Reference3Ideal.main (F := Ideal))) ⟨m', fun _ => 0, ρ'⟩ fun r => ∀ c : Dev Cert.Reference3Ideal.nD,
      r.2.mem ((c.tc : Thread Cert.Reference3Ideal.nD Cert.Reference3Ideal.τ).loc Cert.Reference3Ideal.main_v19) = Cert.Kernel3Ideal.Hand.REF (m ((c.tc : Thread Cert.Kernel3Ideal.nD Cert.Kernel3Ideal.τ).loc Cert.Kernel3Ideal.main_arg0)) (Cert.Hidden.dpre (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3) := by
  refine (θ_run Cert.Reference3Ideal.defs _ _).mono (fun r h c => ⟨(h c).1.trans ?_, (h c).2⟩) (Cert.Reference3Ideal.Value.run (F := Ideal) m' ρ')
  obtain ⟨h0, h1, h2, h3⟩ := hagree c
  try rw [h0]
  try rw [h1]
  try rw [h2]
  try rw [h3]
  rfl

/-- The kernel and the reference return equal arrays. -/
theorem value_3 : algebraic_Kernel3Ideal_Reference3Ideal (hKernel3Ideal := Cert.Kernel3Ideal.Gen.facts)
    (hReference3Ideal := Cert.Reference3Ideal.Gen.facts) := fun m ρ m' ρ' _ hagree =>
  ⟨fun c => Cert.Kernel3Ideal.Hand.REF (m ((c.tc : Thread Cert.Kernel3Ideal.nD Cert.Kernel3Ideal.τ).loc Cert.Kernel3Ideal.main_arg0)) (Cert.Hidden.dpre (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))),
    (θ_run Cert.Kernel3Ideal.defs _ _).mono (fun r h c => ⟨(h c).1.trans (Cert.Kernel3Ideal.Hand.final m c _ (Cert.Kernel3Ideal.Hand.entry_d m c)), (h c).2⟩) (Cert.Kernel3Ideal.Value.run_blocks (F := Ideal) m ρ),
    result_3 m m' ρ' hagree⟩

/-! ## The gradient of the block's input -/

/-- The reference runs, ends with every counter at zero and keeps its arguments. -/
theorem frame_r4 : quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The array the kernel returns is the reference's result. -/
theorem result_4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (ρ' : Dev Cert.Reference4Ideal.nD → PrngReg)
    (hagree : ∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    θ_run Cert.Reference4Ideal.defs (onTc (τ := Cert.Reference4Ideal.τ) (Cert.Reference4Ideal.main (F := Ideal))) ⟨m', fun _ => 0, ρ'⟩ fun r => ∀ c : Dev Cert.Reference4Ideal.nD,
      r.2.mem ((c.tc : Thread Cert.Reference4Ideal.nD Cert.Reference4Ideal.τ).loc Cert.Reference4Ideal.main_v23) = Cert.Kernel4Ideal.Hand.REF (Cert.Hidden.dpre (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3) := by
  refine (θ_run Cert.Reference4Ideal.defs _ _).mono (fun r h c => ⟨(h c).1.trans ?_, (h c).2⟩) (Cert.Reference4Ideal.Value.run (F := Ideal) m' ρ')
  obtain ⟨h0, h1, h2, h3⟩ := hagree c
  unfold Cert.Reference4Ideal.Value.res_main_v23
  try rw [h0]
  try rw [h1]
  try rw [h2]
  try rw [h3]
  have hs : (shapeCast Cert.Reference4Ideal.S4096x1024 (m ((c.tc : Thread Cert.Kernel4Ideal.nD Cert.Kernel4Ideal.τ).loc Cert.Kernel4Ideal.main_arg3)) Cert.Reference4Ideal.Gen.shapeCasts_S4096x1024_S4096x1024) = (m ((c.tc : Thread Cert.Kernel4Ideal.nD Cert.Kernel4Ideal.τ).loc Cert.Kernel4Ideal.main_arg3)) := by
    funext i
    pointwise
  refine (show _ = Cert.Kernel4Ideal.Hand.REF (Cert.Hidden.dpre (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (shapeCast Cert.Reference4Ideal.S4096x1024 (m ((c.tc : Thread Cert.Kernel4Ideal.nD Cert.Kernel4Ideal.τ).loc Cert.Kernel4Ideal.main_arg3)) Cert.Reference4Ideal.Gen.shapeCasts_S4096x1024_S4096x1024)) (m ((c.tc : Thread Cert.Kernel4Ideal.nD Cert.Kernel4Ideal.τ).loc Cert.Kernel4Ideal.main_arg1)) (shapeCast Cert.Reference4Ideal.S4096x1024 (m ((c.tc : Thread Cert.Kernel4Ideal.nD Cert.Kernel4Ideal.τ).loc Cert.Kernel4Ideal.main_arg3)) Cert.Reference4Ideal.Gen.shapeCasts_S4096x1024_S4096x1024) from rfl).trans ?_
  rw [hs]

/-- The kernel and the reference return equal arrays. -/
theorem value_4 : algebraic_Kernel4Ideal_Reference4Ideal (hKernel4Ideal := Cert.Kernel4Ideal.Gen.facts)
    (hReference4Ideal := Cert.Reference4Ideal.Gen.facts) := fun m ρ m' ρ' _ hagree =>
  ⟨fun c => Cert.Kernel4Ideal.Hand.REF (Cert.Hidden.dpre (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)),
    (θ_run Cert.Kernel4Ideal.defs _ _).mono (fun r h c => ⟨(h c).1.trans ((Cert.Kernel4Ideal.Value.final3 m c).symm.trans (Cert.Kernel4Ideal.Hand.final m c _ (Cert.Kernel4Ideal.Hand.entry_d m c))), (h c).2⟩) (Cert.Kernel4Ideal.Value.run (F := Ideal) m ρ),
    result_4 m m' ρ' hagree⟩

/-! ## The gradient of the hidden layer -/

/-- The reference runs, ends with every counter at zero and keeps its arguments. -/
theorem frame_r5 : quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- A conjunction of two bits, at its one index. -/
theorem both (a b : IVec Cert.Pre_finite_ffn.S_ 1) (i : Cert.Pre_finite_ffn.S_.Idx) (h : andi a b i = 1#1) : a i = 1#1 ∧ b i = 1#1 := by
  have e : ∀ c d : BitVec 1, c &&& d = 1#1 → c = 1#1 ∧ d = 1#1 := by decide
  exact e _ _ h

/-- What the precondition says of the four arguments. -/
theorem real_of_pre (m : (ℓ : Loc Cert.Kernel5Ideal.nD Cert.Kernel5Ideal.τ Cert.Kernel5Ideal.sig) → Buf (Elt Ideal) ℓ)
    (hpre : Pre_Kernel5Ideal_finite_ffn (hPre_finite_ffn := Cert.Pre_finite_ffn.Gen.facts) m) (c : Dev Cert.Kernel5Ideal.nD) :
    (∀ i, Cert.Gate.IsReal ((m ((c.tc : Thread Cert.Kernel5Ideal.nD Cert.Kernel5Ideal.τ).loc Cert.Kernel5Ideal.main_arg0) : FVec Ideal Cert.Kernel5Ideal.S4096x1024 .f32) i))
    ∧ (∀ i, Cert.Gate.IsReal ((m ((c.tc : Thread Cert.Kernel5Ideal.nD Cert.Kernel5Ideal.τ).loc Cert.Kernel5Ideal.main_arg1) : FVec Ideal Cert.Kernel5Ideal.S1024x5632 .f32) i))
    ∧ (∀ i, Cert.Gate.IsReal ((m ((c.tc : Thread Cert.Kernel5Ideal.nD Cert.Kernel5Ideal.τ).loc Cert.Kernel5Ideal.main_arg2) : FVec Ideal Cert.Kernel5Ideal.S2816x1024 .f32) i))
    ∧ (∀ i, Cert.Gate.IsReal ((m ((c.tc : Thread Cert.Kernel5Ideal.nD Cert.Kernel5Ideal.τ).loc Cert.Kernel5Ideal.main_arg3) : FVec Ideal Cert.Kernel5Ideal.S4096x1024 .f32) i)) := by
  have h := congrFun (hpre c) (fun a => a.elim0)
  dsimp only [Cert.Pre_finite_ffn.fn, Cert.Pre_finite_ffn.fn_part1] at h
  obtain ⟨h, h3⟩ := both _ _ _ h
  obtain ⟨h, h2⟩ := both _ _ _ h
  obtain ⟨h0, h1⟩ := both _ _ _ h
  exact ⟨fun i => Cert.Gate.isReal_of_lt (Host.reduce_andi_all _ _ _ _ _ h0 i), fun i => Cert.Gate.isReal_of_lt (Host.reduce_andi_all _ _ _ _ _ h1 i),
    fun i => Cert.Gate.isReal_of_lt (Host.reduce_andi_all _ _ _ _ _ h2 i), fun i => Cert.Gate.isReal_of_lt (Host.reduce_andi_all _ _ _ _ _ h3 i)⟩

/-- The array the kernel returns is the reference's result. -/
theorem result_5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (ρ' : Dev Cert.Reference5Ideal.nD → PrngReg)
    (hagree : ∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    θ_run Cert.Reference5Ideal.defs (onTc (τ := Cert.Reference5Ideal.τ) (Cert.Reference5Ideal.main (F := Ideal))) ⟨m', fun _ => 0, ρ'⟩ fun r => ∀ c : Dev Cert.Reference5Ideal.nD,
      r.2.mem ((c.tc : Thread Cert.Reference5Ideal.nD Cert.Reference5Ideal.τ).loc Cert.Reference5Ideal.main_v17) = Cert.Kernel5Ideal.Hand.REF (Cert.Hidden.dpre (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3) := by
  refine (θ_run Cert.Reference5Ideal.defs _ _).mono (fun r h c => ⟨(h c).1.trans ?_, (h c).2⟩) (Cert.Reference5Ideal.Value.run (F := Ideal) m' ρ')
  obtain ⟨h0, h1, h2, h3⟩ := hagree c
  try rw [h0]
  try rw [h1]
  try rw [h2]
  try rw [h3]
  rfl

/-- The kernel and the reference return equal arrays. -/
theorem value_5 : algebraic_Kernel5Ideal_Reference5Ideal_pre_finite_ffn (hKernel5Ideal := Cert.Kernel5Ideal.Gen.facts)
    (hReference5Ideal := Cert.Reference5Ideal.Gen.facts) (hPre_finite_ffn := Cert.Pre_finite_ffn.Gen.facts) := fun m ρ m' ρ' hpre hagree =>
  ⟨fun c => Cert.Kernel5Ideal.Hand.REF (Cert.Hidden.dpre (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))),
    (θ_run Cert.Kernel5Ideal.defs _ _).mono (fun r h c => ⟨(h c).1.trans ((Cert.Kernel5Ideal.Hand.final m c (real_of_pre m hpre c).1 (real_of_pre m hpre c).2.1 (real_of_pre m hpre c).2.2.1 (real_of_pre m hpre c).2.2.2)), (h c).2⟩) (Cert.Kernel5Ideal.Value.run_blocks (F := Ideal) m ρ),
    result_5 m m' ρ' hagree⟩

end Cert.FfnClaims

end
-- ==== Proof.Fh.lean ====
/-
  `Kernel6Ideal`, the forward call of the feed-forward block's hidden layer: `x·W_in` and `silu(gate)·up`, in blocks of columns. The
  arrays it returns are the reference's, at the ideal instance.
-/
module

public import proofs.«01_k».proof.Proof.Hidden
public import proofs.«01_k».proof.Proof.Gate
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen

variable (m : (ℓ : Loc nD τ sig) → Buf (Elt Ideal) ℓ)

/-- The reference's first result, over `h = x·W_in`. -/
def REFH (h : FVec Ideal Cert.Reference6Ideal.S4096x5632 .f32) : FVec Ideal Cert.Reference6Ideal.S2x4x4096x704 .bf16 :=
  transpose Cert.Reference6Ideal.S2x4x4096x704 [1, 2, 0, 3] (shapeCast Cert.Reference6Ideal.S4096x2x4x704
    (truncf .bf16 h Cert.Reference6Ideal.Gen.bitsLt_bf16_f32) Cert.Reference6Ideal.Gen.shapeCasts_S4096x5632_S4096x2x4x704)
    Cert.Reference6Ideal.Gen.transposes_S4096x2x4x704_S2x4x4096x704_1_2_0_3

/-- The reference's second result, over the activation. -/
def REFA (a : FVec Ideal Cert.Reference6Ideal.S4096x2816 .f32) : FVec Ideal Cert.Reference6Ideal.S4x4096x704 .bf16 :=
  transpose Cert.Reference6Ideal.S4x4096x704 [1, 0, 2] (shapeCast Cert.Reference6Ideal.S4096x4x704
    (truncf .bf16 a Cert.Reference6Ideal.Gen.bitsLt_bf16_f32) Cert.Reference6Ideal.Gen.shapeCasts_S4096x2816_S4096x4x704)
    Cert.Reference6Ideal.Gen.transposes_S4096x4x704_S4x4096x704_1_0_2

/-- Where each window's block lies at a point. -/
theorem idx_val : ∀ t : Fin cfg0.N, win0_0.index t = ![t.val / 4, 0] ∧ win0_1.index t = ![t.val % 4, 0, 0]
    ∧ win0_2.index t = ![t.val % 4 + 4, 0, 0] ∧ win0_3.index t = ![0, t.val % 4, t.val / 4, 0]
    ∧ win0_4.index t = ![t.val % 4, t.val / 4, 0] :=
  (by decide +kernel : ∀ t : Fin grid0.N, _)

/-- The input as the region finds it. -/
theorem entry_x (c : Dev nD) : V m c main_v3
    = (truncf (F := Ideal) .bf16 (m ((c : Thread nD τ).loc main_arg0) : FVec Ideal S4096x1024 .f32) bitsLt_bf16_f32
      : FVec Ideal S4096x1024 .bf16) := by
  entry_read
  rfl

/-- The weights as the region finds them. -/
theorem entry_w (c : Dev nD) : V m c main_v2
    = (truncf (F := Ideal) .bf16 (shapeCast S8x704x1024 (transpose S5632x1024 [1, 0]
        (m ((c : Thread nD τ).loc main_arg1) : FVec Ideal S1024x5632 .f32) transposes_S1024x5632_S5632x1024_1_0)
        shapeCasts_S5632x1024_S8x704x1024) bitsLt_bf16_f32 : FVec Ideal S8x704x1024 .bf16) := by
  entry_read
  rfl

/-- The columns of the weights read in eight blocks. -/
theorem rows_at (X : FVec Ideal S1024x5632 .f32) (q : Fin 8) (k : Fin 704) (l : Fin 1024) :
    (truncf (F := Ideal) .bf16 (shapeCast S8x704x1024 (transpose S5632x1024 [1, 0] X transposes_S1024x5632_S5632x1024_1_0)
        shapeCasts_S5632x1024_S8x704x1024) bitsLt_bf16_f32) (ix3 q k l)
      = X (ix2 l ⟨q.val * 704 + k.val, by omega⟩) := by
  pointwise

/-- What a point reads of the input. -/
theorem x_val (c : Dev nD) (t : Fin cfg0.N) (r : Fin 1024) (l : Fin 1024) (i : S4096x1024.Idx)
    (h0 : (i 0).val = t.val / 4 * 1024 + r.val) (h1 : (i 1).val = l.val) :
    iblk m c 0 t (ix2 r l) = (m ((c : Thread nD τ).loc main_arg0) : FVec Ideal S4096x1024 .f32) i := by
  have hN : t.val < 16 := lt_of_lt_of_eq t.isLt N_0
  have hb : iblk m c 0 t (ix2 r l) = (V m c main_v3 : FVec Ideal S4096x1024 .bf16) (ix2 ⟨t.val / 4 * 1024 + r.val, by omega⟩ l) := by
    show (V m c main_v3 : FVec Ideal S4096x1024 .bf16) _ = _
    generalize (V m c main_v3 : FVec Ideal S4096x1024 .bf16) = X
    blk_point [idx_val t]
  rw [hb, entry_x]
  show (m ((c : Thread nD τ).loc main_arg0) : FVec Ideal S4096x1024 .f32) _ = _
  refine congrArg _ ?_
  funext a
  match a with
  | 0 => exact Fin.ext h0.symm
  | 1 => exact Fin.ext h1.symm

/-- What a point reads of the gate's weights. -/
theorem w_val (c : Dev nD) (t : Fin cfg0.N) (k : Fin 704) (l : Fin 1024) (i : S1024x5632.Idx)
    (h0 : (i 0).val = l.val) (h1 : (i 1).val = t.val % 4 * 704 + k.val) :
    iblk m c 1 t (ix3 0 k l) = (m ((c : Thread nD τ).loc main_arg1) : FVec Ideal S1024x5632 .f32) i := by
  have hN : t.val < 16 := lt_of_lt_of_eq t.isLt N_0
  have hb : iblk m c 1 t (ix3 0 k l) = (V m c main_v2 : FVec Ideal S8x704x1024 .bf16) (ix3 ⟨t.val % 4, by omega⟩ k l) := by
    show (V m c main_v2 : FVec Ideal S8x704x1024 .bf16) _ = _
    generalize (V m c main_v2 : FVec Ideal S8x704x1024 .bf16) = X
    blk_point [idx_val t]
  rw [hb, entry_w]
  refine (rows_at _ _ k l).trans (congrArg _ ?_)
  funext a
  match a with
  | 0 => exact Fin.ext h0.symm
  | 1 => exact Fin.ext h1.symm

/-- What a point reads of the other half's weights. -/
theorem u_val (c : Dev nD) (t : Fin cfg0.N) (k : Fin 704) (l : Fin 1024) (i : S1024x5632.Idx)
    (h0 : (i 0).val = l.val) (h1 : (i 1).val = (t.val % 4 + 4) * 704 + k.val) :
    iblk m c 2 t (ix3 0 k l) = (m ((c : Thread nD τ).loc main_arg1) : FVec Ideal S1024x5632 .f32) i := by
  have hN : t.val < 16 := lt_of_lt_of_eq t.isLt N_0
  have hb : iblk m c 2 t (ix3 0 k l) = (V m c main_v2 : FVec Ideal S8x704x1024 .bf16) (ix3 ⟨t.val % 4 + 4, by omega⟩ k l) := by
    show (V m c main_v2 : FVec Ideal S8x704x1024 .bf16) _ = _
    generalize (V m c main_v2 : FVec Ideal S8x704x1024 .bf16) = X
    blk_point [idx_val t]
  rw [hb, entry_w]
  refine (rows_at _ _ k l).trans (congrArg _ ?_)
  funext a
  match a with
  | 0 => exact Fin.ext h0.symm
  | 1 => exact Fin.ext h1.symm

/-- One element of the activation: the kernel's spelling of the logistic function is the reference's. -/
theorem act_point {g g' u u' : EReal} (eg : g = g') (eu : u = u') :
    g * (Ideal.ofBits .f32 0x3F000000#32 * Ideal.tanh (Ideal.ofBits .f32 0x3F000000#32 * g) + Ideal.ofBits .f32 0x3F000000#32) * u
      = g' * Ideal.div 1 (1 + Ideal.exp (-g')) * u' := by
  rw [eg, eu, Cert.Gate.sig_all]

set_option maxHeartbeats 2000000 in
/-- The first array the region leaves is the reference's. -/
theorem final_h (c : Dev nD) :
    (dats m 0 c).arrAt 3 (cfgs 0).N = REFH (Cert.Hidden.pre (F := Ideal) (m ((c : Thread nD τ).loc main_arg0))
      (m ((c : Thread nD τ).loc main_arg1))) := by
  refine (dats m 0 c).arrAt_eq_of_covers 3 _ (by decide +kernel) fun t hf y => ?_
  blk_simp
  rw [after0_3]
  unfold out0_3
  canon_tiles x h
  all_goals
    obtain ⟨e0, e1, e2, e3, e4⟩ := idx_val t
    pointwise [k0_pay5, k0_pay4, k0_pay3, k0_pay2, k0_pay1, REFH, Cert.Hidden.pre]
  case piece0 =>
    refine Fin.sum_fin_congr fun k => Ideal.mul_congr ?_ ?_
    · refine x_val m c t _ _ _ ?_ ?_ <;> (blk_simp [idx_val t]; try (dsimp only; omega))
    · refine u_val m c t _ _ _ ?_ ?_ <;> (blk_simp [idx_val t]; try (dsimp only; omega))
  case piece1 =>
    refine Fin.sum_fin_congr fun k => Ideal.mul_congr ?_ ?_
    · refine x_val m c t _ _ _ ?_ ?_ <;> (blk_simp [idx_val t]; try (dsimp only; omega))
    · refine w_val m c t _ _ _ ?_ ?_ <;> (blk_simp [idx_val t]; try (dsimp only; omega))

set_option maxHeartbeats 2000000 in
/-- The second array the region leaves is the reference's. -/
theorem final_a (c : Dev nD) :
    (dats m 0 c).arrAt 4 (cfgs 0).N = REFA (Cert.Hidden.act (F := Ideal) (m ((c : Thread nD τ).loc main_arg0))
      (m ((c : Thread nD τ).loc main_arg1))) := by
  refine (dats m 0 c).arrAt_eq_of_covers 4 _ (by decide +kernel) fun t hf y => ?_
  blk_simp
  rw [after0_4]
  unfold out0_4
  canon_tiles x h
  all_goals
    obtain ⟨e0, e1, e2, e3, e4⟩ := idx_val t
    pointwise [k0_pay6, k0_pay3, k0_pay2, k0_pay1, REFA, Cert.Hidden.act, Cert.Hidden.sig, Cert.Hidden.one, Cert.Hidden.gate,
      Cert.Hidden.up, Cert.Hidden.pre]
  refine act_point ?_ ?_
  · refine Fin.sum_fin_congr fun k => Ideal.mul_congr ?_ ?_
    · refine x_val m c t _ _ _ ?_ ?_ <;> (blk_simp [idx_val t]; try (dsimp only; omega))
    · refine w_val m c t _ _ _ ?_ ?_ <;> (blk_simp [idx_val t]; try (dsimp only; omega))
  · refine Fin.sum_fin_congr fun k => Ideal.mul_congr ?_ ?_
    · refine x_val m c t _ _ _ ?_ ?_ <;> (blk_simp [idx_val t]; try (dsimp only; omega))
    · refine u_val m c t _ _ _ ?_ ?_ <;> (blk_simp [idx_val t]; try (dsimp only; omega))

end Cert.Kernel6Ideal.Hand

end
-- ==== Proof.Fy.lean ====
/-
  `Kernel7Ideal`, the forward call of the feed-forward block's result and of the normalisation after it: the arrays it returns are the
  reference's, at the ideal instance.
-/
module

public import proofs.«01_k».proof.Proof.Hidden
public import proofs.«01_k».proof.Proof.Scale
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen

/-! ## One row of the normalisation -/

/-- The mean of a row. -/
def mean (z : Fin 1024 → EReal) : EReal := Ideal.div (∑ k, z k) (Ideal.ofBits .f32 0x44800000#32)

/-- One over the root of the row's variance plus a small constant. -/
def rstd (z : Fin 1024 → EReal) : EReal :=
  Ideal.rsqrt (Ideal.div (∑ k, (z k - mean z) * (z k - mean z)) (Ideal.ofBits .f32 0x44800000#32) + Ideal.ofBits .f32 0x3727C5AC#32)

/-! ## The reference's results over the sum `Z` of the two branches -/

section Ref

open Cert.Reference7Ideal Cert.Reference7Ideal.Gen

/-- The sum of the two branches, over the activation. -/
def ZR (a : FVec Ideal S4096x2816 .f32) (x : FVec Ideal S4096x1024 .f32) (w : FVec Ideal S2816x1024 .f32) : FVec Ideal S4096x1024 .f32 :=
  addf (mulf (broadcastInDim S4096x1024 ![] bcast_S_S4096x1024 (constant S_ .f32 0x3FD744FD#32)) x)
    (mulf (broadcastInDim S4096x1024 ![] bcast_S_S4096x1024 (constant S_ .f32 0x3F000000#32))
      (Host.dotGeneral dot_S4096x2816_S2816x1024_S4096x1024_1_0_0_1_n_n none a w))

/-- The row minus its mean. -/
def XC (Z : FVec Ideal S4096x1024 .f32) : FVec Ideal S4096x1024 .f32 :=
  subf Z (broadcastInDim S4096x1024 ![0, 1] bcast_S4096x1_S4096x1024_0_1 (Host.divf (broadcastInDim S4096x1 ![0] bcast_S4096_S4096x1_0
    (Host.reduceAdd Z (constant S_ .f32 0x00000000#32) reducesTo_S4096x1024_S4096_d1 h_S_))
    (broadcastInDim S4096x1 ![] bcast_S_S4096x1 (constant S_ .f32 0x44800000#32))))

/-- The result of index 3. -/
def RSTD (Z : FVec Ideal S4096x1024 .f32) : FVec Ideal S4096x1 .f32 :=
  Host.rsqrt (addf (Host.divf (broadcastInDim S4096x1 ![0] bcast_S4096_S4096x1_0
    (Host.reduceAdd (mulf (XC Z) (XC Z)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x3727C5AC#32)))

/-- The result of index 2. -/
def XH (Z : FVec Ideal S4096x1024 .f32) : FVec Ideal S4096x1024 .f32 :=
  mulf (XC Z) (broadcastInDim S4096x1024 ![0, 1] bcast_S4096x1_S4096x1024_0_1 (RSTD Z))

/-- The result of index 0. -/
def OUT (Z : FVec Ideal S4096x1024 .f32) (g b : FVec Ideal S1024 .f32) : FVec Ideal S4096x1024 .f32 :=
  addf (mulf (XH Z) (broadcastInDim S4096x1024 ![0, 1] bcast_S1x1024_S4096x1024_0_1 (broadcastInDim S1x1024 ![1] bcast_S1024_S1x1024_1 g)))
    (broadcastInDim S4096x1024 ![0, 1] bcast_S1x1024_S4096x1024_0_1 (broadcastInDim S1x1024 ![1] bcast_S1024_S1x1024_1 b))

/-- The result of index 1. -/
def OUTB (Z : FVec Ideal S4096x1024 .f32) (g b : FVec Ideal S1024 .f32) : FVec Ideal S4096x1024 .bf16 :=
  truncf .bf16 (OUT Z g b) Cert.Reference7Ideal.Gen.bitsLt_bf16_f32

theorem XC_at (Z : FVec Ideal S4096x1024 .f32) (r : Fin 4096) (l : Fin 1024) :
    XC Z (ix2 r l) = Z (ix2 r l) - mean fun k => Z (ix2 r k) := by
  pointwise [XC, mean]

theorem RSTD_at (Z : FVec Ideal S4096x1024 .f32) (r : Fin 4096) :
    RSTD Z (ix2 r 0) = rstd fun k => Z (ix2 r k) := by
  pointwise [RSTD, XC, rstd, mean]

theorem XH_at (Z : FVec Ideal S4096x1024 .f32) (r : Fin 4096) (l : Fin 1024) :
    XH Z (ix2 r l) = (Z (ix2 r l) - mean fun k => Z (ix2 r k)) * rstd fun k => Z (ix2 r k) := by
  have e : XH Z (ix2 r l) = XC Z (ix2 r l) * RSTD Z (ix2 r 0) := by
    generalize hA : XC Z = A
    generalize hB : RSTD Z = B
    simp only [XH, hA, hB]
    pointwise
  rw [e, XC_at, RSTD_at]

theorem OUT_at (Z : FVec Ideal S4096x1024 .f32) (g b : FVec Ideal S1024 .f32) (r : Fin 4096) (l : Fin 1024) :
    OUT Z g b (ix2 r l) = (Z (ix2 r l) - mean fun k => Z (ix2 r k)) * (rstd fun k => Z (ix2 r k)) * g (ix1 l) + b (ix1 l) := by
  have e : OUT Z g b (ix2 r l) = XH Z (ix2 r l) * g (ix1 l) + b (ix1 l) := by
    generalize hA : XH Z = A
    simp only [OUT, hA]
    pointwise
  rw [e, XH_at]

end Ref

/-! ## The kernel's payloads -/

section Ker

variable (y x c : FVec Ideal S512x1024 .f32) (g b : FVec Ideal S1x1024 .f32)

theorem pay1_at (r : Fin 512) (l : Fin 1024) : k0_pay1 y x c (ix2 r l)
    = (x (ix2 r l) + c (ix2 r l) * y (ix2 r l)) - mean fun k => x (ix2 r k) + c (ix2 r k) * y (ix2 r k) := by
  pointwise [k0_pay1, mean]

theorem pay2_at (r : Fin 512) : k0_pay2 y x c (ix2 r 0) = rstd fun k => x (ix2 r k) + c (ix2 r k) * y (ix2 r k) := by
  pointwise [k0_pay2, k0_pay1, rstd, mean]

theorem pay3_at (r : Fin 512) (l : Fin 1024) : k0_pay3 y x c (ix2 r l)
    = ((x (ix2 r l) + c (ix2 r l) * y (ix2 r l)) - mean fun k => x (ix2 r k) + c (ix2 r k) * y (ix2 r k))
      * rstd fun k => x (ix2 r k) + c (ix2 r k) * y (ix2 r k) := by
  have e : k0_pay3 y x c (ix2 r l) = k0_pay1 y x c (ix2 r l) * k0_pay2 y x c (ix2 r 0) := by
    generalize hA : k0_pay1 y x c = A
    generalize hB : k0_pay2 y x c = B
    simp only [k0_pay3, hA, hB]
    pointwise
  rw [e, pay1_at, pay2_at]

theorem pay4_at (r : Fin 512) (l : Fin 1024) : k0_pay4 y x c g b (ix2 r l)
    = ((x (ix2 r l) + c (ix2 r l) * y (ix2 r l)) - mean fun k => x (ix2 r k) + c (ix2 r k) * y (ix2 r k))
      * (rstd fun k => x (ix2 r k) + c (ix2 r k) * y (ix2 r k)) * g (ix2 0 l) + b (ix2 0 l) := by
  have e : k0_pay4 y x c g b (ix2 r l) = k0_pay3 y x c (ix2 r l) * g (ix2 0 l) + b (ix2 0 l) := by
    generalize hA : k0_pay3 y x c = A
    simp only [k0_pay4, hA]
    pointwise
  rw [e, pay3_at]

end Ker

/-- A sum over the 2816 columns, as the kernel adds it: four blocks of 704. -/
theorem sum_blocks (f : Fin 2816 → EReal) : ∑ k, f k
    = (∑ k : Fin 704, f ⟨k.val, by omega⟩) + (∑ k : Fin 704, f ⟨704 + k.val, by omega⟩) + (∑ k : Fin 704, f ⟨1408 + k.val, by omega⟩)
      + (∑ k : Fin 704, f ⟨2112 + k.val, by omega⟩) := by
  have e := Fin.sum_univ_add (a := 2112) (b := 704) (M := EReal) (fun k => f ⟨k.val, by have := k.isLt; omega⟩)
  have e1 := Fin.sum_univ_add (a := 1408) (b := 704) (M := EReal) (fun k => f ⟨k.val, by have := k.isLt; omega⟩)
  have e2 := Fin.sum_univ_add (a := 704) (b := 704) (M := EReal) (fun k => f ⟨k.val, by have := k.isLt; omega⟩)
  exact e.trans (congrArg (· + _) (e1.trans (congrArg (· + _) e2)))

theorem pay9_at (x0 : Vec Ideal S4x512x704 .bf16) (x1 : Vec Ideal S4x704x1024 .bf16) (x2 : Vec Ideal S512x1024 .f32)
    (x3 x4 : Vec Ideal S1x1024 .f32) (r : Fin 512) (l : Fin 1024) : k0_pay9 x0 x1 x2 x3 x4 (ix2 r l)
    = (∑ k : Fin 704, x0 (ix3 0 r k) * x1 (ix3 0 k l)) + (∑ k : Fin 704, x0 (ix3 1 r k) * x1 (ix3 1 k l))
      + (∑ k : Fin 704, x0 (ix3 2 r k) * x1 (ix3 2 k l)) + (∑ k : Fin 704, x0 (ix3 3 r k) * x1 (ix3 3 k l)) := by
  pointwise [k0_pay9, k0_pay6]

theorem pay10_at (x0 : Vec Ideal S4x512x704 .bf16) (x1 : Vec Ideal S4x704x1024 .bf16) (x2 : Vec Ideal S512x1024 .f32)
    (x3 x4 : Vec Ideal S1x1024 .f32) (r : Fin 512) (l : Fin 1024) : k0_pay10 x0 x1 x2 x3 x4 (ix2 r l)
    = Ideal.ofBits .f32 0x3FD744FD#32 * x2 (ix2 r l) := by
  pointwise [k0_pay10, k0_pay7]

theorem pay11_at (x0 : Vec Ideal S4x512x704 .bf16) (x1 : Vec Ideal S4x704x1024 .bf16) (x2 : Vec Ideal S512x1024 .f32)
    (x3 x4 : Vec Ideal S1x1024 .f32) (r : Fin 512) (l : Fin 1024) : k0_pay11 x0 x1 x2 x3 x4 (ix2 r l)
    = Ideal.ofBits .f32 0x3F000000#32 := by
  pointwise [k0_pay11, k0_pay8]

theorem ZR_at (a : FVec Ideal Cert.Reference7Ideal.S4096x2816 .f32) (x : FVec Ideal S4096x1024 .f32) (w : FVec Ideal S2816x1024 .f32)
    (r : Fin 4096) (l : Fin 1024) : ZR a x w (ix2 r l)
    = Ideal.ofBits .f32 0x3FD744FD#32 * x (ix2 r l)
      + Ideal.ofBits .f32 0x3F000000#32 * ∑ k : Fin 2816, a (ix2 r k) * w (ix2 k l) := by
  pointwise [ZR]

/-! ## What a point reads -/

variable (m : (ℓ : Loc nD τ sig) → Buf (Elt Ideal) ℓ)

/-- Where each window's block lies at a point. -/
theorem idx_val : ∀ t : Fin cfg0.N, win0_0.index t = ![0, t.val, 0] ∧ win0_1.index t = ![0, 0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The activation as the region finds it. -/
theorem entry_a (c : Dev nD) : V m c main_v9
    = (truncf (F := Ideal) .bf16 (transpose S4x4096x704 [1, 0, 2] (shapeCast S4096x4x704
        (Cert.Hidden.act (F := Ideal) (m ((c : Thread nD τ).loc main_arg0)) (m ((c : Thread nD τ).loc main_arg1)))
        shapeCasts_S4096x2816_S4096x4x704) transposes_S4096x4x704_S4x4096x704_1_0_2) bitsLt_bf16_f32 : FVec Ideal S4x4096x704 .bf16) := by
  entry_read
  rfl

/-- The weights as the region finds them. -/
theorem entry_w (c : Dev nD) : V m c main_v1
    = (truncf (F := Ideal) .bf16 (shapeCast S4x704x1024 (m ((c : Thread nD τ).loc main_arg2) : FVec Ideal S2816x1024 .f32)
        shapeCasts_S2816x1024_S4x704x1024) bitsLt_bf16_f32 : FVec Ideal S4x704x1024 .bf16) := by
  entry_read
  rfl

/-- The gains and the shifts as the region finds them. -/
theorem entry_g (c : Dev nD) : V m c main_v10
    = (shapeCast S1x1024 (m ((c : Thread nD τ).loc main_arg3) : FVec Ideal S1024 .f32) shapeCasts_S1024_S1x1024 : FVec Ideal S1x1024 .f32) := by
  entry_read
  rfl

theorem entry_b (c : Dev nD) : V m c main_v11
    = (shapeCast S1x1024 (m ((c : Thread nD τ).loc main_arg4) : FVec Ideal S1024 .f32) shapeCasts_S1024_S1x1024 : FVec Ideal S1x1024 .f32) := by
  entry_read
  rfl

/-- The columns read in four blocks. -/
theorem cols_at (X : FVec Ideal S4096x2816 .f32) (p : Fin 4) (r : Fin 4096) (k : Fin 704) :
    (truncf (F := Ideal) .bf16 (transpose S4x4096x704 [1, 0, 2] (shapeCast S4096x4x704 X shapeCasts_S4096x2816_S4096x4x704)
      transposes_S4096x4x704_S4x4096x704_1_0_2) bitsLt_bf16_f32) (ix3 p r k) = X (ix2 r ⟨p.val * 704 + k.val, by omega⟩) := by
  pointwise

/-- The rows read in four blocks. -/
theorem rows_at (X : FVec Ideal S2816x1024 .f32) (q : Fin 4) (k : Fin 704) (l : Fin 1024) :
    (truncf (F := Ideal) .bf16 (shapeCast S4x704x1024 X shapeCasts_S2816x1024_S4x704x1024) bitsLt_bf16_f32) (ix3 q k l)
      = X (ix2 ⟨q.val * 704 + k.val, by omega⟩ l) := by
  pointwise

theorem row_at (X : FVec Ideal S1024 .f32) (l : Fin 1024) :
    (shapeCast S1x1024 X shapeCasts_S1024_S1x1024 : FVec Ideal S1x1024 .f32) (ix2 0 l) = X (ix1 l) := by
  pointwise

theorem row_lt (t : Fin cfg0.N) (r : Fin 512) : t.val * 512 + r.val < 4096 := by
  have hN : t.val < 8 := lt_of_lt_of_eq t.isLt N_0
  omega

theorem a_val (c : Dev nD) (t : Fin cfg0.N) (p : Fin 4) (r : Fin 512) (k : Fin 704) :
    iblk m c 0 t (ix3 p r k) = Cert.Hidden.act (F := Ideal) (m ((c : Thread nD τ).loc main_arg0)) (m ((c : Thread nD τ).loc main_arg1))
      (ix2 ⟨t.val * 512 + r.val, row_lt t r⟩ ⟨p.val * 704 + k.val, by omega⟩) := by
  have hb : iblk m c 0 t (ix3 p r k) = (V m c main_v9 : FVec Ideal S4x4096x704 .bf16) (ix3 p ⟨t.val * 512 + r.val, row_lt t r⟩ k) := by
    show (V m c main_v9 : FVec Ideal S4x4096x704 .bf16) _ = _
    generalize (V m c main_v9 : FVec Ideal S4x4096x704 .bf16) = X
    blk_point [idx_val t]
  rw [hb, entry_a]
  exact cols_at _ _ _ _

theorem w_val (c : Dev nD) (t : Fin cfg0.N) (q : Fin 4) (k : Fin 704) (l : Fin 1024) :
    iblk m c 1 t (ix3 q k l) = (m ((c : Thread nD τ).loc main_arg2) : FVec Ideal S2816x1024 .f32)
      (ix2 ⟨q.val * 704 + k.val, by omega⟩ l) := by
  have hb : iblk m c 1 t (ix3 q k l) = (V m c main_v1 : FVec Ideal S4x704x1024 .bf16) (ix3 q k l) := by
    show (V m c main_v1 : FVec Ideal S4x704x1024 .bf16) _ = _
    generalize (V m c main_v1 : FVec Ideal S4x704x1024 .bf16) = X
    blk_point [idx_val t]
  rw [hb, entry_w]
  exact rows_at _ _ _ _

theorem x_val (c : Dev nD) (t : Fin cfg0.N) (r : Fin 512) (l : Fin 1024) :
    iblk m c 2 t (ix2 r l) = (m ((c : Thread nD τ).loc main_arg0) : FVec Ideal S4096x1024 .f32)
      (ix2 ⟨t.val * 512 + r.val, row_lt t r⟩ l) := by
  show (V m c main_arg0 : FVec Ideal S4096x1024 .f32) _ = _
  blk_point [V, idx_val t]

theorem g_val (c : Dev nD) (t : Fin cfg0.N) (l : Fin 1024) :
    iblk m c 3 t (ix2 0 l) = (m ((c : Thread nD τ).loc main_arg3) : FVec Ideal S1024 .f32) (ix1 l) := by
  have hb : iblk m c 3 t (ix2 0 l) = (V m c main_v10 : FVec Ideal S1x1024 .f32) (ix2 0 l) := by
    show (V m c main_v10 : FVec Ideal S1x1024 .f32) _ = _
    generalize (V m c main_v10 : FVec Ideal S1x1024 .f32) = X
    blk_point [idx_val t]
  rw [hb, entry_g]
  exact row_at _ _

theorem b_val (c : Dev nD) (t : Fin cfg0.N) (l : Fin 1024) :
    iblk m c 4 t (ix2 0 l) = (m ((c : Thread nD τ).loc main_arg4) : FVec Ideal S1024 .f32) (ix1 l) := by
  have hb : iblk m c 4 t (ix2 0 l) = (V m c main_v11 : FVec Ideal S1x1024 .f32) (ix2 0 l) := by
    show (V m c main_v11 : FVec Ideal S1x1024 .f32) _ = _
    generalize (V m c main_v11 : FVec Ideal S1x1024 .f32) = X
    blk_point [idx_val t]
  rw [hb, entry_b]
  exact row_at _ _

/-- The sum of the two branches, over the arguments. -/
abbrev Z (c : Dev nD) : FVec Ideal S4096x1024 .f32 :=
  ZR (Cert.Hidden.act (F := Ideal) (m ((c : Thread nD τ).loc main_arg0)) (m ((c : Thread nD τ).loc main_arg1)))
    (m ((c : Thread nD τ).loc main_arg0)) (m ((c : Thread nD τ).loc main_arg2))

/-- A product of one block, from its operands' entries. -/
theorem dot_congr (A : Vec Ideal S4x512x704 .bf16) (B : Vec Ideal S4x704x1024 .bf16) (f g : Fin 704 → EReal) (q : Fin 4) (r : Fin 512)
    (l : Fin 1024) (hA : ∀ k, A (ix3 q r k) = f k) (hB : ∀ k, B (ix3 q k l) = g k) :
    (∑ k : Fin 704, A (ix3 q r k) * B (ix3 q k l)) = ∑ k : Fin 704, f k * g k :=
  Fin.sum_fin_congr fun k => Ideal.mul_congr (hA k) (hB k)

/-- The sum of the two branches as a point forms it. -/
theorem z_val (c : Dev nD) (t : Fin cfg0.N) (r : Fin 512) (l : Fin 1024) :
    k0_pay10 (iblk m c 0 t) (iblk m c 1 t) (iblk m c 2 t) (iblk m c 3 t) (iblk m c 4 t) (ix2 r l)
      + k0_pay11 (iblk m c 0 t) (iblk m c 1 t) (iblk m c 2 t) (iblk m c 3 t) (iblk m c 4 t) (ix2 r l)
        * k0_pay9 (iblk m c 0 t) (iblk m c 1 t) (iblk m c 2 t) (iblk m c 3 t) (iblk m c 4 t) (ix2 r l)
      = Z m c (ix2 ⟨t.val * 512 + r.val, row_lt t r⟩ l) := by
  refine Eq.trans ?_ (ZR_at _ _ _ _ _).symm
  rw [pay10_at, pay11_at, pay9_at, sum_blocks, x_val]
  have e (q : Fin 4) := dot_congr (iblk m c 0 t) (iblk m c 1 t) _ _ q r l (fun k => a_val m c t q r k) (fun k => w_val m c t q k l)
  rw [e 0, e 1, e 2, e 3]
  simp only [Fin.val_zero, Fin.val_one, Nat.zero_mul, Nat.one_mul, Nat.zero_add]
  rfl

theorem xh_congr {z z' : Fin 1024 → EReal} (h : ∀ k, z k = z' k) (l : Fin 1024) :
    (z l - mean z) * rstd z = (z' l - mean z') * rstd z' := by
  rw [funext h]

theorem out_congr {z z' : Fin 1024 → EReal} (h : ∀ k, z k = z' k) (l : Fin 1024) {g g' b b' : EReal} (hg : g = g') (hb : b = b') :
    (z l - mean z) * rstd z * g + b = (z' l - mean z') * rstd z' * g' + b' := by
  rw [funext h, hg, hb]

theorem ld_row (X : Vec Ideal S1x1024 .f32) (l : Fin 1024) : View.ld X r0_10 (ix2 0 l) = X (ix2 0 l) := by
  pointwise

set_option maxHeartbeats 2000000 in
/-- The array of output 0: normalised rows times the gains plus the shifts. -/
theorem final_out (c : Dev nD) : (dats m 0 c).arrAt 5 (cfgs 0).N
    = OUT (Z m c) (m ((c : Thread nD τ).loc main_arg3)) (m ((c : Thread nD τ).loc main_arg4)) := by
  refine (dats m 0 c).arrAt_eq_of_covers 5 _ (by decide +kernel) fun t hf y => ?_
  blk_simp
  rw [after0_5]
  unfold out0_5
  canon_tiles x h
  have hx : x = ix2 (x 0) (x 1) := by
    funext a
    match a with
    | 0 => rfl
    | 1 => rfl
  have hy : (win0_5.blk t).view.emb y = ix2 ⟨t.val * 512 + (x 0).val, row_lt t (x 0)⟩ (x 1) := by
    funext a
    match a with
    | 0 => exact Fin.ext (by blk_simp [idx_val t]; try dsimp only; omega)
    | 1 => exact Fin.ext (by blk_simp [idx_val t]; try dsimp only; omega)
  refine (congrArg _ hx).trans (Eq.trans ?_ (congrArg _ hy).symm)
  refine (pay4_at _ _ _ _ _ _ _).trans (Eq.trans ?_ (OUT_at _ _ _ _ _).symm)
  exact out_congr (fun k => z_val m c t (x 0) k) (x 1) ((ld_row _ _).trans (g_val m c t _)) ((ld_row _ _).trans (b_val m c t _))

set_option maxHeartbeats 2000000 in
/-- The array of output 1: the same rounded. -/
theorem final_outb (c : Dev nD) : (dats m 0 c).arrAt 6 (cfgs 0).N
    = OUTB (Z m c) (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  canon_tiles x h
  have hx : x = ix2 (x 0) (x 1) := by
    funext a
    match a with
    | 0 => rfl
    | 1 => rfl
  have hy : (win0_6.blk t).view.emb y = ix2 ⟨t.val * 512 + (x 0).val, row_lt t (x 0)⟩ (x 1) := by
    funext a
    match a with
    | 0 => exact Fin.ext (by blk_simp [idx_val t]; try dsimp only; omega)
    | 1 => exact Fin.ext (by blk_simp [idx_val t]; try dsimp only; omega)
  refine (congrArg _ hx).trans (Eq.trans ?_ (congrArg _ hy).symm)
  refine (pay4_at _ _ _ _ _ _ _).trans (Eq.trans ?_ (OUT_at _ _ _ _ _).symm)
  exact out_congr (fun k => z_val m c t (x 0) k) (x 1) ((ld_row _ _).trans (g_val m c t _)) ((ld_row _ _).trans (b_val m c t _))

set_option maxHeartbeats 2000000 in
/-- The array of output 2: normalised rows. -/
theorem final_xh (c : Dev nD) : (dats m 0 c).arrAt 7 (cfgs 0).N
    = XH (Z m c) := by
  refine (dats m 0 c).arrAt_eq_of_covers 7 _ (by decide +kernel) fun t hf y => ?_
  blk_simp
  rw [after0_7]
  unfold out0_7
  canon_tiles x h
  have hx : x = ix2 (x 0) (x 1) := by
    funext a
    match a with
    | 0 => rfl
    | 1 => rfl
  have hy : (win0_7.blk t).view.emb y = ix2 ⟨t.val * 512 + (x 0).val, row_lt t (x 0)⟩ (x 1) := by
    funext a
    match a with
    | 0 => exact Fin.ext (by blk_simp [idx_val t]; try dsimp only; omega)
    | 1 => exact Fin.ext (by blk_simp [idx_val t]; try dsimp only; omega)
  refine (congrArg _ hx).trans (Eq.trans ?_ (congrArg _ hy).symm)
  refine (pay3_at _ _ _ _ _).trans (Eq.trans ?_ (XH_at _ _ _).symm)
  exact xh_congr (fun k => z_val m c t (x 0) k) (x 1)

set_option maxHeartbeats 2000000 in
/-- The array of output 3: reciprocal deviations. -/
theorem final_rstd (c : Dev nD) : (dats m 0 c).arrAt 8 (cfgs 0).N
    = RSTD (Z m c) := by
  refine (dats m 0 c).arrAt_eq_of_covers 8 _ (by decide +kernel) fun t hf y => ?_
  blk_simp
  rw [after0_8]
  unfold out0_8
  canon_tiles x h
  have hx : x = ix2 (x 0) 0 := by
    funext a
    match a with
    | 0 => rfl
    | 1 => exact Fin.ext (Nat.lt_one_iff.mp x1_lt)
  have hy : (win0_8.blk t).view.emb y = ix2 ⟨t.val * 512 + (x 0).val, row_lt t (x 0)⟩ 0 := by
    funext a
    match a with
    | 0 => exact Fin.ext (by blk_simp [idx_val t]; try dsimp only; omega)
    | 1 => exact Fin.ext (by blk_simp [idx_val t]; first | rfl | omega)
  refine (congrArg _ hx).trans (Eq.trans ?_ (congrArg _ hy).symm)
  refine (pay2_at _ _ _ _).trans (Eq.trans ?_ (RSTD_at _ _).symm)
  exact congrArg rstd (funext fun k => z_val m c t (x 0) k)

end Cert.Kernel7Ideal.Hand

end
-- ==== Proof.FwdClaims.lean ====
/-
  The two forward calls of the feed-forward block: their claims, from the arrays `Fh` and `Fy` find and the references' own runs.
-/
module

public import proofs.«01_k».proof.Defs
public import proofs.«01_k».proof.Proof.Fh
public import proofs.«01_k».proof.Proof.Fy
public import Idealize.ShloMosaic.Lib.Quiescent

@[expose] public section

set_option maxRecDepth 16384

noncomputable section

open Idealize.ShloMosaic Idealize.ShloMosaic.TcCoe Idealize.SL.Sem

namespace Cert.FwdClaims

/-! ## The hidden layer -/

/-- The reference runs, ends with every counter at zero and keeps its arguments. -/
theorem frame_r6 : quiescent_Reference6Ideal (hReference6Ideal := Cert.Reference6Ideal.Gen.facts) := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The arrays the kernel returns are the reference's results. -/
theorem result_6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (ρ' : Dev Cert.Reference6Ideal.nD → PrngReg)
    (hagree : ∀ c : Dev Cert.Kernel6Ideal.nD, m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) :
    θ_run Cert.Reference6Ideal.defs (onTc (τ := Cert.Reference6Ideal.τ) (Cert.Reference6Ideal.main (F := Ideal))) ⟨m', fun _ => 0, ρ'⟩ fun r => ∀ c : Dev Cert.Reference6Ideal.nD,
      r.2.mem ((c.tc : Thread Cert.Reference6Ideal.nD Cert.Reference6Ideal.τ).loc Cert.Reference6Ideal.main_v8) = Cert.Kernel6Ideal.Hand.REFH (Cert.Hidden.pre (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)))
      ∧ r.2.mem ((c.tc : Thread Cert.Reference6Ideal.nD Cert.Reference6Ideal.τ).loc Cert.Reference6Ideal.main_v10) = Cert.Kernel6Ideal.Hand.REFA (Cert.Hidden.act (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)))
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1) := by
  refine (θ_run Cert.Reference6Ideal.defs _ _).mono (fun r h c => ⟨(h c).1.trans ?_, (h c).2.1.trans ?_, (h c).2.2⟩) (Cert.Reference6Ideal.Value.run (F := Ideal) m' ρ')
  · obtain ⟨h0, h1⟩ := hagree c
    try rw [h0]
    try rw [h1]
    rfl
  · obtain ⟨h0, h1⟩ := hagree c
    try rw [h0]
    try rw [h1]
    rfl

/-- The kernel and the reference return equal arrays. -/
theorem value_6 : algebraic_Kernel6Ideal_Reference6Ideal (hKernel6Ideal := Cert.Kernel6Ideal.Gen.facts)
    (hReference6Ideal := Cert.Reference6Ideal.Gen.facts) := fun m ρ m' ρ' _ hagree =>
  ⟨fun c => Cert.Kernel6Ideal.Hand.REFH (Cert.Hidden.pre (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))), fun c => Cert.Kernel6Ideal.Hand.REFA (Cert.Hidden.act (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))),
    (θ_run Cert.Kernel6Ideal.defs _ _).mono (fun r h c => ⟨(h c).1.trans (Cert.Kernel6Ideal.Hand.final_h m c), (h c).2.1.trans (Cert.Kernel6Ideal.Hand.final_a m c), (h c).2.2⟩)
      (Cert.Kernel6Ideal.Value.run_blocks (F := Ideal) m ρ),
    result_6 m m' ρ' hagree⟩

/-! ## The result and the normalisation -/

/-- The reference runs, ends with every counter at zero and keeps its arguments. -/
theorem frame_r7 : quiescent_Reference7Ideal (hReference7Ideal := Cert.Reference7Ideal.Gen.facts) := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

/-- The arrays the kernel returns are the reference's results. -/
theorem result_7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (ρ' : Dev Cert.Reference7Ideal.nD → PrngReg)
    (hagree : ∀ c : Dev Cert.Kernel7Ideal.nD, m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) :
    θ_run Cert.Reference7Ideal.defs (onTc (τ := Cert.Reference7Ideal.τ) (Cert.Reference7Ideal.main (F := Ideal))) ⟨m', fun _ => 0, ρ'⟩ fun r => ∀ c : Dev Cert.Reference7Ideal.nD,
      r.2.mem ((c.tc : Thread Cert.Reference7Ideal.nD Cert.Reference7Ideal.τ).loc Cert.Reference7Ideal.main_v34) = Cert.Kernel7Ideal.Hand.OUT (Cert.Kernel7Ideal.Hand.Z m c) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))
      ∧ r.2.mem ((c.tc : Thread Cert.Reference7Ideal.nD Cert.Reference7Ideal.τ).loc Cert.Reference7Ideal.main_v35) = Cert.Kernel7Ideal.Hand.OUTB (Cert.Kernel7Ideal.Hand.Z m c) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))
      ∧ r.2.mem ((c.tc : Thread Cert.Reference7Ideal.nD Cert.Reference7Ideal.τ).loc Cert.Reference7Ideal.main_v28) = Cert.Kernel7Ideal.Hand.XH (Cert.Kernel7Ideal.Hand.Z m c)
      ∧ r.2.mem ((c.tc : Thread Cert.Reference7Ideal.nD Cert.Reference7Ideal.τ).loc Cert.Reference7Ideal.main_v24) = Cert.Kernel7Ideal.Hand.RSTD (Cert.Kernel7Ideal.Hand.Z m c)
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4) := by
  refine (θ_run Cert.Reference7Ideal.defs _ _).mono (fun r h c => ⟨(h c).1.trans ?_, (h c).2.1.trans ?_, (h c).2.2.1.trans ?_, (h c).2.2.2.1.trans ?_, (h c).2.2.2.2⟩) (Cert.Reference7Ideal.Value.run (F := Ideal) m' ρ')
  · obtain ⟨h0, h1, h2, h3, h4⟩ := hagree c
    unfold Cert.Reference7Ideal.Value.res_main_v34
    try rw [h0]
    try rw [h1]
    try rw [h2]
    try rw [h3]
    try rw [h4]
    rfl
  · obtain ⟨h0, h1, h2, h3, h4⟩ := hagree c
    unfold Cert.Reference7Ideal.Value.res_main_v35
    try rw [h0]
    try rw [h1]
    try rw [h2]
    try rw [h3]
    try rw [h4]
    rfl
  · obtain ⟨h0, h1, h2, h3, h4⟩ := hagree c
    unfold Cert.Reference7Ideal.Value.res_main_v28
    try rw [h0]
    try rw [h1]
    try rw [h2]
    try rw [h3]
    try rw [h4]
    rfl
  · obtain ⟨h0, h1, h2, h3, h4⟩ := hagree c
    unfold Cert.Reference7Ideal.Value.res_main_v24
    try rw [h0]
    try rw [h1]
    try rw [h2]
    try rw [h3]
    try rw [h4]
    rfl

/-- The kernel and the reference return equal arrays. -/
theorem value_7 : algebraic_Kernel7Ideal_Reference7Ideal (hKernel7Ideal := Cert.Kernel7Ideal.Gen.facts)
    (hReference7Ideal := Cert.Reference7Ideal.Gen.facts) := fun m ρ m' ρ' _ hagree =>
  ⟨fun c => Cert.Kernel7Ideal.Hand.OUT (Cert.Kernel7Ideal.Hand.Z m c) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), fun c => Cert.Kernel7Ideal.Hand.OUTB (Cert.Kernel7Ideal.Hand.Z m c) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), fun c => Cert.Kernel7Ideal.Hand.XH (Cert.Kernel7Ideal.Hand.Z m c), fun c => Cert.Kernel7Ideal.Hand.RSTD (Cert.Kernel7Ideal.Hand.Z m c),
    (θ_run Cert.Kernel7Ideal.defs _ _).mono (fun r h c => ⟨(h c).1.trans (Cert.Kernel7Ideal.Hand.final_out m c), (h c).2.1.trans (Cert.Kernel7Ideal.Hand.final_outb m c), (h c).2.2.1.trans (Cert.Kernel7Ideal.Hand.final_xh m c), (h c).2.2.2.1.trans (Cert.Kernel7Ideal.Hand.final_rstd m c), (h c).2.2.2.2⟩)
      (Cert.Kernel7Ideal.Value.run_blocks (F := Ideal) m ρ),
    result_7 m m' ρ' hagree⟩

end Cert.FwdClaims

end
-- ==== Proof.Mm8.lean ====
/-
  `Kernel8Ideal`, the projection of the mixer input to queries, keys, values and gates: the array it returns is the
  reference's, at the ideal instance.
-/
module

public import proofs.«01_k».proof.Proof.Scale
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen

variable (m : (ℓ : Loc nD τ sig) → Buf (Elt Ideal) ℓ)

/-- The reference's result over its arguments. -/
def REF (x : FVec Ideal Cert.Reference8Ideal.S4096x1024 .f32) (w : FVec Ideal Cert.Reference8Ideal.S1024x3200 .f32) :
    FVec Ideal Cert.Reference8Ideal.S4096x3200 .f32 :=
  Host.dotGeneral Cert.Reference8Ideal.dot_S4096x1024_S1024x3200_S4096x3200_1_0_0_1_n_n none x w

/-- Operand 1 of the product as the region finds it. -/
theorem entry_0 (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Operand 2 of the product as the region finds it. -/
theorem entry_1 (c : Dev nD) : V m c main_v1
    = (truncf (F := Ideal) .bf16 (m ((c : Thread nD τ).loc main_arg1) : FVec Ideal S1024x3200 .f32) bitsLt_bf16_f32 : FVec Ideal S1024x3200 .bf16) := by
  entry_read; rfl

/-- Where each window's block lies at a point. -/
theorem idx_val : ∀ t : Fin cfg0.N, win0_0.index t = ![t.val / 5, 0] ∧ win0_1.index t = ![0, t.val % 5] ∧ win0_2.index t = ![t.val / 5, t.val % 5] :=
  (by decide +kernel : ∀ t : Fin grid0.N, _)

/-- The zero payload. -/
theorem hzero (j : S512x640.Idx) : k0_pay1 (F := Ideal) j = 0 := by pointwise [k0_pay1]

/-- The accumulating payload. -/
theorem hpay (a : FVec Ideal S512x1024 .bf16) (b : FVec Ideal S1024x640 .bf16) (acc : FVec Ideal S512x640 .f32) (j : S512x640.Idx) :
    k0_pay2 a b acc j = acc j + ∑ k : Fin 1024, a (ix2 (j 0) k) * b (ix2 k (j 1)) := by
  pointwise [k0_pay2]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => Ideal.mul_congr ?_ ?_
  · show (V m c main_v0) _ = _
    rw [entry_0]
    pointwise
    blk_point [idx_val t]
  · show (V m c main_v1) _ = _
    rw [entry_1]
    pointwise
    blk_point [idx_val t]

end Cert.Kernel8Ideal.Hand

end
-- ==== Proof.Mm9.lean ====
/-
  `Kernel9Ideal`, the projection of the attention result: the array it returns is the
  reference's, at the ideal instance.
-/
module

public import proofs.«01_k».proof.Proof.Scale
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen

variable (m : (ℓ : Loc nD τ sig) → Buf (Elt Ideal) ℓ)

/-- The reference's result over its arguments. -/
def REF (x : FVec Ideal Cert.Reference9Ideal.S4096x1024 .f32) (w : FVec Ideal Cert.Reference9Ideal.S1024x1024 .f32) :
    FVec Ideal Cert.Reference9Ideal.S4096x1024 .f32 :=
  Host.dotGeneral Cert.Reference9Ideal.dot_S4096x1024_S1024x1024_S4096x1024_1_0_0_1_n_n none x w

/-- Operand 1 of the product as the region finds it. -/
theorem entry_0 (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Operand 2 of the product as the region finds it. -/
theorem entry_1 (c : Dev nD) : V m c main_v1
    = (truncf (F := Ideal) .bf16 (m ((c : Thread nD τ).loc main_arg1) : FVec Ideal S1024x1024 .f32) bitsLt_bf16_f32 : FVec Ideal S1024x1024 .bf16) := by
  entry_read; rfl

/-- Where each window's block lies at a point. -/
theorem idx_val : ∀ t : Fin cfg0.N, win0_0.index t = ![t.val, 0] ∧ win0_1.index t = ![0, 0] ∧ win0_2.index t = ![t.val, 0] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S512x1024 .bf16) (b : FVec Ideal S1024x1024 .bf16) (acc : FVec Ideal S512x1024 .f32) (j : S512x1024.Idx) :
    k0_pay2 a b acc j = acc j + ∑ k : Fin 1024, a (ix2 (j 0) k) * b (ix2 k (j 1)) := by
  pointwise [k0_pay2]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => Ideal.mul_congr ?_ ?_
  · show (V m c main_v0) _ = _
    rw [entry_0]
    pointwise
    blk_point [idx_val t]
  · show (V m c main_v1) _ = _
    rw [entry_1]
    pointwise
    blk_point [idx_val t]

end Cert.Kernel9Ideal.Hand

end
-- ==== Proof.Mm10.lean ====
/-
  `Kernel10Ideal`, the gradient of the projection of the attention result with respect to its weight: the array it returns is the
  reference's, at the ideal instance.
-/
module

public import proofs.«01_k».proof.Proof.Scale
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen

variable (m : (ℓ : Loc nD τ sig) → Buf (Elt Ideal) ℓ)

/-- The reference's result over its arguments. -/
def REF (x : FVec Ideal Cert.Reference10Ideal.S4096x1024 .f32) (w : FVec Ideal Cert.Reference10Ideal.S4096x1024 .f32) :
    FVec Ideal Cert.Reference10Ideal.S1024x1024 .f32 :=
  transpose Cert.Reference10Ideal.S1024x1024 [1, 0] (Host.dotGeneral Cert.Reference10Ideal.dot_S4096x1024_S4096x1024_S1024x1024_0_0_1_1_n_n none w x) Cert.Reference10Ideal.Gen.transposes_S1024x1024_S1024x1024_1_0

/-- Operand 1 of the product as the region finds it. -/
theorem entry_0 (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Where each window's block lies at a point. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S2048x512 .bf16) (b : FVec Ideal S2048x1024 .f32) (acc : FVec Ideal S512x1024 .f32) (j : S512x1024.Idx) :
    k0_pay2 a b acc j = acc j + ∑ k : Fin 2048, a (ix2 k (j 0)) * b (ix2 k (j 1)) := by
  pointwise [k0_pay2]

/-- A product of two equal pairs, in either order. -/
theorem mul_swap {x y a b : EReal} (h : x = a) (k : y = b) : x * y = b * a := by rw [h, k, mul_comm]

/-- At the last point of a run the output is the accumulator. -/
theorem out_last (c : Dev nD) (t : Fin cfg0.N) (h : t.val % 2 = 1) :
    (outsAt0 m c t.val t.isLt).1 = (outsAt0 m c t.val t.isLt).2 := by
  rw [outsAt0_B m c t (by omega) h]
  frame_out

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, out_last m c t ht]
  pointwise [REF]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay]; exact congrArg (· + _) (congrFun (Memref.IsWhole.read_unread (Memref.isWhole_whole cc0_scratch0) _) j))
    t ht _, zero_add]
  refine Fin.sum_mul_add_congr (hL := by norm_num) fun s k hl => mul_swap ?_ ?_
  · show (V m c main_v0) _ = _
    rw [entry_0]
    pointwise
    blk_point [idx_val t, idx_val ⟨_, Pipeline.run_point_lt_of_flush t ((flush0_2 t).mp hf) s⟩]
  · show (V m c main_arg1) _ = _
    blk_point [V, idx_val t, idx_val ⟨_, Pipeline.run_point_lt_of_flush t ((flush0_2 t).mp hf) s⟩]

end Cert.Kernel10Ideal.Hand

end
-- ==== Proof.Mm11.lean ====
/-
  `Kernel11Ideal`, the gradient of the projection of the attention result with respect to its input: the array it returns is the
  reference's, at the ideal instance.
-/
module

public import proofs.«01_k».proof.Proof.Scale
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Hand

open Cert.Kernel11Ideal Cert.Kernel11Ideal.Gen

variable (m : (ℓ : Loc nD τ sig) → Buf (Elt Ideal) ℓ)

/-- The reference's result over its arguments. -/
def REF (x : FVec Ideal Cert.Reference11Ideal.S4096x1024 .f32) (w : FVec Ideal Cert.Reference11Ideal.S1024x1024 .f32) :
    FVec Ideal Cert.Reference11Ideal.S4096x1024 .f32 :=
  Host.dotGeneral Cert.Reference11Ideal.dot_S4096x1024_S1024x1024_S4096x1024_1_1_0_0_n_n none x w

/-- Operand 2 of the product as the region finds it. -/
theorem entry_1 (c : Dev nD) : V m c main_v0
    = (truncf (F := Ideal) .bf16 (m ((c : Thread nD τ).loc main_arg1) : FVec Ideal S1024x1024 .f32) bitsLt_bf16_f32 : FVec Ideal S1024x1024 .bf16) := by
  entry_read; rfl

/-- Where each window's block lies at a point. -/
theorem idx_val : ∀ t : Fin cfg0.N, win0_0.index t = ![t.val, 0] ∧ win0_1.index t = ![0, 0] ∧ win0_2.index t = ![t.val, 0] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S512x1024 .f32) (b : FVec Ideal S1024x1024 .bf16) (acc : FVec Ideal S512x1024 .f32) (j : S512x1024.Idx) :
    k0_pay2 a b acc j = acc j + ∑ k : Fin 1024, a (ix2 (j 0) k) * b (ix2 (j 1) k) := by
  pointwise [k0_pay2]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => Ideal.mul_congr ?_ ?_
  · show (V m c main_arg0) _ = _
    blk_point [V, idx_val t]
  · show (V m c main_v0) _ = _
    rw [entry_1]
    pointwise
    blk_point [idx_val t]

end Cert.Kernel11Ideal.Hand

end
-- ==== Proof.Mm12.lean ====
/-
  `Kernel12Ideal`, the gradient of the mixer input projection with respect to its weight: the array it returns is the
  reference's, at the ideal instance.
-/
module

public import proofs.«01_k».proof.Proof.Scale
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Hand

open Cert.Kernel12Ideal Cert.Kernel12Ideal.Gen

variable (m : (ℓ : Loc nD τ sig) → Buf (Elt Ideal) ℓ)

/-- The reference's result over its arguments. -/
def REF (x : FVec Ideal Cert.Reference12Ideal.S4096x1024 .f32) (w : FVec Ideal Cert.Reference12Ideal.S4096x3200 .f32) :
    FVec Ideal Cert.Reference12Ideal.S1024x3200 .f32 :=
  transpose Cert.Reference12Ideal.S1024x3200 [1, 0] (Host.dotGeneral Cert.Reference12Ideal.dot_S4096x3200_S4096x1024_S3200x1024_0_0_1_1_n_n none w x) Cert.Reference12Ideal.Gen.transposes_S3200x1024_S1024x3200_1_0

/-- Operand 2 of the product as the region finds it. -/
theorem entry_1 (c : Dev nD) : V m c main_v0
    = (truncf (F := Ideal) .bf16 (m ((c : Thread nD τ).loc main_arg1) : FVec Ideal S4096x3200 .f32) bitsLt_bf16_f32 : FVec Ideal S4096x3200 .bf16) := by
  entry_read; rfl

/-- Where each window's block lies at a point. -/
theorem idx_val : ∀ t : Fin cfg0.N, win0_0.index t = ![0, t.val / 5] ∧ win0_1.index t = ![0, t.val % 5] ∧ win0_2.index t = ![t.val / 5, t.val % 5] :=
  (by decide +kernel : ∀ t : Fin grid0.N, _)

/-- The zero payload. -/
theorem hzero (j : S512x640.Idx) : k0_pay1 (F := Ideal) j = 0 := by pointwise [k0_pay1]

/-- The accumulating payload. -/
theorem hpay (a : FVec Ideal S4096x512 .f32) (b : FVec Ideal S4096x640 .bf16) (acc : FVec Ideal S512x640 .f32) (j : S512x640.Idx) :
    k0_pay2 a b acc j = acc j + ∑ k : Fin 4096, a (ix2 k (j 0)) * b (ix2 k (j 1)) := by
  pointwise [k0_pay2]

/-- A product of two equal pairs, in either order. -/
theorem mul_swap {x y a b : EReal} (h : x = a) (k : y = b) : x * y = b * a := by rw [h, k, mul_comm]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => mul_swap ?_ ?_
  · show (V m c main_arg0) _ = _
    blk_point [V, idx_val t]
  · show (V m c main_v0) _ = _
    rw [entry_1]
    pointwise
    blk_point [idx_val t]

end Cert.Kernel12Ideal.Hand

end
-- ==== Proof.Mm13.lean ====
/-
  `Kernel13Ideal`, the gradient of the mixer input projection, with its residual branch, with respect to its input: the array it returns is the
  reference's, at the ideal instance.
-/
module

public import proofs.«01_k».proof.Proof.Scale
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Hand

open Cert.Kernel13Ideal Cert.Kernel13Ideal.Gen

variable (m : (ℓ : Loc nD τ sig) → Buf (Elt Ideal) ℓ)

/-- The reference's result over its arguments. -/
def REF (x : FVec Ideal Cert.Reference13Ideal.S4096x3200 .f32) (w : FVec Ideal Cert.Reference13Ideal.S1024x3200 .f32) (z : FVec Ideal Cert.Reference13Ideal.S4096x1024 .f32) :
    FVec Ideal Cert.Reference13Ideal.S4096x1024 .f32 :=
  addf (mulf (broadcastInDim Cert.Reference13Ideal.S4096x1024 ![] Cert.Reference13Ideal.Gen.bcast_S_S4096x1024 (constant Cert.Reference13Ideal.S_ .f32 0x3FD744FD#32)) z) (Host.dotGeneral Cert.Reference13Ideal.dot_S4096x3200_S1024x3200_S4096x1024_1_1_0_0_n_n none x w)

/-- Operand 1 of the product as the region finds it. -/
theorem entry_0 (c : Dev nD) : V m c main_v0
    = (truncf (F := Ideal) .bf16 (m ((c : Thread nD τ).loc main_arg0) : FVec Ideal S4096x3200 .f32) bitsLt_bf16_f32 : FVec Ideal S4096x3200 .bf16) := by
  entry_read; rfl

/-- Operand 2 of the product as the region finds it. -/
theorem entry_1 (c : Dev nD) : V m c main_v1
    = (truncf (F := Ideal) .bf16 (m ((c : Thread nD τ).loc main_arg1) : FVec Ideal S1024x3200 .f32) bitsLt_bf16_f32 : FVec Ideal S1024x3200 .bf16) := by
  entry_read; rfl

/-- Where each window's block lies at a point. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S512x3200 .bf16) (b : FVec Ideal S1024x3200 .bf16) (acc : FVec Ideal S512x1024 .f32) (j : S512x1024.Idx) :
    k0_pay2 a b acc j = acc j + ∑ k : Fin 3200, a (ix2 (j 0) k) * b (ix2 (j 1) k) := by
  pointwise [k0_pay2]

/-- A sum of two equal pairs, in the other order. -/
theorem add_swap {x y a b : EReal} (h : x = b) (k : y = a) : x + y = a + b := by rw [h, k, add_comm]

/-- The array the region leaves is the reference's product. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold Gen.outsAt0
  frame_out
  pointwise [k0_pay3, k0_pay2, k0_pay1, REF]
  refine add_swap (Fin.sum_fin_congr fun x => Ideal.mul_congr ?_ ?_) (Ideal.mul_congr rfl ?_)
  · show (V m c main_v0) _ = _
    rw [entry_0]
    pointwise
    blk_point [idx_val t]
  · show (V m c main_v1) _ = _
    rw [entry_1]
    pointwise
    blk_point [idx_val t]
  · show (V m c main_arg2) _ = _
    blk_point [V, idx_val t]

end Cert.Kernel13Ideal.Hand

end
-- ==== Proof.Mm14.lean ====
/-
  `Kernel14Ideal`, the projection at the end of the state-space layer to values and gates: the array it returns is the
  reference's, at the ideal instance.
-/
module

public import proofs.«01_k».proof.Proof.Scale
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Hand

open Cert.Kernel14Ideal Cert.Kernel14Ideal.Gen

variable (m : (ℓ : Loc nD τ sig) → Buf (Elt Ideal) ℓ)

/-- The reference's result over its arguments. -/
def REF (x : FVec Ideal Cert.Reference14Ideal.S4096x1024 .f32) (w : FVec Ideal Cert.Reference14Ideal.S1024x2048 .f32) :
    FVec Ideal Cert.Reference14Ideal.S4096x2048 .f32 :=
  Host.dotGeneral Cert.Reference14Ideal.dot_S4096x1024_S1024x2048_S4096x2048_1_0_0_1_n_n none x w

/-- Operand 1 of the product as the region finds it. -/
theorem entry_0 (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Operand 2 of the product as the region finds it. -/
theorem entry_1 (c : Dev nD) : V m c main_v1
    = (truncf (F := Ideal) .bf16 (m ((c : Thread nD τ).loc main_arg1) : FVec Ideal S1024x2048 .f32) bitsLt_bf16_f32 : FVec Ideal S1024x2048 .bf16) := by
  entry_read; rfl

/-- Where each window's block lies at a point. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S512x1024 .bf16) (b : FVec Ideal S1024x1024 .bf16) (acc : FVec Ideal S512x1024 .f32) (j : S512x1024.Idx) :
    k0_pay2 a b acc j = acc j + ∑ k : Fin 1024, a (ix2 (j 0) k) * b (ix2 k (j 1)) := by
  pointwise [k0_pay2]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => Ideal.mul_congr ?_ ?_
  · show (V m c main_v0) _ = _
    rw [entry_0]
    pointwise
    blk_point [idx_val t]
  · show (V m c main_v1) _ = _
    rw [entry_1]
    pointwise
    blk_point [idx_val t]

end Cert.Kernel14Ideal.Hand

end
-- ==== Proof.Mm15.lean ====
/-
  `Kernel15Ideal`, the gradient of the projection at the end of the state-space layer with respect to its weight: the array it returns is the
  reference's, at the ideal instance.
-/
module

public import proofs.«01_k».proof.Proof.Scale
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Hand

open Cert.Kernel15Ideal Cert.Kernel15Ideal.Gen

variable (m : (ℓ : Loc nD τ sig) → Buf (Elt Ideal) ℓ)

/-- The reference's result over its arguments. -/
def REF (x : FVec Ideal Cert.Reference15Ideal.S4096x1024 .f32) (w : FVec Ideal Cert.Reference15Ideal.S4096x2048 .f32) :
    FVec Ideal Cert.Reference15Ideal.S1024x2048 .f32 :=
  transpose Cert.Reference15Ideal.S1024x2048 [1, 0] (Host.dotGeneral Cert.Reference15Ideal.dot_S4096x2048_S4096x1024_S2048x1024_0_0_1_1_n_n none w x) Cert.Reference15Ideal.Gen.transposes_S2048x1024_S1024x2048_1_0

/-- Operand 1 of the product as the region finds it. -/
theorem entry_0 (c : Dev nD) : V m c main_v0
    = (truncf (F := Ideal) .bf16 (m ((c : Thread nD τ).loc main_arg0) : FVec Ideal S4096x1024 .f32) bitsLt_bf16_f32 : FVec Ideal S4096x1024 .bf16) := by
  entry_read; rfl

/-- Operand 2 of the product as the region finds it. -/
theorem entry_1 (c : Dev nD) : V m c main_v1
    = (truncf (F := Ideal) .bf16 (m ((c : Thread nD τ).loc main_arg1) : FVec Ideal S4096x2048 .f32) bitsLt_bf16_f32 : FVec Ideal S4096x2048 .bf16) := by
  entry_read; rfl

/-- Where each window's block lies at a point. -/
theorem idx_val : ∀ t : Fin cfg0.N, win0_0.index t = ![0, t.val / 2] ∧ win0_1.index t = ![0, t.val % 2] ∧ win0_2.index t = ![t.val / 2, t.val % 2] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S4096x512 .bf16) (b : FVec Ideal S4096x1024 .bf16) (acc : FVec Ideal S512x1024 .f32) (j : S512x1024.Idx) :
    k0_pay2 a b acc j = acc j + ∑ k : Fin 4096, a (ix2 k (j 0)) * b (ix2 k (j 1)) := by
  pointwise [k0_pay2]

/-- A product of two equal pairs, in either order. -/
theorem mul_swap {x y a b : EReal} (h : x = a) (k : y = b) : x * y = b * a := by rw [h, k, mul_comm]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => mul_swap ?_ ?_
  · show (V m c main_v0) _ = _
    rw [entry_0]
    pointwise
    blk_point [idx_val t]
  · show (V m c main_v1) _ = _
    rw [entry_1]
    pointwise
    blk_point [idx_val t]

end Cert.Kernel15Ideal.Hand

end
-- ==== Proof.Mm16.lean ====
/-
  `Kernel16Ideal`, the gradient of the projection at the end of the state-space layer with respect to its input: the array it returns is the
  reference's, at the ideal instance.
-/
module

public import proofs.«01_k».proof.Proof.Scale
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Hand

open Cert.Kernel16Ideal Cert.Kernel16Ideal.Gen

variable (m : (ℓ : Loc nD τ sig) → Buf (Elt Ideal) ℓ)

/-- The reference's result over its arguments. -/
def REF (x : FVec Ideal Cert.Reference16Ideal.S4096x2048 .f32) (w : FVec Ideal Cert.Reference16Ideal.S1024x2048 .f32) :
    FVec Ideal Cert.Reference16Ideal.S4096x1024 .f32 :=
  Host.dotGeneral Cert.Reference16Ideal.dot_S4096x2048_S1024x2048_S4096x1024_1_1_0_0_n_n none x w

/-- Operand 1 of the product as the region finds it. -/
theorem entry_0 (c : Dev nD) : V m c main_v0
    = (truncf (F := Ideal) .bf16 (m ((c : Thread nD τ).loc main_arg0) : FVec Ideal S4096x2048 .f32) bitsLt_bf16_f32 : FVec Ideal S4096x2048 .bf16) := by
  entry_read; rfl

/-- Operand 2 of the product as the region finds it. -/
theorem entry_1 (c : Dev nD) : V m c main_v1
    = (truncf (F := Ideal) .bf16 (m ((c : Thread nD τ).loc main_arg1) : FVec Ideal S1024x2048 .f32) bitsLt_bf16_f32 : FVec Ideal S1024x2048 .bf16) := by
  entry_read; rfl

/-- Where each window's block lies at a point. -/
theorem idx_val : ∀ t : Fin cfg0.N, win0_0.index t = ![t.val, 0] ∧ win0_1.index t = ![0, 0] ∧ win0_2.index t = ![t.val, 0] :=
  (by decide +kernel : ∀ t : Fin grid0.N, _)

/-- The zero payload. -/
theorem hzero (j : S512x1024.Idx) : k0_pay1 (F := Ideal) j = 0 := by pointwise [k0_pay1]

/-- The accumulating payload. -/
theorem hpay (a : FVec Ideal S512x2048 .bf16) (b : FVec Ideal S1024x2048 .bf16) (acc : FVec Ideal S512x1024 .f32) (j : S512x1024.Idx) :
    k0_pay2 a b acc j = acc j + ∑ k : Fin 2048, a (ix2 (j 0) k) * b (ix2 (j 1) k) := by
  pointwise [k0_pay2]

/-- The array the region leaves is the reference's product. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay2, k0_pay1, REF]
  refine Fin.sum_fin_congr fun x => Ideal.mul_congr ?_ ?_
  · show (V m c main_v0) _ = _
    rw [entry_0]
    pointwise
    blk_point [idx_val t]
  · show (V m c main_v1) _ = _
    rw [entry_1]
    pointwise
    blk_point [idx_val t]

end Cert.Kernel16Ideal.Hand

end
-- ==== Proof.MmClaims.lean ====
/-
  The products around the two mixers: their claims, from the arrays the modules `Mm8` to `Mm16` find and the references' own runs.
-/
module

public import proofs.«01_k».proof.Defs
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import Idealize.ShloMosaic.Lib.Quiescent

@[expose] public section

set_option maxRecDepth 16384

noncomputable section

open Idealize.ShloMosaic Idealize.ShloMosaic.TcCoe Idealize.SL.Sem

namespace Cert.MmClaims

/-! ## The projection of the mixer input to queries, keys, values and gates -/

/-- The reference runs, ends with every counter at zero and keeps its arguments. -/
theorem frame_r8 : quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The array the kernel returns is the reference's result. -/
theorem result_8 (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (ρ' : Dev Cert.Reference8Ideal.nD → PrngReg)
    (hagree : ∀ c : Dev Cert.Kernel8Ideal.nD, m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) :
    θ_run Cert.Reference8Ideal.defs (onTc (τ := Cert.Reference8Ideal.τ) (Cert.Reference8Ideal.main (F := Ideal))) ⟨m', fun _ => 0, ρ'⟩ fun r => ∀ c : Dev Cert.Reference8Ideal.nD,
      r.2.mem ((c.tc : Thread Cert.Reference8Ideal.nD Cert.Reference8Ideal.τ).loc Cert.Reference8Ideal.main_v0) = Cert.Kernel8Ideal.Hand.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
      ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1) := by
  refine (θ_run Cert.Reference8Ideal.defs _ _).mono (fun r h c => ⟨(h c).1.trans ?_, (h c).2⟩) (Cert.Reference8Ideal.Value.run (F := Ideal) m' ρ')
  obtain ⟨h0, h1⟩ := hagree c
  rw [h0, h1]
  rfl

/-- The kernel and the reference return equal arrays. -/
theorem value_8 : algebraic_Kernel8Ideal_Reference8Ideal (hKernel8Ideal := Cert.Kernel8Ideal.Gen.facts)
    (hReference8Ideal := Cert.Reference8Ideal.Gen.facts) := fun m ρ m' ρ' _ hagree =>
  ⟨fun c => Cert.Kernel8Ideal.Hand.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans ((Cert.Kernel8Ideal.Hand.final m c)), (h c).2⟩)
      (Cert.Kernel8Ideal.Value.run_blocks (F := Ideal) m ρ),
    result_8 m m' ρ' hagree⟩

/-! ## The projection of the attention result -/

/-- The reference runs, ends with every counter at zero and keeps its arguments. -/
theorem frame_r9 : quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The array the kernel returns is the reference's result. -/
theorem result_9 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (ρ' : Dev Cert.Reference9Ideal.nD → PrngReg)
    (hagree : ∀ c : Dev Cert.Kernel9Ideal.nD, m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) :
    θ_run Cert.Reference9Ideal.defs (onTc (τ := Cert.Reference9Ideal.τ) (Cert.Reference9Ideal.main (F := Ideal))) ⟨m', fun _ => 0, ρ'⟩ fun r => ∀ c : Dev Cert.Reference9Ideal.nD,
      r.2.mem ((c.tc : Thread Cert.Reference9Ideal.nD Cert.Reference9Ideal.τ).loc Cert.Reference9Ideal.main_v0) = Cert.Kernel9Ideal.Hand.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))
      ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1) := by
  refine (θ_run Cert.Reference9Ideal.defs _ _).mono (fun r h c => ⟨(h c).1.trans ?_, (h c).2⟩) (Cert.Reference9Ideal.Value.run (F := Ideal) m' ρ')
  obtain ⟨h0, h1⟩ := hagree c
  rw [h0, h1]
  rfl

/-- The kernel and the reference return equal arrays. -/
theorem value_9 : algebraic_Kernel9Ideal_Reference9Ideal (hKernel9Ideal := Cert.Kernel9Ideal.Gen.facts)
    (hReference9Ideal := Cert.Reference9Ideal.Gen.facts) := fun m ρ m' ρ' _ hagree =>
  ⟨fun c => Cert.Kernel9Ideal.Hand.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans ((Cert.Kernel9Ideal.Hand.final m c)), (h c).2⟩)
      (Cert.Kernel9Ideal.Value.run_blocks (F := Ideal) m ρ),
    result_9 m m' ρ' hagree⟩

/-! ## The gradient of the projection of the attention result with respect to its weight -/

/-- The reference runs, ends with every counter at zero and keeps its arguments. -/
theorem frame_r10 : quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The array the kernel returns is the reference's result. -/
theorem result_10 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (ρ' : Dev Cert.Reference10Ideal.nD → PrngReg)
    (hagree : ∀ c : Dev Cert.Kernel10Ideal.nD, m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) :
    θ_run Cert.Reference10Ideal.defs (onTc (τ := Cert.Reference10Ideal.τ) (Cert.Reference10Ideal.main (F := Ideal))) ⟨m', fun _ => 0, ρ'⟩ fun r => ∀ c : Dev Cert.Reference10Ideal.nD,
      r.2.mem ((c.tc : Thread Cert.Reference10Ideal.nD Cert.Reference10Ideal.τ).loc Cert.Reference10Ideal.main_v3) = Cert.Kernel10Ideal.Hand.REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))
      ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1) := by
  refine (θ_run Cert.Reference10Ideal.defs _ _).mono (fun r h c => ⟨(h c).1.trans ?_, (h c).2⟩) (Cert.Reference10Ideal.Value.run (F := Ideal) m' ρ')
  obtain ⟨h0, h1⟩ := hagree c
  rw [h0, h1]
  rfl

/-- The kernel and the reference return equal arrays. -/
theorem value_10 : algebraic_Kernel10Ideal_Reference10Ideal (hKernel10Ideal := Cert.Kernel10Ideal.Gen.facts)
    (hReference10Ideal := Cert.Reference10Ideal.Gen.facts) := fun m ρ m' ρ' _ hagree =>
  ⟨fun c => Cert.Kernel10Ideal.Hand.REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun r h c => ⟨(h c).1.trans (Eq.trans (Cert.Kernel10Ideal.Value.final2 m c).symm (Cert.Kernel10Ideal.Hand.final m c)), (h c).2⟩)
      (Cert.Kernel10Ideal.Value.run (F := Ideal) m ρ),
    result_10 m m' ρ' hagree⟩

/-! ## The gradient of the projection of the attention result with respect to its input -/

/-- The reference runs, ends with every counter at zero and keeps its arguments. -/
theorem frame_r11 : quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The array the kernel returns is the reference's result. -/
theorem result_11 (m : (ℓ : Loc Cert.Kernel11Ideal.nD Cert.Kernel11Ideal.τ Cert.Kernel11Ideal.sig) → Buf (Elt Ideal) ℓ)
    (m' : (ℓ : Loc Cert.Reference11Ideal.nD Cert.Reference11Ideal.τ Cert.Reference11Ideal.sig) → Buf (Elt Ideal) ℓ) (ρ' : Dev Cert.Reference11Ideal.nD → PrngReg)
    (hagree : ∀ c : Dev Cert.Kernel11Ideal.nD, m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) :
    θ_run Cert.Reference11Ideal.defs (onTc (τ := Cert.Reference11Ideal.τ) (Cert.Reference11Ideal.main (F := Ideal))) ⟨m', fun _ => 0, ρ'⟩ fun r => ∀ c : Dev Cert.Reference11Ideal.nD,
      r.2.mem ((c.tc : Thread Cert.Reference11Ideal.nD Cert.Reference11Ideal.τ).loc Cert.Reference11Ideal.main_v2) = Cert.Kernel11Ideal.Hand.REF (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))
      ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1) := by
  refine (θ_run Cert.Reference11Ideal.defs _ _).mono (fun r h c => ⟨(h c).1.trans ?_, (h c).2⟩) (Cert.Reference11Ideal.Value.run (F := Ideal) m' ρ')
  obtain ⟨h0, h1⟩ := hagree c
  rw [h0, h1]
  rfl

/-- The kernel and the reference return equal arrays. -/
theorem value_11 : algebraic_Kernel11Ideal_Reference11Ideal (hKernel11Ideal := Cert.Kernel11Ideal.Gen.facts)
    (hReference11Ideal := Cert.Reference11Ideal.Gen.facts) := fun m ρ m' ρ' _ hagree =>
  ⟨fun c => Cert.Kernel11Ideal.Hand.REF (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun r h c => ⟨(h c).1.trans ((Cert.Kernel11Ideal.Hand.final m c)), (h c).2⟩)
      (Cert.Kernel11Ideal.Value.run_blocks (F := Ideal) m ρ),
    result_11 m m' ρ' hagree⟩

/-! ## The gradient of the mixer input projection with respect to its weight -/

/-- The reference runs, ends with every counter at zero and keeps its arguments. -/
theorem frame_r12 : quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The array the kernel returns is the reference's result. -/
theorem result_12 (m : (ℓ : Loc Cert.Kernel12Ideal.nD Cert.Kernel12Ideal.τ Cert.Kernel12Ideal.sig) → Buf (Elt Ideal) ℓ)
    (m' : (ℓ : Loc Cert.Reference12Ideal.nD Cert.Reference12Ideal.τ Cert.Reference12Ideal.sig) → Buf (Elt Ideal) ℓ) (ρ' : Dev Cert.Reference12Ideal.nD → PrngReg)
    (hagree : ∀ c : Dev Cert.Kernel12Ideal.nD, m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) :
    θ_run Cert.Reference12Ideal.defs (onTc (τ := Cert.Reference12Ideal.τ) (Cert.Reference12Ideal.main (F := Ideal))) ⟨m', fun _ => 0, ρ'⟩ fun r => ∀ c : Dev Cert.Reference12Ideal.nD,
      r.2.mem ((c.tc : Thread Cert.Reference12Ideal.nD Cert.Reference12Ideal.τ).loc Cert.Reference12Ideal.main_v3) = Cert.Kernel12Ideal.Hand.REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))
      ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1) := by
  refine (θ_run Cert.Reference12Ideal.defs _ _).mono (fun r h c => ⟨(h c).1.trans ?_, (h c).2⟩) (Cert.Reference12Ideal.Value.run (F := Ideal) m' ρ')
  obtain ⟨h0, h1⟩ := hagree c
  rw [h0, h1]
  rfl

/-- The kernel and the reference return equal arrays. -/
theorem value_12 : algebraic_Kernel12Ideal_Reference12Ideal (hKernel12Ideal := Cert.Kernel12Ideal.Gen.facts)
    (hReference12Ideal := Cert.Reference12Ideal.Gen.facts) := fun m ρ m' ρ' _ hagree =>
  ⟨fun c => Cert.Kernel12Ideal.Hand.REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ⟨(h c).1.trans ((Cert.Kernel12Ideal.Hand.final m c)), (h c).2⟩)
      (Cert.Kernel12Ideal.Value.run_blocks (F := Ideal) m ρ),
    result_12 m m' ρ' hagree⟩

/-! ## The gradient of the mixer input projection, with its residual branch, with respect to its input -/

/-- The reference runs, ends with every counter at zero and keeps its arguments. -/
theorem frame_r13 : quiescent_Reference13Ideal (hReference13Ideal := Cert.Reference13Ideal.Gen.facts) := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The array the kernel returns is the reference's result. -/
theorem result_13 (m : (ℓ : Loc Cert.Kernel13Ideal.nD Cert.Kernel13Ideal.τ Cert.Kernel13Ideal.sig) → Buf (Elt Ideal) ℓ)
    (m' : (ℓ : Loc Cert.Reference13Ideal.nD Cert.Reference13Ideal.τ Cert.Reference13Ideal.sig) → Buf (Elt Ideal) ℓ) (ρ' : Dev Cert.Reference13Ideal.nD → PrngReg)
    (hagree : ∀ c : Dev Cert.Kernel13Ideal.nD, m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) :
    θ_run Cert.Reference13Ideal.defs (onTc (τ := Cert.Reference13Ideal.τ) (Cert.Reference13Ideal.main (F := Ideal))) ⟨m', fun _ => 0, ρ'⟩ fun r => ∀ c : Dev Cert.Reference13Ideal.nD,
      r.2.mem ((c.tc : Thread Cert.Reference13Ideal.nD Cert.Reference13Ideal.τ).loc Cert.Reference13Ideal.main_v7) = Cert.Kernel13Ideal.Hand.REF (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))
      ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2) := by
  refine (θ_run Cert.Reference13Ideal.defs _ _).mono (fun r h c => ⟨(h c).1.trans ?_, (h c).2⟩) (Cert.Reference13Ideal.Value.run (F := Ideal) m' ρ')
  obtain ⟨h0, h1, h2⟩ := hagree c
  rw [h0, h1, h2]
  rfl

/-- The kernel and the reference return equal arrays. -/
theorem value_13 : algebraic_Kernel13Ideal_Reference13Ideal (hKernel13Ideal := Cert.Kernel13Ideal.Gen.facts)
    (hReference13Ideal := Cert.Reference13Ideal.Gen.facts) := fun m ρ m' ρ' _ hagree =>
  ⟨fun c => Cert.Kernel13Ideal.Hand.REF (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run Cert.Kernel13Ideal.defs _ _).mono (fun r h c => ⟨(h c).1.trans ((Cert.Kernel13Ideal.Hand.final m c)), (h c).2⟩)
      (Cert.Kernel13Ideal.Value.run_blocks (F := Ideal) m ρ),
    result_13 m m' ρ' hagree⟩

/-! ## The projection at the end of the state-space layer to values and gates -/

/-- The reference runs, ends with every counter at zero and keeps its arguments. -/
theorem frame_r14 : quiescent_Reference14Ideal (hReference14Ideal := Cert.Reference14Ideal.Gen.facts) := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- The array the kernel returns is the reference's result. -/
theorem result_14 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ) (ρ' : Dev Cert.Reference14Ideal.nD → PrngReg)
    (hagree : ∀ c : Dev Cert.Kernel14Ideal.nD, m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) :
    θ_run Cert.Reference14Ideal.defs (onTc (τ := Cert.Reference14Ideal.τ) (Cert.Reference14Ideal.main (F := Ideal))) ⟨m', fun _ => 0, ρ'⟩ fun r => ∀ c : Dev Cert.Reference14Ideal.nD,
      r.2.mem ((c.tc : Thread Cert.Reference14Ideal.nD Cert.Reference14Ideal.τ).loc Cert.Reference14Ideal.main_v0) = Cert.Kernel14Ideal.Hand.REF (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))
      ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1) := by
  refine (θ_run Cert.Reference14Ideal.defs _ _).mono (fun r h c => ⟨(h c).1.trans ?_, (h c).2⟩) (Cert.Reference14Ideal.Value.run (F := Ideal) m' ρ')
  obtain ⟨h0, h1⟩ := hagree c
  rw [h0, h1]
  rfl

/-- The kernel and the reference return equal arrays. -/
theorem value_14 : algebraic_Kernel14Ideal_Reference14Ideal (hKernel14Ideal := Cert.Kernel14Ideal.Gen.facts)
    (hReference14Ideal := Cert.Reference14Ideal.Gen.facts) := fun m ρ m' ρ' _ hagree =>
  ⟨fun c => Cert.Kernel14Ideal.Hand.REF (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ⟨(h c).1.trans ((Cert.Kernel14Ideal.Hand.final m c)), (h c).2⟩)
      (Cert.Kernel14Ideal.Value.run_blocks (F := Ideal) m ρ),
    result_14 m m' ρ' hagree⟩

/-! ## The gradient of the projection at the end of the state-space layer with respect to its weight -/

/-- The reference runs, ends with every counter at zero and keeps its arguments. -/
theorem frame_r15 : quiescent_Reference15Ideal (hReference15Ideal := Cert.Reference15Ideal.Gen.facts) := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

/-- The array the kernel returns is the reference's result. -/
theorem result_15 (m : (ℓ : Loc Cert.Kernel15Ideal.nD Cert.Kernel15Ideal.τ Cert.Kernel15Ideal.sig) → Buf (Elt Ideal) ℓ)
    (m' : (ℓ : Loc Cert.Reference15Ideal.nD Cert.Reference15Ideal.τ Cert.Reference15Ideal.sig) → Buf (Elt Ideal) ℓ) (ρ' : Dev Cert.Reference15Ideal.nD → PrngReg)
    (hagree : ∀ c : Dev Cert.Kernel15Ideal.nD, m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) :
    θ_run Cert.Reference15Ideal.defs (onTc (τ := Cert.Reference15Ideal.τ) (Cert.Reference15Ideal.main (F := Ideal))) ⟨m', fun _ => 0, ρ'⟩ fun r => ∀ c : Dev Cert.Reference15Ideal.nD,
      r.2.mem ((c.tc : Thread Cert.Reference15Ideal.nD Cert.Reference15Ideal.τ).loc Cert.Reference15Ideal.main_v3) = Cert.Kernel15Ideal.Hand.REF (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))
      ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1) := by
  refine (θ_run Cert.Reference15Ideal.defs _ _).mono (fun r h c => ⟨(h c).1.trans ?_, (h c).2⟩) (Cert.Reference15Ideal.Value.run (F := Ideal) m' ρ')
  obtain ⟨h0, h1⟩ := hagree c
  rw [h0, h1]
  rfl

/-- The kernel and the reference return equal arrays. -/
theorem value_15 : algebraic_Kernel15Ideal_Reference15Ideal (hKernel15Ideal := Cert.Kernel15Ideal.Gen.facts)
    (hReference15Ideal := Cert.Reference15Ideal.Gen.facts) := fun m ρ m' ρ' _ hagree =>
  ⟨fun c => Cert.Kernel15Ideal.Hand.REF (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun r h c => ⟨(h c).1.trans ((Cert.Kernel15Ideal.Hand.final m c)), (h c).2⟩)
      (Cert.Kernel15Ideal.Value.run_blocks (F := Ideal) m ρ),
    result_15 m m' ρ' hagree⟩

/-! ## The gradient of the projection at the end of the state-space layer with respect to its input -/

/-- The reference runs, ends with every counter at zero and keeps its arguments. -/
theorem frame_r16 : quiescent_Reference16Ideal (hReference16Ideal := Cert.Reference16Ideal.Gen.facts) := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

/-- The array the kernel returns is the reference's result. -/
theorem result_16 (m : (ℓ : Loc Cert.Kernel16Ideal.nD Cert.Kernel16Ideal.τ Cert.Kernel16Ideal.sig) → Buf (Elt Ideal) ℓ)
    (m' : (ℓ : Loc Cert.Reference16Ideal.nD Cert.Reference16Ideal.τ Cert.Reference16Ideal.sig) → Buf (Elt Ideal) ℓ) (ρ' : Dev Cert.Reference16Ideal.nD → PrngReg)
    (hagree : ∀ c : Dev Cert.Kernel16Ideal.nD, m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) :
    θ_run Cert.Reference16Ideal.defs (onTc (τ := Cert.Reference16Ideal.τ) (Cert.Reference16Ideal.main (F := Ideal))) ⟨m', fun _ => 0, ρ'⟩ fun r => ∀ c : Dev Cert.Reference16Ideal.nD,
      r.2.mem ((c.tc : Thread Cert.Reference16Ideal.nD Cert.Reference16Ideal.τ).loc Cert.Reference16Ideal.main_v2) = Cert.Kernel16Ideal.Hand.REF (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1))
      ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1) := by
  refine (θ_run Cert.Reference16Ideal.defs _ _).mono (fun r h c => ⟨(h c).1.trans ?_, (h c).2⟩) (Cert.Reference16Ideal.Value.run (F := Ideal) m' ρ')
  obtain ⟨h0, h1⟩ := hagree c
  rw [h0, h1]
  rfl

/-- The kernel and the reference return equal arrays. -/
theorem value_16 : algebraic_Kernel16Ideal_Reference16Ideal (hKernel16Ideal := Cert.Kernel16Ideal.Gen.facts)
    (hReference16Ideal := Cert.Reference16Ideal.Gen.facts) := fun m ρ m' ρ' _ hagree =>
  ⟨fun c => Cert.Kernel16Ideal.Hand.REF (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun r h c => ⟨(h c).1.trans ((Cert.Kernel16Ideal.Hand.final m c)), (h c).2⟩)
      (Cert.Kernel16Ideal.Value.run_blocks (F := Ideal) m ρ),
    result_16 m m' ρ' hagree⟩

end Cert.MmClaims

end
-- ==== Proof.KFrame17.lean ====
/-
  The backward call of the forgetting attention, returning the gradient of the values, `Kernel17Ideal`: its frame. The call runs one pipeline over the grid of 8 head pairs by
  8 key blocks. The body is run once, at a symbolic grid point and from any contents of the eleven staging buffers and the seven scratch
  buffers, to its return; nothing is asked of what it leaves. Hence every run of the program ends, with its argument arrays as they were.
-/
module

public import proofs.«01_k».proof.Proof.Gen.Kernel17Ideal.Frame
public import proofs.«01_k».proof.Proof.Gen.Kernel17Ideal.Skeleton
public import proofs.«01_k».proof.Proof.Gen.Kernel17Ideal.Loops
public import Idealize.ShloMosaic.Lib.Pipeline.Frame
public import Idealize.ShloMosaic.Lib.Tactic

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

/-- A memref owned whole at some contents. -/
abbrev some' (c : Dev nD) {S : Shape} {e : EltTy} (M : Memref sig .tc .vmem S e) : sProp 𝕄 :=
  iprop(∃ d, owns (c : Thread nD τ) M fullShare d)

set_option maxHeartbeats 0 in
/-- The body's run at any grid point: from any contents of its operands to its return. -/
theorem kernelRun (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole) (K : PUnit → sProp 𝕄) :
    iprop((some' (F := F) c arg2 ∗ some' (F := F) c arg3 ∗ some' (F := F) c arg4 ∗ some' (F := F) c arg5 ∗ some' (F := F) c arg6 ∗ some' (F := F) c arg7
          ∗ some' (F := F) c arg8 ∗ some' (F := F) c arg9 ∗ some' (F := F) c arg10 ∗ some' (F := F) c arg11 ∗ some' (F := F) c arg12
          ∗ some' (F := F) c arg13 ∗ some' (F := F) c arg14 ∗ some' (F := F) c arg15 ∗ some' (F := F) c arg16 ∗ some' (F := F) c arg17 ∗ some' (F := F) c arg18 ∗ some' (F := F) c arg19)
        ∗ (iprop(some' (F := F) c arg2 ∗ some' (F := F) c arg3 ∗ some' (F := F) c arg4 ∗ some' (F := F) c arg5 ∗ some' (F := F) c arg6 ∗ some' (F := F) c arg7
          ∗ some' (F := F) c arg8 ∗ some' (F := F) c arg9 ∗ some' (F := F) c arg10 ∗ some' (F := F) c arg11 ∗ some' (F := F) c arg12
          ∗ some' (F := F) c arg13 ∗ some' (F := F) c arg14 ∗ some' (F := F) c arg15 ∗ some' (F := F) c arg16 ∗ some' (F := F) c arg17 ∗ some' (F := F) c arg18 ∗ some' (F := F) c arg19)
          -∗ K ⟨⟩))
      ⊢ wp frame (wpE (defs₀ (F := F)) Variants.none c none) Set.univ
          (cc0_fox_attn_bwd i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19) K := by
  unfold some' owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, ⟨%d13, %f13, -, H13⟩,
    ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  by_cases h1 : k0_cond1 i = 1#1 <;> by_cases h2 : k0_cond2 i = 1#1
  all_goals
    sl_unfold [cc0_fox_attn_bwd]
    sl_exec
    sl_step
    iapply Hk
    isplitl [H2]; iexists _, _; isplitr; swap; iexact H2; ipureintro; rfl
    isplitl [H3]; iexists _, _; isplitr; swap; iexact H3; ipureintro; rfl
    isplitl [H4]; iexists _, _; isplitr; swap; iexact H4; ipureintro; rfl
    isplitl [H5]; iexists _, _; isplitr; swap; iexact H5; ipureintro; rfl
    isplitl [H6]; iexists _, _; isplitr; swap; iexact H6; ipureintro; rfl
    isplitl [H7]; iexists _, _; isplitr; swap; iexact H7; ipureintro; rfl
    isplitl [H8]; iexists _, _; isplitr; swap; iexact H8; ipureintro; rfl
    isplitl [H9]; iexists _, _; isplitr; swap; iexact H9; ipureintro; rfl
    isplitl [H10]; iexists _, _; isplitr; swap; iexact H10; ipureintro; rfl
    isplitl [H11]; iexists _, _; isplitr; swap; iexact H11; ipureintro; rfl
    isplitl [H12]; iexists _, _; isplitr; swap; iexact H12; ipureintro; rfl
    isplitl [H13]; iexists _, _; isplitr; swap; iexact H13; ipureintro; rfl
    isplitl [H14]; iexists _, _; isplitr; swap; iexact H14; ipureintro; rfl
    isplitl [H15]; iexists _, _; isplitr; swap; iexact H15; ipureintro; rfl
    isplitl [H16]; iexists _, _; isplitr; swap; iexact H16; ipureintro; rfl
    isplitl [H17]; iexists _, _; isplitr; swap; iexact H17; ipureintro; rfl
    isplitl [H18]; iexists _, _; isplitr; swap; iexact H18; ipureintro; rfl
    iexists _, _; isplitr; swap; iexact H19; ipureintro; rfl

end Cert.Kernel17Ideal.Hand

end
-- ==== Proof.KRun17.lean ====
/-
  The backward call of the forgetting attention, returning the gradient of the values, `Kernel17Ideal`: every run ends, with the argument arrays as they were and every
  semaphore counter at zero. The proof data says nothing of what the body leaves in a staging buffer; the scratch buffers are held at
  some contents between two grid points.
-/
module

public import proofs.«01_k».proof.Proof.KFrame17
public import proofs.«01_k».proof.Proof.Gen.Kernel17Ideal.Points

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them, nothing asked of the staging buffers, the scratch buffers at
    some contents between the points, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The invariant between two points, buffer by buffer: the seven scratch buffers at some contents, the generator register at some
    state. -/
theorem ΦA0_eq (c : Dev nD) :
    (Pipeline.ΦA spec0 c : sProp 𝕄)
      = iprop((some' (F := F) c (Memref.whole cc0_scratch0) ∗ some' (F := F) c (Memref.whole cc0_scratch1) ∗ some' (F := F) c (Memref.whole cc0_scratch2)
          ∗ some' (F := F) c (Memref.whole cc0_scratch3) ∗ some' (F := F) c (Memref.whole cc0_scratch4) ∗ some' (F := F) c (Memref.whole cc0_scratch5)
          ∗ some' (F := F) c (Memref.whole cc0_scratch6)) ∗ ∃ r, prngReg c r) := by
  unfold Pipeline.ΦA
  rw [scopedRest0_eq]; simp only [some', owns_whole]

/-- The body table's row at the point is the body on the point's staging buffers. -/
theorem defs₀_row (t : Fin cfg0.N) : defs₀ (F := F) .tc cfg0.body (cfg0.bodyArgs t (cfg0.slots t)) = bodyAt0 t := by
  unfold defs₀; rw [Defs.onTc_tc]

/-- The body at every grid point keeps the invariant and hands every staging buffer back. -/
theorem body_obligation (c : Dev nD) : (rdat (F := F) m c).BodyObligation (defs₀ (F := F)) Variants.none () Set.univ := fun t Y _ => by
  rw [bigSep_W0, bigSep_W0, defs₀_row]
  rw [show (rdat m c).Φ t.succ = Pipeline.ΦA spec0 c from rfl, show (rdat m c).Φ t.castSucc = Pipeline.ΦA spec0 c from rfl, ΦA0_eq,
    show (rdat m c).owesAt () t.succ = (rdat m c).owesAt () t.castSucc from rfl]
  iintro ⟨⟨⟨S0, S1, S2, S3, S4, S5, S6⟩, Hg⟩, HO, H0, H1, H2, H3, H4, H5, H6, H7, H8, H9, H10⟩
  iapply kernelRun
  isplitl [H0 H1 H2 H3 H4 H5 H6 H7 H8 H9 H10 S0 S1 S2 S3 S4 S5 S6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [H0]; · iexists d0; isplitr; · ipureintro; trivial
                  iexact H0
  isplitl [H1]; · iexists d1; isplitr; · ipureintro; trivial
                  iexact H1
  isplitl [H2]; · iexists d2; isplitr; · ipureintro; trivial
                  iexact H2
  isplitl [H3]; · iexists d3; isplitr; · ipureintro; trivial
                  iexact H3
  isplitl [H4]; · iexists d4; isplitr; · ipureintro; trivial
                  iexact H4
  isplitl [H5]; · iexists d5; isplitr; · ipureintro; trivial
                  iexact H5
  isplitl [H6]; · iexists d6; isplitr; · ipureintro; trivial
                  iexact H6
  isplitl [H7]; · iexists d7; isplitr; · ipureintro; trivial
                  iexact H7
  isplitl [H8]; · iexists d8; isplitr; · ipureintro; trivial
                  iexact H8
  isplitl [H9]; · iexists d9; isplitr; · ipureintro; trivial
                  iexact H9
  iexists d10; isplitr; · ipureintro; trivial
  iexact H10

set_option backward.isDefEq.respectTransparency.types false in
/-- Every run of `main` ends with the arrays the call reads as it found them, and every semaphore counter at zero. -/
theorem run_main :
    θ_run defs (onTc (τ := τ) (main (F := F))) (s₀ m ρ)
      (fun r => RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m) (hmain := hmain m Variants.none)
    (hA := fun _ _ => rfl) (hin := fun _ => .rfl) (hout := fun _ => .rfl)

set_option maxHeartbeats 4000000 in
/-- The frame: every run ends, the argument arrays are as they were, every semaphore counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1.arr_in c 0 rfl).trans (V_main_arg0 m c),
     ((h.1 c).2 main_arg1 (Pipeline.mem_restRefs_of main_arg1 (by decide) (by decide))).trans (V_main_arg1 m c),
     (h.1.arr_in c 5 rfl).trans (V_main_arg2 m c)⟩, h.2⟩) (run_main m ρ)

end Cert.Kernel17Ideal.Hand

end
-- ==== Proof.FRunA.lean ====
/-
  The backward call of the forgetting attention: the body's run at a grid point of the first block of keys, from known contents of its buffers. What it leaves
  in the buffers of the keys' gradient side is named: the accumulator of the values' gradient, its output, the query rows and the rows of the
  result's gradient. Of the other buffers it writes nothing is kept.
-/
module

public import proofs.«01_k».proof.Proof.Gen.Kernel17Ideal.Frame
public import proofs.«01_k».proof.Proof.Gen.Kernel17Ideal.Skeleton
public import proofs.«01_k».proof.Proof.Gen.Kernel17Ideal.Loops
public import Idealize.ShloMosaic.Lib.Pipeline.Frame
public import Idealize.ShloMosaic.Lib.Tactic

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

set_option maxHeartbeats 0 in
/-- The run at the first key block of a head pair. -/
@[irreducible] def runA (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (h1 : k0_cond1 i = 1#1) (h2 : ¬ k0_cond2 i = 1#1) :
    Σ' (C10 : BufTy.Contents (Elt F) arg10.view.ty) (C13 : BufTy.Contents (Elt F) arg13.view.ty) (C14 : BufTy.Contents (Elt F) arg14.view.ty), { C18 : BufTy.Contents (Elt F) arg18.view.ty // ∀ K : PUnit → sProp 𝕄,
      iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, arg8.view.loc (c : Thread nD τ) ↦[arg8.view.set]{fullShare} f) ∗ (∃ f, arg9.view.loc (c : Thread nD τ) ↦[arg9.view.set]{fullShare} f) ∗ (arg10.view.loc (c : Thread nD τ) ↦[arg10.view.set]{fullShare} C10) ∗ (∃ f, arg11.view.loc (c : Thread nD τ) ↦[arg11.view.set]{fullShare} f) ∗ (∃ f, arg12.view.loc (c : Thread nD τ) ↦[arg12.view.set]{fullShare} f) ∗ (arg13.view.loc (c : Thread nD τ) ↦[arg13.view.set]{fullShare} C13) ∗ (arg14.view.loc (c : Thread nD τ) ↦[arg14.view.set]{fullShare} C14) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (arg18.view.loc (c : Thread nD τ) ↦[arg18.view.set]{fullShare} C18) ∗ (∃ f, arg19.view.loc (c : Thread nD τ) ↦[arg19.view.set]{fullShare} f)) -∗ K ⟨⟩))
      ⊢ wp frame (wpE (defs₀ (F := F)) Variants.none c none) Set.univ
          (cc0_fox_attn_bwd i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19) K } := by
  refine ⟨?_, ?_, ?_, ?_, fun K => ?run⟩
  case run =>
    iintro ⟨⟨H2, H3, H4, H5, H6, H7, H8, H9, H10, H11, H12, H13, H14, H15, H16, H17, H18, H19⟩, Hk⟩
    sl_unfold [cc0_fox_attn_bwd]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [H12]; · iexists _; iexact H12
    isplitl [H13]; · iexact H13
    isplitl [H14]; · iexact H14
    isplitl [H15]; · iexists _; iexact H15
    isplitl [H16]; · iexists _; iexact H16
    isplitl [H17]; · iexists _; iexact H17
    isplitl [H18]; · iexact H18
    iexists _; iexact H19

end Cert.Kernel17Ideal.Hand

end
-- ==== Proof.FRunB.lean ====
/-
  The backward call of the forgetting attention: the body's run at a grid point of a middle block of keys, from known contents of its buffers. What it leaves
  in the buffers of the keys' gradient side is named: the accumulator of the values' gradient, its output, the query rows and the rows of the
  result's gradient. Of the other buffers it writes nothing is kept.
-/
module

public import proofs.«01_k».proof.Proof.Gen.Kernel17Ideal.Frame
public import proofs.«01_k».proof.Proof.Gen.Kernel17Ideal.Skeleton
public import proofs.«01_k».proof.Proof.Gen.Kernel17Ideal.Loops
public import Idealize.ShloMosaic.Lib.Pipeline.Frame
public import Idealize.ShloMosaic.Lib.Tactic

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

set_option maxHeartbeats 0 in
/-- The run at a key block that is neither the first nor the last. -/
@[irreducible] def runB (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (h1 : ¬ k0_cond1 i = 1#1) (h2 : ¬ k0_cond2 i = 1#1) :
    Σ' (C10 : BufTy.Contents (Elt F) arg10.view.ty), { C18 : BufTy.Contents (Elt F) arg18.view.ty // ∀ K : PUnit → sProp 𝕄,
      iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, arg8.view.loc (c : Thread nD τ) ↦[arg8.view.set]{fullShare} f) ∗ (∃ f, arg9.view.loc (c : Thread nD τ) ↦[arg9.view.set]{fullShare} f) ∗ (arg10.view.loc (c : Thread nD τ) ↦[arg10.view.set]{fullShare} C10) ∗ (∃ f, arg11.view.loc (c : Thread nD τ) ↦[arg11.view.set]{fullShare} f) ∗ (∃ f, arg12.view.loc (c : Thread nD τ) ↦[arg12.view.set]{fullShare} f) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (∃ f, arg16.view.loc (c : Thread nD τ) ↦[arg16.view.set]{fullShare} f) ∗ (∃ f, arg17.view.loc (c : Thread nD τ) ↦[arg17.view.set]{fullShare} f) ∗ (arg18.view.loc (c : Thread nD τ) ↦[arg18.view.set]{fullShare} C18) ∗ (∃ f, arg19.view.loc (c : Thread nD τ) ↦[arg19.view.set]{fullShare} f)) -∗ K ⟨⟩))
      ⊢ wp frame (wpE (defs₀ (F := F)) Variants.none c none) Set.univ
          (cc0_fox_attn_bwd i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19) K } := by
  refine ⟨?_, ?_, fun K => ?run⟩
  case run =>
    iintro ⟨⟨H2, H3, H4, H5, H6, H7, H8, H9, H10, H11, H12, H13, H14, H15, H16, H17, H18, H19⟩, Hk⟩
    sl_unfold [cc0_fox_attn_bwd]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [H12]; · iexists _; iexact H12
    isplitl [H13]; · iexact H13
    isplitl [H14]; · iexact H14
    isplitl [H15]; · iexact H15
    isplitl [H16]; · iexists _; iexact H16
    isplitl [H17]; · iexists _; iexact H17
    isplitl [H18]; · iexact H18
    iexists _; iexact H19

end Cert.Kernel17Ideal.Hand

end
-- ==== Proof.FSpec.lean ====
/-
  The backward call of the forgetting attention: the quantities one block of 512 query rows against one block of 512 keys is made of, as
  functions of what the buffers hold, and the reading of a rectangle of a buffer at an index.
-/
module

public import proofs.«01_k».proof.Proof.Gen.Kernel17Ideal.Loops
public import Idealize.ShloMosaic.Lib.Tactic
public import Idealize.ShloMosaic.Lib.Pipeline.ValueKit
public import Idealize.ShloMosaic.Lib.Pointwise
public import Idealize.ShloMosaic.Lib.WritesUnit

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

/-- Row `x` of the block `n` of 512 rows. -/
def row (n : ℕ) (x : Fin 512) : Fin 4096 := ⟨(512 * n + x.val) % 4096, Nat.mod_lt _ (by decide)⟩

theorem row_val {n : ℕ} (h : n < 8) (x : Fin 512) : (row n x).val = 512 * n + x.val := Nat.mod_eq_of_lt (by omega)

/-- The softmax weight of query row `r` at key `j`: two to the score less the row's logarithm. -/
def Pf (q : FVec Ideal S2x4096x256 .bf16) (rows : FVec Ideal S1x4096x4 .f32) (kx : FVec Ideal S512x256 .bf16) (a : Fin 2) (c : Fin 4)
    (r : Fin 4096) (j : Fin 512) : EReal :=
  FloatOps.exp2 (F := Ideal) (φ := .f32) ((∑ l : Fin 256, (q (ix3 a r l) : EReal) * kx (ix2 j l) : EReal) - (rows (ix3 (0 : Fin 1) r c) : EReal) : EReal)

/-- The gradient of the score of query row `r` at key `j`, from the weight `p` there. -/
def DSf (dos : FVec Ideal S2x4096x128 .bf16) (dl : FVec Ideal S4096x2 .f32) (vv : FVec Ideal S512x128 .bf16) (a : Fin 2)
    (r : Fin 4096) (j : Fin 512) (p : EReal) : EReal :=
  p * ((∑ l : Fin 128, (dos (ix3 a r l) : EReal) * vv (ix2 j l) : EReal) - (dl (ix2 r a) : EReal))

/-- The attention's scale, as the kernel writes it. -/
def cs : EReal := Ideal.ofBits .f32 1040187392#32

/-- A load of a rectangle, at an index. -/
theorem readAt_eq {Val : EltTy → Type} {sig : RefSig} {κ : Kind} {sp : Space} {s : Shape} {e : EltTy} (v : View sig κ sp s e) (X : v.ty.Contents Val)
    {off size : Fin s.rank → ℕ} (inb : ∀ a, off a + size a ≤ s.size a) (x : (Rect.unit off size inb).shape.Idx) (y : s.Idx)
    (h : ∀ a, (y a).val = off a + (x a).val) : v.readAt Val (Rect.unit off size inb).toLoadRect X x = v.read Val X y := by
  rw [View.readAt_eq_ld]
  show v.read Val X _ = _
  refine congrArg _ (funext fun a => Fin.ext ?_)
  show off a + 1 * (x a).val = (y a).val
  rw [h a, Nat.one_mul]

/-- A load of a rectangle from known contents, at an index. -/
theorem ld_eq {Val : EltTy → Type} {s : Shape} {e : EltTy} (X : s.Idx → Val e)
    {off size : Fin s.rank → ℕ} (inb : ∀ a, off a + size a ≤ s.size a) (x : (Rect.unit off size inb).shape.Idx) (y : s.Idx)
    (h : ∀ a, (y a).val = off a + (x a).val) : View.ld X (Rect.unit off size inb) x = X y := by
  show X _ = _
  refine congrArg _ (funext fun a => Fin.ext ?_)
  show off a + 1 * (x a).val = (y a).val
  rw [h a, Nat.one_mul]

end Cert.Kernel17Ideal.Hand

end
-- ==== Proof.FTrip.lean ====
/-
  The backward call of the forgetting attention: what one trip of its loop over the later blocks of query rows leaves in the buffers it
  writes, at the ideal instance.
-/
module

public import proofs.«01_k».proof.Proof.FSpec

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

set_option maxHeartbeats 4000000 in
/-- Where the trip's rectangles lie. -/
theorem off_t2 : ∀ (i : grid0.Coords) (k : Fin (k0_t2_loop i).trips),
    (i 1).val + 1 + k.val < 8
    ∧ k0_off22 i k = ![0, 512 * ((i 1).val + 1 + k.val), 0] ∧ k0_off23 i k = ![512 * ((i 1).val + 1 + k.val), 0]
    ∧ k0_off24 i k = ![512 * ((i 1).val + 1 + k.val), 0] ∧ k0_off25 i k = ![0, 512 * ((i 1).val + 1 + k.val), 0]
    ∧ k0_off26 i k = ![0, 512 * ((i 1).val + 1 + k.val), 0] ∧ k0_off27 i k = ![0, 512 * ((i 1).val + 1 + k.val), 0]
    ∧ k0_off28 i k = ![0, 512 * ((i 1).val + 1 + k.val), 0] ∧ k0_off29 i k = ![1, 512 * ((i 1).val + 1 + k.val), 0]
    ∧ k0_off30 i k = ![1, 512 * ((i 1).val + 1 + k.val), 0] ∧ k0_off31 i k = ![1, 512 * ((i 1).val + 1 + k.val), 0]
    ∧ k0_off32 i k = ![0, 512 * ((i 1).val + 1 + k.val), 1] := by decide +kernel

variable
    (𝒱 : Variants) (c : Dev nD) (bd : Option 𝒱.V) (i : grid0.Coords) (arg2 : Memref sig .tc .vmem S4096x128 .f32)
    (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32)
    (harg5 : arg5.IsWhole) (arg6 : Memref sig .tc .vmem S4096x128 .f32) (harg6 : arg6.IsWhole)
    (arg7 : Memref sig .tc .vmem S4096x128 .f32) (harg7 : arg7.IsWhole) (arg8 : Memref sig .tc .vmem S4096x128 .bf16)
    (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32)
    (harg11 : arg11.IsWhole) (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16)
    (harg14 : arg14.IsWhole) (arg15 : Memref sig .tc .vmem S4096x2 .f32) (harg15 : arg15.IsWhole)
    (arg16 : Memref sig .tc .vmem S4096x128 .f32) (harg16 : arg16.IsWhole) (arg17 : Memref sig .tc .vmem S512x128 .f32)
    (harg17 : arg17.IsWhole) (arg18 : Memref sig .tc .vmem S512x128 .f32) (harg18 : arg18.IsWhole)
    (arg19 : Memref sig .tc .vmem S2x512 .f32) (harg19 : arg19.IsWhole) (arg1 : BitVec 32) (v22 : FVec Ideal S512x128 .bf16)
    (v25 : FVec Ideal S512x128 .bf16) (v68 : FVec Ideal S512x256 .bf16) (v106 : FVec Ideal S512x256 .bf16)
    (v108 : FVec Ideal S512x128 .bf16) (v218 : FVec Ideal S512x128 .f32) (v240 : BitVec 32)
    (X_arg5 : BufTy.Contents (Elt Ideal) arg5.view.ty) (X_arg13 : BufTy.Contents (Elt Ideal) arg13.view.ty)
    (X_arg14 : BufTy.Contents (Elt Ideal) arg14.view.ty) (X_arg15 : BufTy.Contents (Elt Ideal) arg15.view.ty)
    (k : Fin (k0_t2_loop i).trips) (f_arg11 : BufTy.Contents (Elt Ideal) arg11.view.ty)
    (f_arg16 : BufTy.Contents (Elt Ideal) arg16.view.ty) (f_arg17 : BufTy.Contents (Elt Ideal) arg17.view.ty)
    (f_arg18 : BufTy.Contents (Elt Ideal) arg18.view.ty) (f_arg19 : BufTy.Contents (Elt Ideal) arg19.view.ty)

set_option maxHeartbeats 8000000 in
theorem trip18 (j : Fin 512) (l : Fin 128) :
    (arg18.view.read (Elt Ideal) (arg18.view.writes (Elt Ideal) f_arg18
        ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v22 v25 v68 v106 v108 v218 v240 X_arg5 X_arg13 X_arg14 X_arg15 k).2.2.2.1 f_arg11 f_arg16 f_arg17 f_arg18 f_arg19)) (ix2 j l) : EReal)
      = (arg18.view.read (Elt Ideal) f_arg18 (ix2 j l) : EReal) + (∑ x : Fin 512, Pf (arg13.view.read (Elt Ideal) X_arg13) (arg5.view.read (Elt Ideal) X_arg5) v68 0 2 (row ((i 1).val + 1 + k.val) x) j * (arg14.view.read (Elt Ideal) X_arg14 (ix3 (0 : Fin 2) (row ((i 1).val + 1 + k.val) x) l) : EReal))
        + (∑ x : Fin 512, Pf (arg13.view.read (Elt Ideal) X_arg13) (arg5.view.read (Elt Ideal) X_arg5) v106 1 3 (row ((i 1).val + 1 + k.val) x) j * (arg14.view.read (Elt Ideal) X_arg14 (ix3 (1 : Fin 2) (row ((i 1).val + 1 + k.val) x) l) : EReal)) := by
  obtain ⟨hlt, o22, o23, o24, o25, o26, o27, o28, o29, o30, o31, o32⟩ := off_t2 i k
  unfold trip_k0_t2; dsimp only
  frame_out
  pointwise [trip_k0_t2.sl.v265, trip_k0_t2.sl.v267, trip_k0_t2.sl.v269, trip_k0_t2.sl.v276, trip_k0_t2.sl.v279, trip_k0_t2.sl.v280, trip_k0_t2.sl.v281,
      trip_k0_t2.sl.v282, trip_k0_t2.sl.v283, trip_k0_t2.sl.v284, trip_k0_t2.sl.v286, trip_k0_t2.sl.v287, trip_k0_t2.sl.v288, trip_k0_t2.sl.v290,
      trip_k0_t2.sl.v291, trip_k0_t2.sl.v292, trip_k0_t2.sl.v293, trip_k0_t2.sl.v294, trip_k0_t2.sl.v295, trip_k0_t2.sl.v296, trip_k0_t2.sl.v297,
      trip_k0_t2.sl.v301, trip_k0_t2.sl.v302, trip_k0_t2.sl.v303, trip_k0_t2.sl.v305, trip_k0_t2.sl.v306, trip_k0_t2.sl.v307, trip_k0_t2.sl.v308,
      trip_k0_t2.sl.v309, trip_k0_t2.sl.v310, trip_k0_t2.sl.v313, trip_k0_t2.sl.v314, trip_k0_t2.sl.v315, trip_k0_t2.sl.v316, trip_k0_t2.sl.v320,
      trip_k0_t2.sl.v322, trip_k0_t2.sl.v323, trip_k0_t2.sl.v324, trip_k0_t2.sl.v326, trip_k0_t2.sl.v327, trip_k0_t2.sl.v330, trip_k0_t2.sl.v333,
      trip_k0_t2.sl.v334, trip_k0_t2.sl.v335, trip_k0_t2.sl.v336, trip_k0_t2.sl.v337, trip_k0_t2.sl.v338, trip_k0_t2.sl.v339, trip_k0_t2.sl.v340,
      trip_k0_t2.sl.v341, trip_k0_t2.sl.v342, trip_k0_t2.sl.v344, trip_k0_t2.sl.v345, trip_k0_t2.sl.v346, trip_k0_t2.sl.v347, trip_k0_t2.sl.v348,
      trip_k0_t2.sl.v349, trip_k0_t2.sl.v350, trip_k0_t2.sl.v351, trip_k0_t2.sl.v352, trip_k0_t2.sl.v355, trip_k0_t2.sl.v356, trip_k0_t2.sl.v357,
      trip_k0_t2.sl.v359, trip_k0_t2.sl.v360, trip_k0_t2.sl.v361, trip_k0_t2.sl.v363, trip_k0_t2.sl.v364, trip_k0_t2.sl.v366, trip_k0_t2.sl.v367,
      trip_k0_t2.sl.v368, trip_k0_t2.sl.v369, trip_k0_t2.sl.v370, trip_k0_t2.sl.v374, trip_k0_t2.sl.v375, trip_k0_t2.sl.r, trip_k0_t2.sl.r_1,
      trip_k0_t2.sl.r_2, trip_k0_t2.sl.cst_133, trip_k0_t2.sl.cst_136, trip_k0_t2.sl.cst_148, trip_k0_t2.sl.cst_151, trip_k0_t2.sl.HW_arg17_1,
      trip_k0_t2.sl.HW_arg18_1]
  have h22 : ∀ (x : Fin 512) (c : Fin 4), View.ld (arg5.view.read (Elt Ideal) X_arg5) (Rect.unit (s := S1x4096x4) (k0_off22 i k) ![1, 512, 4] (k0_off22_inb i k)) (ix3 (0 : Fin 1) x c)
      = arg5.view.read (Elt Ideal) X_arg5 (ix3 (0 : Fin 1) (row ((i 1).val + 1 + k.val) x) c) := fun x c => ld_eq _ _ _ _ (by
    intro a; refine Eq.trans ?_ (congrArg (· + _) (congrFun o22 a)).symm; fin_cases a <;> simp [row_val hlt, ix2, ix3])
  generalize View.ld (arg5.view.read (Elt Ideal) X_arg5) (Rect.unit (s := S1x4096x4) (k0_off22 i k) ![1, 512, 4] (k0_off22_inb i k)) = A22 at h22 ⊢
  have h25 : ∀ (x : Fin 512) (l : Fin 128), View.ld (arg14.view.read (Elt Ideal) X_arg14) (Rect.unit (s := S2x4096x128) (k0_off25 i k) ![1, 512, 128] (k0_off25_inb i k)) (ix3 (0 : Fin 1) x l)
      = arg14.view.read (Elt Ideal) X_arg14 (ix3 (0 : Fin 2) (row ((i 1).val + 1 + k.val) x) l) := fun x l => ld_eq _ _ _ _ (by
    intro a; refine Eq.trans ?_ (congrArg (· + _) (congrFun o25 a)).symm; fin_cases a <;> simp [row_val hlt, ix2, ix3])
  generalize View.ld (arg14.view.read (Elt Ideal) X_arg14) (Rect.unit (s := S2x4096x128) (k0_off25 i k) ![1, 512, 128] (k0_off25_inb i k)) = A25 at h25 ⊢
  have h26 : ∀ (x : Fin 512) (l : Fin 256), View.ld (arg13.view.read (Elt Ideal) X_arg13) (Rect.unit (s := S2x4096x256) (k0_off26 i k) ![1, 512, 256] (k0_off26_inb i k)) (ix3 (0 : Fin 1) x l)
      = arg13.view.read (Elt Ideal) X_arg13 (ix3 (0 : Fin 2) (row ((i 1).val + 1 + k.val) x) l) := fun x l => ld_eq _ _ _ _ (by
    intro a; refine Eq.trans ?_ (congrArg (· + _) (congrFun o26 a)).symm; fin_cases a <;> simp [row_val hlt, ix2, ix3])
  generalize View.ld (arg13.view.read (Elt Ideal) X_arg13) (Rect.unit (s := S2x4096x256) (k0_off26 i k) ![1, 512, 256] (k0_off26_inb i k)) = A26 at h26 ⊢
  have h29 : ∀ (x : Fin 512) (l : Fin 128), View.ld (arg14.view.read (Elt Ideal) X_arg14) (Rect.unit (s := S2x4096x128) (k0_off29 i k) ![1, 512, 128] (k0_off29_inb i k)) (ix3 (0 : Fin 1) x l)
      = arg14.view.read (Elt Ideal) X_arg14 (ix3 (1 : Fin 2) (row ((i 1).val + 1 + k.val) x) l) := fun x l => ld_eq _ _ _ _ (by
    intro a; refine Eq.trans ?_ (congrArg (· + _) (congrFun o29 a)).symm; fin_cases a <;> simp [row_val hlt, ix2, ix3])
  generalize View.ld (arg14.view.read (Elt Ideal) X_arg14) (Rect.unit (s := S2x4096x128) (k0_off29 i k) ![1, 512, 128] (k0_off29_inb i k)) = A29 at h29 ⊢
  have h30 : ∀ (x : Fin 512) (l : Fin 256), View.ld (arg13.view.read (Elt Ideal) X_arg13) (Rect.unit (s := S2x4096x256) (k0_off30 i k) ![1, 512, 256] (k0_off30_inb i k)) (ix3 (0 : Fin 1) x l)
      = arg13.view.read (Elt Ideal) X_arg13 (ix3 (1 : Fin 2) (row ((i 1).val + 1 + k.val) x) l) := fun x l => ld_eq _ _ _ _ (by
    intro a; refine Eq.trans ?_ (congrArg (· + _) (congrFun o30 a)).symm; fin_cases a <;> simp [row_val hlt, ix2, ix3])
  generalize View.ld (arg13.view.read (Elt Ideal) X_arg13) (Rect.unit (s := S2x4096x256) (k0_off30 i k) ![1, 512, 256] (k0_off30_inb i k)) = A30 at h30 ⊢
  refine (View.read_writes_cons_unit_of_mem arg18.view f_arg18 _ _ _ (ix2 j l) (ix2 j l) rfl (fun a => by fin_cases a <;> exact (Nat.zero_add _).symm)).trans ?_
  pointwise
  simp only [h22, h25, h26, h29, h30]
  rfl

end Cert.Kernel17Ideal.Hand

end
-- ==== Proof.FLoop.lean ====
/-
  The backward call of the forgetting attention: what the loop over the later blocks of query rows leaves in the accumulator of the
  values' gradient, at the ideal instance.
-/
module

public import proofs.«01_k».proof.Proof.FTrip

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

theorem t2_trips : ∀ i : grid0.Coords, (k0_t2_loop i).trips = 7 - (i 1).val := by decide +kernel
theorem t3_trips : ∀ i : grid0.Coords, (k0_t3_loop i).trips = 0 := by decide +kernel

/-- One block of query rows in the gradient of the values at key `j`, lane `l`. -/
def BV (q : FVec Ideal S2x4096x256 .bf16) (rows : FVec Ideal S1x4096x4 .f32) (dos : FVec Ideal S2x4096x128 .bf16)
    (kx0 kx1 : FVec Ideal S512x256 .bf16) (j : Fin 512) (l : Fin 128) (n : ℕ) : EReal :=
  (∑ x : Fin 512, Pf q rows kx0 0 2 (row n x) j * (dos (ix3 (0 : Fin 2) (row n x) l) : EReal))
    + (∑ x : Fin 512, Pf q rows kx1 1 3 (row n x) j * (dos (ix3 (1 : Fin 2) (row n x) l) : EReal))

variable
    (𝒱 : Variants) (c : Dev nD) (bd : Option 𝒱.V) (i : grid0.Coords) (arg2 : Memref sig .tc .vmem S4096x128 .f32)
    (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32)
    (harg5 : arg5.IsWhole) (arg6 : Memref sig .tc .vmem S4096x128 .f32) (harg6 : arg6.IsWhole)
    (arg7 : Memref sig .tc .vmem S4096x128 .f32) (harg7 : arg7.IsWhole) (arg8 : Memref sig .tc .vmem S4096x128 .bf16)
    (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32)
    (harg11 : arg11.IsWhole) (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16)
    (harg14 : arg14.IsWhole) (arg15 : Memref sig .tc .vmem S4096x2 .f32) (harg15 : arg15.IsWhole)
    (arg16 : Memref sig .tc .vmem S4096x128 .f32) (harg16 : arg16.IsWhole) (arg17 : Memref sig .tc .vmem S512x128 .f32)
    (harg17 : arg17.IsWhole) (arg18 : Memref sig .tc .vmem S512x128 .f32) (harg18 : arg18.IsWhole)
    (arg19 : Memref sig .tc .vmem S2x512 .f32) (harg19 : arg19.IsWhole) (arg1 : BitVec 32) (v22 : FVec Ideal S512x128 .bf16)
    (v25 : FVec Ideal S512x128 .bf16) (v68 : FVec Ideal S512x256 .bf16) (v106 : FVec Ideal S512x256 .bf16)
    (v108 : FVec Ideal S512x128 .bf16) (v218 : FVec Ideal S512x128 .f32) (v240 : BitVec 32)
    (X_arg5 : BufTy.Contents (Elt Ideal) arg5.view.ty) (X_arg13 : BufTy.Contents (Elt Ideal) arg13.view.ty)
    (X_arg14 : BufTy.Contents (Elt Ideal) arg14.view.ty) (X_arg15 : BufTy.Contents (Elt Ideal) arg15.view.ty) (G_arg11 : BufTy.Contents (Elt Ideal) arg11.view.ty)
    (G_arg16 : BufTy.Contents (Elt Ideal) arg16.view.ty) (G_arg17 : BufTy.Contents (Elt Ideal) arg17.view.ty)
    (G_arg18 : BufTy.Contents (Elt Ideal) arg18.view.ty) (G_arg19 : BufTy.Contents (Elt Ideal) arg19.view.ty)

/-- No trip of the empty remainder loop. -/
theorem t3_nil (n : ℕ) (h : n = 0) : pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v22 v25 v68 v106 v108 v218 v240 X_arg5 X_arg13 X_arg14 X_arg15 G_arg11 G_arg16 G_arg17 G_arg18 G_arg19 n = ([], [], [], [], []) := by
  subst h; rfl

theorem loop18 (j : Fin 512) (l : Fin 128) : ∀ n : ℕ, n ≤ (k0_t2_loop i).trips →
    (arg18.view.read (Elt Ideal) (arg18.view.writes (Elt Ideal) G_arg18 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v22 v25 v68 v106 v108 v218 v240 X_arg5 X_arg13 X_arg14 X_arg15 G_arg11 G_arg16 G_arg17 G_arg18 G_arg19 n).2.2.2.1) (ix2 j l) : EReal)
      = (arg18.view.read (Elt Ideal) G_arg18 (ix2 j l) : EReal) + ∑ m ∈ Finset.range n, BV (arg13.view.read (Elt Ideal) X_arg13) (arg5.view.read (Elt Ideal) X_arg5) (arg14.view.read (Elt Ideal) X_arg14) v68 v106 j l ((i 1).val + 1 + m)
  | 0, _ => by
    rw [Finset.sum_range_zero, add_zero]; rfl
  | n + 1, h => by
    have ih := loop18 j l n (by omega)
    rw [show n + 1 = (⟨n, h⟩ : Fin (k0_t2_loop i).trips).val + 1 from rfl, pb_k0_t2_succ]
    dsimp only
    rw [View.writes_append, Finset.sum_range_succ, ← add_assoc, ← ih]
    refine (trip18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v22 v25 v68 v106 v108 v218 v240 X_arg5 X_arg13 X_arg14 X_arg15 ⟨n, h⟩ _ _ _ _ _ j l).trans ?_
    rw [add_assoc]
    rfl

end Cert.Kernel17Ideal.Hand

end
-- ==== Proof.FDiag.lean ====
/-
  The attention's gradient of the values: what the diagonal block of query rows adds at one block of keys, at a middle block.
-/
module

public import proofs.«01_k».proof.Proof.FRunB
public import proofs.«01_k».proof.Proof.FLoop

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

/-- Where the diagonal's loads lie. -/
theorem off_d : ∀ (i : grid0.Coords), (i 1).val < 8
    ∧ k0_off11 i = ![0, 512 * (i 1).val, 0] ∧ k0_off14 i = ![0, 512 * (i 1).val, 0]
    ∧ k0_off15 i = ![0, 512 * (i 1).val, 0] ∧ k0_off18 i = ![1, 512 * (i 1).val, 0]
    ∧ k0_off19 i = ![1, 512 * (i 1).val, 0] := by decide +kernel

/-- The diagonal block's contribution to row `j` of the value's gradient: the keys after the query have no weight. -/
def DB (q : FVec Ideal S2x4096x256 .bf16) (rows : FVec Ideal S1x4096x4 .f32) (dos : FVec Ideal S2x4096x128 .bf16)
    (kx0 kx1 : FVec Ideal S512x256 .bf16) (j : Fin 512) (l : Fin 128) (n : ℕ) : EReal :=
  (∑ x : Fin 512, (if j.val ≤ x.val then Pf q rows kx0 0 2 (row n x) j else 0) * (dos (ix3 (0 : Fin 2) (row n x) l) : EReal))
    + (∑ x : Fin 512, (if j.val ≤ x.val then Pf q rows kx1 1 3 (row n x) j else 0) * (dos (ix3 (1 : Fin 2) (row n x) l) : EReal))

/-- The masked weight. -/
theorem masked (j x : Fin 512) (s r : EReal) :
    FloatOps.exp2 (F := Ideal) (φ := .f32) ((Scalar.select (IntOp.cmpi CmpIPredicate.sle (BitVec.ofNat 32 j.val) (BitVec.ofNat 32 x.val)) s
        (Named.named (F := Ideal) (φ := .f32) κ "neg_inf" 4048155338#32 : EReal) : EReal) - r : EReal)
      = (if j.val ≤ x.val then FloatOps.exp2 (F := Ideal) (φ := .f32) (s - r : EReal) else (0 : EReal)) := by
  by_cases h : j.val ≤ x.val
  · rw [if_pos h, (WordCmp.cmpi_sle_ofNat_eq_one_iff (by omega) (by omega)).2 h]; rfl
  · rw [if_neg h, (WordCmp.cmpi_sle_ofNat_eq_zero_iff (by omega) (by omega)).2 h]
    show Ideal.exp2 ((⊥ : EReal) - r) = 0
    rw [EReal.bot_sub]; rfl

set_option maxHeartbeats 4000000 in
/-- The value gradient's buffer after the diagonal block. -/
theorem diagB (j : Fin 512) (l : Fin 128) : (arg18.view.read (Elt Ideal) (arg18.view.writes (Elt Ideal) arg18.view.junk
   (runB.sl.H18_3 (F := Ideal) i arg3 arg5 arg13 arg14 arg18 f3 f5 f13 f14)) (ix2 j l) : EReal)
     = DB (arg13.view.read (Elt Ideal) f13) (arg5.view.read (Elt Ideal) f5) (arg14.view.read (Elt Ideal) f14)
         (runB.sl.v68 (F := Ideal) i arg3 arg5 f3 f5) (runB.sl.v106 (F := Ideal) i arg3 arg5 f3 f5) j l (i 1).val := by
  obtain ⟨hlt, o11, o14, o15, o18, o19⟩ := off_d i
  simp only [runB.sl.H18_2, runB.sl.H18_3, runB.sl.H18_1, runB.sl.cst_15, runB.sl.cst_19, runB.sl.cst_40, runB.sl.cst_82, runB.sl.cst_86, runB.sl.cst_89,
      runB.sl.r, runB.sl.r_1, runB.sl.r_2, runB.sl.r_3, runB.sl.r_4, runB.sl.r_5, runB.sl.r_6, runB.sl.r_7, runB.sl.r_8, runB.sl.r_9,
      runB.sl.r_10, runB.sl.r_11, runB.sl.r_12, runB.sl.r_13, runB.sl.r_14, runB.sl.v32, runB.sl.v35, runB.sl.v36, runB.sl.v37, runB.sl.v38,
      runB.sl.v39, runB.sl.v40, runB.sl.v41, runB.sl.v45, runB.sl.v46, runB.sl.v47, runB.sl.v50, runB.sl.v51, runB.sl.v54, runB.sl.v55,
      runB.sl.v56, runB.sl.v57, runB.sl.v58, runB.sl.v59, runB.sl.v60, runB.sl.v61, runB.sl.v62, runB.sl.v63, runB.sl.v64, runB.sl.v65,
      runB.sl.v66, runB.sl.v67, runB.sl.v69, runB.sl.v70, runB.sl.v71, runB.sl.v72, runB.sl.v73, runB.sl.v74, runB.sl.v75, runB.sl.v76,
      runB.sl.v77, runB.sl.v78, runB.sl.v84, runB.sl.v88, runB.sl.v92, runB.sl.v93, runB.sl.v94, runB.sl.v96, runB.sl.v97, runB.sl.v98,
      runB.sl.v99, runB.sl.v100, runB.sl.v101, runB.sl.v102, runB.sl.v104, runB.sl.v105, runB.sl.v109, runB.sl.v111, runB.sl.v113, runB.sl.v120,
      runB.sl.v123, runB.sl.v124, runB.sl.v134, runB.sl.v147, runB.sl.v170, runB.sl.v193, runB.sl.v202, runB.sl.v203, runB.sl.v204, runB.sl.v205,
      runB.sl.v206, runB.sl.v209, runB.sl.v210, runB.sl.v211, runB.sl.v213, runB.sl.v214, runB.sl.v215, runB.sl.v216, runB.sl.v217, runB.sl.v218,
      runB.sl.v220, runB.sl.v221, runB.sl.v222, runB.sl.v223, runB.sl.v224, runB.sl.v228, runB.sl.v229, runB.sl.v230, runB.sl.v231, runB.sl.v232,
      runB.sl.v234, runB.sl.v235, runB.sl.v238, runB.sl.v240, runB.sl.v241, runB.sl.v243, runB.sl.v244, runB.sl.v245, runB.sl.v246, runB.sl.v251,
      runB.sl.v254, runB.sl.v258, runB.sl.v262, runB.sl.v263]
  generalize runB.sl.v68 (F := Ideal) i arg3 arg5 f3 f5 = kx0
  generalize runB.sl.v106 (F := Ideal) i arg3 arg5 f3 f5 = kx1
  have h11 : ∀ (x : Fin 512) (l : Fin 4), View.readAt (Elt Ideal) arg5.view (Rect.unit (s := S1x4096x4) (k0_off11 i) ![1, 512, 4] (k0_off11_inb i)).toLoadRect f5 (ix3 (0 : Fin 1) x l)
      = arg5.view.read (Elt Ideal) f5 (ix3 (0 : Fin 1) (row (i 1).val x) l) := fun x l => readAt_eq _ _ _ _ _ (by
    intro a; refine Eq.trans ?_ (congrArg (· + _) (congrFun o11 a)).symm; fin_cases a <;> simp [row_val hlt, ix2, ix3])
  generalize View.readAt (Elt Ideal) arg5.view (Rect.unit (s := S1x4096x4) (k0_off11 i) ![1, 512, 4] (k0_off11_inb i)).toLoadRect f5 = A11 at h11 ⊢
  have h14 : ∀ (x : Fin 512) (l : Fin 128), View.readAt (Elt Ideal) arg14.view (Rect.unit (s := S2x4096x128) (k0_off14 i) ![1, 512, 128] (k0_off14_inb i)).toLoadRect f14 (ix3 (0 : Fin 1) x l)
      = arg14.view.read (Elt Ideal) f14 (ix3 (0 : Fin 2) (row (i 1).val x) l) := fun x l => readAt_eq _ _ _ _ _ (by
    intro a; refine Eq.trans ?_ (congrArg (· + _) (congrFun o14 a)).symm; fin_cases a <;> simp [row_val hlt, ix2, ix3])
  generalize View.readAt (Elt Ideal) arg14.view (Rect.unit (s := S2x4096x128) (k0_off14 i) ![1, 512, 128] (k0_off14_inb i)).toLoadRect f14 = A14 at h14 ⊢
  have h15 : ∀ (x : Fin 512) (l : Fin 256), View.readAt (Elt Ideal) arg13.view (Rect.unit (s := S2x4096x256) (k0_off15 i) ![1, 512, 256] (k0_off15_inb i)).toLoadRect f13 (ix3 (0 : Fin 1) x l)
      = arg13.view.read (Elt Ideal) f13 (ix3 (0 : Fin 2) (row (i 1).val x) l) := fun x l => readAt_eq _ _ _ _ _ (by
    intro a; refine Eq.trans ?_ (congrArg (· + _) (congrFun o15 a)).symm; fin_cases a <;> simp [row_val hlt, ix2, ix3])
  generalize View.readAt (Elt Ideal) arg13.view (Rect.unit (s := S2x4096x256) (k0_off15 i) ![1, 512, 256] (k0_off15_inb i)).toLoadRect f13 = A15 at h15 ⊢
  have h18 : ∀ (x : Fin 512) (l : Fin 128), View.readAt (Elt Ideal) arg14.view (Rect.unit (s := S2x4096x128) (k0_off18 i) ![1, 512, 128] (k0_off18_inb i)).toLoadRect f14 (ix3 (0 : Fin 1) x l)
      = arg14.view.read (Elt Ideal) f14 (ix3 (1 : Fin 2) (row (i 1).val x) l) := fun x l => readAt_eq _ _ _ _ _ (by
    intro a; refine Eq.trans ?_ (congrArg (· + _) (congrFun o18 a)).symm; fin_cases a <;> simp [row_val hlt, ix2, ix3])
  generalize View.readAt (Elt Ideal) arg14.view (Rect.unit (s := S2x4096x128) (k0_off18 i) ![1, 512, 128] (k0_off18_inb i)).toLoadRect f14 = A18 at h18 ⊢
  have h19 : ∀ (x : Fin 512) (l : Fin 256), View.readAt (Elt Ideal) arg13.view (Rect.unit (s := S2x4096x256) (k0_off19 i) ![1, 512, 256] (k0_off19_inb i)).toLoadRect f13 (ix3 (0 : Fin 1) x l)
      = arg13.view.read (Elt Ideal) f13 (ix3 (1 : Fin 2) (row (i 1).val x) l) := fun x l => readAt_eq _ _ _ _ _ (by
    intro a; refine Eq.trans ?_ (congrArg (· + _) (congrFun o19 a)).symm; fin_cases a <;> simp [row_val hlt, ix2, ix3])
  generalize View.readAt (Elt Ideal) arg13.view (Rect.unit (s := S2x4096x256) (k0_off19 i) ![1, 512, 256] (k0_off19_inb i)).toLoadRect f13 = A19 at h19 ⊢
  frame_out
  pointwise [k0_pay66, k0_pay88, k0_pay89, k0_pay98, k0_pay99, k0_pay100]
  simp only [masked]
  simp only [h11, h14, h15, h18, h19]
  rfl

end Cert.Kernel17Ideal.Hand

end
-- ==== Proof.FDiagA.lean ====
/-
  The attention's gradient of the values: what the diagonal block of query rows adds at the first block of keys, where the query rows' buffers
  are filled as well.
-/
module

public import proofs.«01_k».proof.Proof.FRunA
public import proofs.«01_k».proof.Proof.FDiag

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

variable (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

set_option maxHeartbeats 4000000 in
/-- The value gradient's buffer after the diagonal block. -/
theorem diagA (h1 : k0_cond1 i = 1#1) (j : Fin 512) (l : Fin 128) : (arg18.view.read (Elt Ideal) (arg18.view.writes (Elt Ideal) arg18.view.junk
   (runA.sl.H18_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f5 f6 f7 f13 f14 h1)) (ix2 j l) : EReal)
     = DB (arg13.view.read (Elt Ideal) (arg13.view.writes (Elt Ideal) f13 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 f2 f5 f6 f7 (Scf.trips k0_t1_loop.lb k0_t1_loop.ub k0_t1_loop.st)).1)) (arg5.view.read (Elt Ideal) f5) (arg14.view.read (Elt Ideal) (arg14.view.writes (Elt Ideal) f14 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 f2 f5 f6 f7 (Scf.trips k0_t1_loop.lb k0_t1_loop.ub k0_t1_loop.st)).2.1))
         (runA.sl.v68 (F := Ideal) i arg3 arg5 f3 f5) (runA.sl.v106 (F := Ideal) i arg3 arg5 f3 f5) j l (i 1).val := by
  obtain ⟨hlt, o11, o14, o15, o18, o19⟩ := off_d i
  simp only [runA.sl.H18_1, runA.sl.H18_3, runA.sl.H18_2, runA.sl.cst_15, runA.sl.cst_19, runA.sl.cst_40, runA.sl.cst_82, runA.sl.cst_86, runA.sl.cst_89,
      runA.sl.r, runA.sl.r_1, runA.sl.r_2, runA.sl.r_3, runA.sl.r_4, runA.sl.r_5, runA.sl.r_6, runA.sl.r_7, runA.sl.r_8, runA.sl.r_9,
      runA.sl.r_10, runA.sl.r_11, runA.sl.r_12, runA.sl.r_13, runA.sl.v32, runA.sl.v35, runA.sl.v36, runA.sl.v37, runA.sl.v38, runA.sl.v39,
      runA.sl.v40, runA.sl.v41, runA.sl.v45, runA.sl.v46, runA.sl.v47, runA.sl.v50, runA.sl.v51, runA.sl.v54, runA.sl.v55, runA.sl.v56,
      runA.sl.v57, runA.sl.v58, runA.sl.v59, runA.sl.v60, runA.sl.v61, runA.sl.v62, runA.sl.v63, runA.sl.v64, runA.sl.v65, runA.sl.v66,
      runA.sl.v67, runA.sl.v69, runA.sl.v70, runA.sl.v71, runA.sl.v72, runA.sl.v73, runA.sl.v74, runA.sl.v75, runA.sl.v76, runA.sl.v77,
      runA.sl.v78, runA.sl.v84, runA.sl.v88, runA.sl.v92, runA.sl.v93, runA.sl.v94, runA.sl.v96, runA.sl.v97, runA.sl.v98, runA.sl.v99,
      runA.sl.v100, runA.sl.v101, runA.sl.v102, runA.sl.v104, runA.sl.v105, runA.sl.v109, runA.sl.v111, runA.sl.v113, runA.sl.v115, runA.sl.v119,
      runA.sl.v120, runA.sl.v122, runA.sl.v123, runA.sl.v124, runA.sl.v134, runA.sl.v147, runA.sl.v149, runA.sl.v170, runA.sl.v178, runA.sl.v181,
      runA.sl.v193, runA.sl.v202, runA.sl.v203, runA.sl.v204, runA.sl.v205, runA.sl.v206, runA.sl.v208, runA.sl.v209, runA.sl.v210, runA.sl.v211,
      runA.sl.v213, runA.sl.v214, runA.sl.v215, runA.sl.v216, runA.sl.v217, runA.sl.v218, runA.sl.v221, runA.sl.v222, runA.sl.v223, runA.sl.v224,
      runA.sl.v228, runA.sl.v229, runA.sl.v230, runA.sl.v231, runA.sl.v232, runA.sl.v234, runA.sl.v235, runA.sl.v238, runA.sl.v240, runA.sl.v241,
      runA.sl.v243, runA.sl.v244, runA.sl.v245, runA.sl.v246, runA.sl.v251, runA.sl.v254, runA.sl.v258, runA.sl.v262, runA.sl.v263]
  generalize runA.sl.v68 (F := Ideal) i arg3 arg5 f3 f5 = kx0
  generalize runA.sl.v106 (F := Ideal) i arg3 arg5 f3 f5 = kx1
  generalize (arg13.view.writes (Elt Ideal) f13 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 f2 f5 f6 f7 (Scf.trips k0_t1_loop.lb k0_t1_loop.ub k0_t1_loop.st)).1) = g13
  generalize (arg14.view.writes (Elt Ideal) f14 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 f2 f5 f6 f7 (Scf.trips k0_t1_loop.lb k0_t1_loop.ub k0_t1_loop.st)).2.1) = g14
  have h11 : ∀ (x : Fin 512) (l : Fin 4), View.readAt (Elt Ideal) arg5.view (Rect.unit (s := S1x4096x4) (k0_off11 i) ![1, 512, 4] (k0_off11_inb i)).toLoadRect f5 (ix3 (0 : Fin 1) x l)
      = arg5.view.read (Elt Ideal) f5 (ix3 (0 : Fin 1) (row (i 1).val x) l) := fun x l => readAt_eq _ _ _ _ _ (by
    intro a; refine Eq.trans ?_ (congrArg (· + _) (congrFun o11 a)).symm; fin_cases a <;> simp [row_val hlt, ix2, ix3])
  generalize View.readAt (Elt Ideal) arg5.view (Rect.unit (s := S1x4096x4) (k0_off11 i) ![1, 512, 4] (k0_off11_inb i)).toLoadRect f5 = A11 at h11 ⊢
  have h14 : ∀ (x : Fin 512) (l : Fin 128), View.readAt (Elt Ideal) arg14.view (Rect.unit (s := S2x4096x128) (k0_off14 i) ![1, 512, 128] (k0_off14_inb i)).toLoadRect g14 (ix3 (0 : Fin 1) x l)
      = arg14.view.read (Elt Ideal) g14 (ix3 (0 : Fin 2) (row (i 1).val x) l) := fun x l => readAt_eq _ _ _ _ _ (by
    intro a; refine Eq.trans ?_ (congrArg (· + _) (congrFun o14 a)).symm; fin_cases a <;> simp [row_val hlt, ix2, ix3])
  generalize View.readAt (Elt Ideal) arg14.view (Rect.unit (s := S2x4096x128) (k0_off14 i) ![1, 512, 128] (k0_off14_inb i)).toLoadRect g14 = A14 at h14 ⊢
  have h15 : ∀ (x : Fin 512) (l : Fin 256), View.readAt (Elt Ideal) arg13.view (Rect.unit (s := S2x4096x256) (k0_off15 i) ![1, 512, 256] (k0_off15_inb i)).toLoadRect g13 (ix3 (0 : Fin 1) x l)
      = arg13.view.read (Elt Ideal) g13 (ix3 (0 : Fin 2) (row (i 1).val x) l) := fun x l => readAt_eq _ _ _ _ _ (by
    intro a; refine Eq.trans ?_ (congrArg (· + _) (congrFun o15 a)).symm; fin_cases a <;> simp [row_val hlt, ix2, ix3])
  generalize View.readAt (Elt Ideal) arg13.view (Rect.unit (s := S2x4096x256) (k0_off15 i) ![1, 512, 256] (k0_off15_inb i)).toLoadRect g13 = A15 at h15 ⊢
  have h18 : ∀ (x : Fin 512) (l : Fin 128), View.readAt (Elt Ideal) arg14.view (Rect.unit (s := S2x4096x128) (k0_off18 i) ![1, 512, 128] (k0_off18_inb i)).toLoadRect g14 (ix3 (0 : Fin 1) x l)
      = arg14.view.read (Elt Ideal) g14 (ix3 (1 : Fin 2) (row (i 1).val x) l) := fun x l => readAt_eq _ _ _ _ _ (by
    intro a; refine Eq.trans ?_ (congrArg (· + _) (congrFun o18 a)).symm; fin_cases a <;> simp [row_val hlt, ix2, ix3])
  generalize View.readAt (Elt Ideal) arg14.view (Rect.unit (s := S2x4096x128) (k0_off18 i) ![1, 512, 128] (k0_off18_inb i)).toLoadRect g14 = A18 at h18 ⊢
  have h19 : ∀ (x : Fin 512) (l : Fin 256), View.readAt (Elt Ideal) arg13.view (Rect.unit (s := S2x4096x256) (k0_off19 i) ![1, 512, 256] (k0_off19_inb i)).toLoadRect g13 (ix3 (0 : Fin 1) x l)
      = arg13.view.read (Elt Ideal) g13 (ix3 (1 : Fin 2) (row (i 1).val x) l) := fun x l => readAt_eq _ _ _ _ _ (by
    intro a; refine Eq.trans ?_ (congrArg (· + _) (congrFun o19 a)).symm; fin_cases a <;> simp [row_val hlt, ix2, ix3])
  generalize View.readAt (Elt Ideal) arg13.view (Rect.unit (s := S2x4096x256) (k0_off19 i) ![1, 512, 256] (k0_off19_inb i)).toLoadRect g13 = A19 at h19 ⊢
  frame_out
  pointwise [k0_pay66, k0_pay88, k0_pay89, k0_pay98, k0_pay99, k0_pay100]
  simp only [masked]
  simp only [h11, h14, h15, h18, h19]
  rfl

theorem kx0_A : runA.sl.v68 (F := Ideal) i arg3 arg5 f3 f5 = runB.sl.v68 (F := Ideal) i arg3 arg5 f3 f5 := rfl
theorem kx1_A : runA.sl.v106 (F := Ideal) i arg3 arg5 f3 f5 = runB.sl.v106 (F := Ideal) i arg3 arg5 f3 f5 := rfl

end Cert.Kernel17Ideal.Hand

end
-- ==== Proof.FFullB.lean ====
/-
  The attention's gradient of the values at a middle block of keys: the diagonal block of query rows and, by the loop, the later ones.
-/
module

public import proofs.«01_k».proof.Proof.FRunB
public import proofs.«01_k».proof.Proof.FDiag

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

/-- The value's gradient at row `j` of the block `n` of keys: the diagonal block of queries, then the later ones. -/
def DV (q : FVec Ideal S2x4096x256 .bf16) (rows : FVec Ideal S1x4096x4 .f32) (dos : FVec Ideal S2x4096x128 .bf16)
    (kx0 kx1 : FVec Ideal S512x256 .bf16) (j : Fin 512) (l : Fin 128) (n : ℕ) : EReal :=
  DB q rows dos kx0 kx1 j l n + ∑ m ∈ Finset.range (7 - n), BV q rows dos kx0 kx1 j l (n + 1 + m)

variable (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)
    (h1 : ¬ k0_cond1 i = 1#1) (h2 : ¬ k0_cond2 i = 1#1)

set_option maxHeartbeats 4000000 in
/-- What the value gradient's buffer holds at the end of the point. -/
theorem valB18 (j : Fin 512) (l : Fin 128) : (arg18.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.1 (ix2 j l) : EReal)
    = DV (arg13.view.read (Elt Ideal) f13) (arg5.view.read (Elt Ideal) f5) (arg14.view.read (Elt Ideal) f14) (runB.sl.v68 (F := Ideal) i arg3 arg5 f3 f5) (runB.sl.v106 (F := Ideal) i arg3 arg5 f3 f5) j l (i 1).val := by
  unfold runB; dsimp only
  rw [t3_nil (h := t3_trips i), List.nil_append, View.writes_append]
  refine (loop18 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ j l _ le_rfl).trans ?_
  rw [diagB, t2_trips]
  rfl

set_option maxHeartbeats 4000000 in
/-- What the point writes of the value's gradient. -/
theorem valB10 (j : Fin 512) (l : Fin 128) : (arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 (ix2 j l) : EReal)
    = DV (arg13.view.read (Elt Ideal) f13) (arg5.view.read (Elt Ideal) f5) (arg14.view.read (Elt Ideal) f14) (runB.sl.v68 (F := Ideal) i arg3 arg5 f3 f5) (runB.sl.v106 (F := Ideal) i arg3 arg5 f3 f5) j l (i 1).val := by
  rw [← valB18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 j l]
  unfold runB; dsimp only
  refine (View.read_writes_cons_unit_of_mem arg10.view f10 _ _ _ (ix2 j l) (ix2 j l) rfl (fun a => by fin_cases a <;> exact (Nat.zero_add _).symm)).trans ?_
  pointwise [k0_pay115]
  exact readAt_eq arg18.view _ _ (ix2 j l) (ix2 j l) (fun a => by fin_cases a <;> exact (Nat.zero_add _).symm)

end Cert.Kernel17Ideal.Hand

end
-- ==== Proof.FFullA.lean ====
/-
  The attention's gradient of the values at the first block of keys: the diagonal block of query rows and, by the loop, the later ones.
-/
module

public import proofs.«01_k».proof.Proof.FRunA
public import proofs.«01_k».proof.Proof.FDiagA
public import proofs.«01_k».proof.Proof.FFullB

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

variable (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)
    (h1 : k0_cond1 i = 1#1) (h2 : ¬ k0_cond2 i = 1#1)

set_option maxHeartbeats 4000000 in
/-- What the value gradient's buffer holds at the end of the point. -/
theorem valA18 (j : Fin 512) (l : Fin 128) : (arg18.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2.2.1 (ix2 j l) : EReal)
    = DV (arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.1) (arg5.view.read (Elt Ideal) f5) (arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2.1) (runB.sl.v68 (F := Ideal) i arg3 arg5 f3 f5) (runB.sl.v106 (F := Ideal) i arg3 arg5 f3 f5) j l (i 1).val := by
  unfold runA; dsimp only
  rw [t3_nil (h := t3_trips i), List.nil_append, View.writes_append]
  refine (loop18 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ j l _ le_rfl).trans ?_
  rw [diagA, t2_trips]
  rfl

set_option maxHeartbeats 4000000 in
/-- What the point writes of the value's gradient. -/
theorem valA10 (j : Fin 512) (l : Fin 128) : (arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 (ix2 j l) : EReal)
    = DV (arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.1) (arg5.view.read (Elt Ideal) f5) (arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2.1) (runB.sl.v68 (F := Ideal) i arg3 arg5 f3 f5) (runB.sl.v106 (F := Ideal) i arg3 arg5 f3 f5) j l (i 1).val := by
  rw [← valA18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 j l]
  unfold runA; dsimp only
  refine (View.read_writes_cons_unit_of_mem arg10.view f10 _ _ _ (ix2 j l) (ix2 j l) rfl (fun a => by fin_cases a <;> exact (Nat.zero_add _).symm)).trans ?_
  pointwise [k0_pay115]
  exact readAt_eq arg18.view _ _ (ix2 j l) (ix2 j l) (fun a => by fin_cases a <;> exact (Nat.zero_add _).symm)

end Cert.Kernel17Ideal.Hand

end
-- ==== Proof.FRunC.lean ====
/-
  The backward call of the forgetting attention: the body's run at a grid point of the last block of keys, from known contents of its buffers. What it leaves
  in the buffers of the keys' gradient side is named: the accumulator of the values' gradient, its output, the query rows and the rows of the
  result's gradient. Of the other buffers it writes nothing is kept.
-/
module

public import proofs.«01_k».proof.Proof.Gen.Kernel17Ideal.Frame
public import proofs.«01_k».proof.Proof.Gen.Kernel17Ideal.Skeleton
public import proofs.«01_k».proof.Proof.Gen.Kernel17Ideal.Loops
public import Idealize.ShloMosaic.Lib.Pipeline.Frame
public import Idealize.ShloMosaic.Lib.Tactic

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellOf)

variable {F : FTy → Type} [FloatOps F] [Named F] [∀ e, Nonempty (Elt F e)]

local notation "𝕄" => MT nD τ sig Unit (Elt F) ℕ (UR sig nD τ) ℕ

set_option maxHeartbeats 0 in
/-- The run at the last key block. -/
@[irreducible] def runC (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (h1 : ¬ k0_cond1 i = 1#1) (h2 : k0_cond2 i = 1#1) :
    Σ' (C10 : BufTy.Contents (Elt F) arg10.view.ty), { C18 : BufTy.Contents (Elt F) arg18.view.ty // ∀ K : PUnit → sProp 𝕄,
      iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, arg8.view.loc (c : Thread nD τ) ↦[arg8.view.set]{fullShare} f) ∗ (∃ f, arg9.view.loc (c : Thread nD τ) ↦[arg9.view.set]{fullShare} f) ∗ (arg10.view.loc (c : Thread nD τ) ↦[arg10.view.set]{fullShare} C10) ∗ (∃ f, arg11.view.loc (c : Thread nD τ) ↦[arg11.view.set]{fullShare} f) ∗ (∃ f, arg12.view.loc (c : Thread nD τ) ↦[arg12.view.set]{fullShare} f) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (∃ f, arg16.view.loc (c : Thread nD τ) ↦[arg16.view.set]{fullShare} f) ∗ (∃ f, arg17.view.loc (c : Thread nD τ) ↦[arg17.view.set]{fullShare} f) ∗ (arg18.view.loc (c : Thread nD τ) ↦[arg18.view.set]{fullShare} C18) ∗ (∃ f, arg19.view.loc (c : Thread nD τ) ↦[arg19.view.set]{fullShare} f)) -∗ K ⟨⟩))
      ⊢ wp frame (wpE (defs₀ (F := F)) Variants.none c none) Set.univ
          (cc0_fox_attn_bwd i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19) K } := by
  refine ⟨?_, ?_, fun K => ?run⟩
  case run =>
    iintro ⟨⟨H2, H3, H4, H5, H6, H7, H8, H9, H10, H11, H12, H13, H14, H15, H16, H17, H18, H19⟩, Hk⟩
    sl_unfold [cc0_fox_attn_bwd]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [H12]; · iexists _; iexact H12
    isplitl [H13]; · iexact H13
    isplitl [H14]; · iexact H14
    isplitl [H15]; · iexact H15
    isplitl [H16]; · iexists _; iexact H16
    isplitl [H17]; · iexists _; iexact H17
    isplitl [H18]; · iexact H18
    iexists _; iexact H19

end Cert.Kernel17Ideal.Hand

end
-- ==== Proof.FDiagC.lean ====
/-
  The attention's gradient of the values: what the diagonal block of query rows adds at the last block of keys.
-/
module

public import proofs.«01_k».proof.Proof.FRunC
public import proofs.«01_k».proof.Proof.FDiag

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

set_option maxHeartbeats 4000000 in
/-- The value gradient's buffer after the diagonal block. -/
theorem diagC (j : Fin 512) (l : Fin 128) : (arg18.view.read (Elt Ideal) (arg18.view.writes (Elt Ideal) arg18.view.junk
   (runC.sl.H18_3 (F := Ideal) i arg3 arg5 arg13 arg14 arg18 f3 f5 f13 f14)) (ix2 j l) : EReal)
     = DB (arg13.view.read (Elt Ideal) f13) (arg5.view.read (Elt Ideal) f5) (arg14.view.read (Elt Ideal) f14)
         (runC.sl.v68 (F := Ideal) i arg3 arg5 f3 f5) (runC.sl.v106 (F := Ideal) i arg3 arg5 f3 f5) j l (i 1).val := by
  obtain ⟨hlt, o11, o14, o15, o18, o19⟩ := off_d i
  simp only [runC.sl.H18_2, runC.sl.H18_1, runC.sl.H18_3, runC.sl.cst_15, runC.sl.cst_19, runC.sl.cst_40, runC.sl.cst_82, runC.sl.cst_86, runC.sl.cst_89,
      runC.sl.r, runC.sl.r_1, runC.sl.r_2, runC.sl.r_3, runC.sl.r_4, runC.sl.r_5, runC.sl.r_6, runC.sl.r_7, runC.sl.r_8, runC.sl.r_9,
      runC.sl.r_10, runC.sl.r_11, runC.sl.r_12, runC.sl.r_13, runC.sl.r_14, runC.sl.v32, runC.sl.v35, runC.sl.v36, runC.sl.v37, runC.sl.v38,
      runC.sl.v39, runC.sl.v40, runC.sl.v41, runC.sl.v45, runC.sl.v46, runC.sl.v47, runC.sl.v50, runC.sl.v51, runC.sl.v54, runC.sl.v55,
      runC.sl.v56, runC.sl.v57, runC.sl.v58, runC.sl.v59, runC.sl.v60, runC.sl.v61, runC.sl.v62, runC.sl.v63, runC.sl.v64, runC.sl.v65,
      runC.sl.v66, runC.sl.v67, runC.sl.v69, runC.sl.v70, runC.sl.v71, runC.sl.v72, runC.sl.v73, runC.sl.v74, runC.sl.v75, runC.sl.v76,
      runC.sl.v77, runC.sl.v78, runC.sl.v84, runC.sl.v88, runC.sl.v92, runC.sl.v93, runC.sl.v94, runC.sl.v96, runC.sl.v97, runC.sl.v98,
      runC.sl.v99, runC.sl.v100, runC.sl.v101, runC.sl.v102, runC.sl.v104, runC.sl.v105, runC.sl.v109, runC.sl.v111, runC.sl.v113, runC.sl.v120,
      runC.sl.v123, runC.sl.v124, runC.sl.v134, runC.sl.v147, runC.sl.v170, runC.sl.v193, runC.sl.v202, runC.sl.v203, runC.sl.v204, runC.sl.v205,
      runC.sl.v206, runC.sl.v209, runC.sl.v210, runC.sl.v211, runC.sl.v213, runC.sl.v214, runC.sl.v215, runC.sl.v216, runC.sl.v217, runC.sl.v218,
      runC.sl.v220, runC.sl.v221, runC.sl.v222, runC.sl.v223, runC.sl.v224, runC.sl.v228, runC.sl.v229, runC.sl.v230, runC.sl.v231, runC.sl.v232,
      runC.sl.v234, runC.sl.v235, runC.sl.v238, runC.sl.v240, runC.sl.v241, runC.sl.v243, runC.sl.v244, runC.sl.v245, runC.sl.v246, runC.sl.v251,
      runC.sl.v254, runC.sl.v258, runC.sl.v262, runC.sl.v263, runC.sl.v265]
  generalize runC.sl.v68 (F := Ideal) i arg3 arg5 f3 f5 = kx0
  generalize runC.sl.v106 (F := Ideal) i arg3 arg5 f3 f5 = kx1
  have h11 : ∀ (x : Fin 512) (l : Fin 4), View.readAt (Elt Ideal) arg5.view (Rect.unit (s := S1x4096x4) (k0_off11 i) ![1, 512, 4] (k0_off11_inb i)).toLoadRect f5 (ix3 (0 : Fin 1) x l)
      = arg5.view.read (Elt Ideal) f5 (ix3 (0 : Fin 1) (row (i 1).val x) l) := fun x l => readAt_eq _ _ _ _ _ (by
    intro a; refine Eq.trans ?_ (congrArg (· + _) (congrFun o11 a)).symm; fin_cases a <;> simp [row_val hlt, ix2, ix3])
  generalize View.readAt (Elt Ideal) arg5.view (Rect.unit (s := S1x4096x4) (k0_off11 i) ![1, 512, 4] (k0_off11_inb i)).toLoadRect f5 = A11 at h11 ⊢
  have h14 : ∀ (x : Fin 512) (l : Fin 128), View.readAt (Elt Ideal) arg14.view (Rect.unit (s := S2x4096x128) (k0_off14 i) ![1, 512, 128] (k0_off14_inb i)).toLoadRect f14 (ix3 (0 : Fin 1) x l)
      = arg14.view.read (Elt Ideal) f14 (ix3 (0 : Fin 2) (row (i 1).val x) l) := fun x l => readAt_eq _ _ _ _ _ (by
    intro a; refine Eq.trans ?_ (congrArg (· + _) (congrFun o14 a)).symm; fin_cases a <;> simp [row_val hlt, ix2, ix3])
  generalize View.readAt (Elt Ideal) arg14.view (Rect.unit (s := S2x4096x128) (k0_off14 i) ![1, 512, 128] (k0_off14_inb i)).toLoadRect f14 = A14 at h14 ⊢
  have h15 : ∀ (x : Fin 512) (l : Fin 256), View.readAt (Elt Ideal) arg13.view (Rect.unit (s := S2x4096x256) (k0_off15 i) ![1, 512, 256] (k0_off15_inb i)).toLoadRect f13 (ix3 (0 : Fin 1) x l)
      = arg13.view.read (Elt Ideal) f13 (ix3 (0 : Fin 2) (row (i 1).val x) l) := fun x l => readAt_eq _ _ _ _ _ (by
    intro a; refine Eq.trans ?_ (congrArg (· + _) (congrFun o15 a)).symm; fin_cases a <;> simp [row_val hlt, ix2, ix3])
  generalize View.readAt (Elt Ideal) arg13.view (Rect.unit (s := S2x4096x256) (k0_off15 i) ![1, 512, 256] (k0_off15_inb i)).toLoadRect f13 = A15 at h15 ⊢
  have h18 : ∀ (x : Fin 512) (l : Fin 128), View.readAt (Elt Ideal) arg14.view (Rect.unit (s := S2x4096x128) (k0_off18 i) ![1, 512, 128] (k0_off18_inb i)).toLoadRect f14 (ix3 (0 : Fin 1) x l)
      = arg14.view.read (Elt Ideal) f14 (ix3 (1 : Fin 2) (row (i 1).val x) l) := fun x l => readAt_eq _ _ _ _ _ (by
    intro a; refine Eq.trans ?_ (congrArg (· + _) (congrFun o18 a)).symm; fin_cases a <;> simp [row_val hlt, ix2, ix3])
  generalize View.readAt (Elt Ideal) arg14.view (Rect.unit (s := S2x4096x128) (k0_off18 i) ![1, 512, 128] (k0_off18_inb i)).toLoadRect f14 = A18 at h18 ⊢
  have h19 : ∀ (x : Fin 512) (l : Fin 256), View.readAt (Elt Ideal) arg13.view (Rect.unit (s := S2x4096x256) (k0_off19 i) ![1, 512, 256] (k0_off19_inb i)).toLoadRect f13 (ix3 (0 : Fin 1) x l)
      = arg13.view.read (Elt Ideal) f13 (ix3 (1 : Fin 2) (row (i 1).val x) l) := fun x l => readAt_eq _ _ _ _ _ (by
    intro a; refine Eq.trans ?_ (congrArg (· + _) (congrFun o19 a)).symm; fin_cases a <;> simp [row_val hlt, ix2, ix3])
  generalize View.readAt (Elt Ideal) arg13.view (Rect.unit (s := S2x4096x256) (k0_off19 i) ![1, 512, 256] (k0_off19_inb i)).toLoadRect f13 = A19 at h19 ⊢
  frame_out
  pointwise [k0_pay66, k0_pay88, k0_pay89, k0_pay98, k0_pay99, k0_pay100]
  simp only [masked]
  simp only [h11, h14, h15, h18, h19]
  rfl

theorem kx0_C : runC.sl.v68 (F := Ideal) i arg3 arg5 f3 f5 = runB.sl.v68 (F := Ideal) i arg3 arg5 f3 f5 := rfl
theorem kx1_C : runC.sl.v106 (F := Ideal) i arg3 arg5 f3 f5 = runB.sl.v106 (F := Ideal) i arg3 arg5 f3 f5 := rfl

end Cert.Kernel17Ideal.Hand

end
-- ==== Proof.FFullC.lean ====
/-
  The attention's gradient of the values at the last block of keys: the diagonal block of query rows and, by the loop, the later ones.
-/
module

public import proofs.«01_k».proof.Proof.FRunC
public import proofs.«01_k».proof.Proof.FDiagC
public import proofs.«01_k».proof.Proof.FFullB

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

variable (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)
    (h1 : ¬ k0_cond1 i = 1#1) (h2 : k0_cond2 i = 1#1)

set_option maxHeartbeats 4000000 in
/-- What the value gradient's buffer holds at the end of the point. -/
theorem valC18 (j : Fin 512) (l : Fin 128) : (arg18.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.1 (ix2 j l) : EReal)
    = DV (arg13.view.read (Elt Ideal) f13) (arg5.view.read (Elt Ideal) f5) (arg14.view.read (Elt Ideal) f14) (runB.sl.v68 (F := Ideal) i arg3 arg5 f3 f5) (runB.sl.v106 (F := Ideal) i arg3 arg5 f3 f5) j l (i 1).val := by
  unfold runC; dsimp only
  rw [t3_nil (h := t3_trips i), List.nil_append, View.writes_append]
  refine (loop18 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ j l _ le_rfl).trans ?_
  rw [diagC, t2_trips]
  rfl

set_option maxHeartbeats 4000000 in
/-- What the point writes of the value's gradient. -/
theorem valC10 (j : Fin 512) (l : Fin 128) : (arg10.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 (ix2 j l) : EReal)
    = DV (arg13.view.read (Elt Ideal) f13) (arg5.view.read (Elt Ideal) f5) (arg14.view.read (Elt Ideal) f14) (runB.sl.v68 (F := Ideal) i arg3 arg5 f3 f5) (runB.sl.v106 (F := Ideal) i arg3 arg5 f3 f5) j l (i 1).val := by
  rw [← valC18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 j l]
  unfold runC; dsimp only
  refine (View.read_writes_cons_unit_of_mem arg10.view f10 _ _ _ (ix2 j l) (ix2 j l) rfl (fun a => by fin_cases a <;> exact (Nat.zero_add _).symm)).trans ?_
  pointwise [k0_pay115]
  exact readAt_eq arg18.view _ _ (ix2 j l) (ix2 j l) (fun a => by fin_cases a <;> exact (Nat.zero_add _).symm)

end Cert.Kernel17Ideal.Hand

end
-- ==== Proof.FPre.lean ====
/-
  What the first grid point of a pair of heads fills the scratch buffers with: the scaled queries of each head and the rows of the
  result's gradient, the lanes of the other head zero.
-/
module

public import proofs.«01_k».proof.Proof.FRunB
public import proofs.«01_k».proof.Proof.FSpec

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

/-- Where the first loop's loads and stores lie. -/
theorem off_t1 : ∀ k : Fin k0_t1_loop.trips, k.val < 8
    ∧ k0_off1 k = ![512 * k.val, 0] ∧ k0_off2 k = ![0, 512 * k.val, 0]
    ∧ k0_off3 k = ![0, 512 * k.val, 0] ∧ k0_off4 k = ![0, 512 * k.val, 128]
    ∧ k0_off5 k = ![0, 512 * k.val, 0] ∧ k0_off7 k = ![1, 512 * k.val, 0]
    ∧ k0_off8 k = ![1, 512 * k.val, 128] ∧ k0_off9 k = ![1, 512 * k.val, 0] := by decide +kernel

theorem t1_trips : k0_t1_loop.trips = 8 := by decide +kernel

/-- The scale of the scores, in powers of two. -/
def cq : EReal := Named.named (F := Ideal) (φ := .f32) κ "scale_log2e" 1043900987#32

/-- The lanes that carry a row's number: the number in three parts, then three ones. -/
def aux (w : EReal) (l : ℕ) : EReal :=
  if l = 0 then w else if l = 1 then w - w else if l = 2 then w - w - (w - w) else if l < 6 then 1 else 0

/-- Whether lane `l` is one of head `a`'s. -/
def keep (a : Fin 2) (l : ℕ) : Prop := l < 64 ↔ a = 0

instance (a : Fin 2) (l : ℕ) : Decidable (keep a l) := inferInstanceAs (Decidable (_ ↔ _))

/-- The scaled queries of each head, with the row's sum of decays beside them. -/
def QS (x2 : FVec Ideal S4096x128 .f32) (rows : FVec Ideal S1x4096x4 .f32) (a : Fin 2) (r : Fin 4096) (l : Fin 256) : EReal :=
  if h : l.val < 128 then (if keep a l.val then (x2 (ix2 r ⟨l.val, h⟩) : EReal) * cq else 0)
  else aux (rows (ix3 (0 : Fin 1) r (⟨a.val, by omega⟩ : Fin 4)) : EReal) (l.val - 128)

/-- The cotangent's rows of each head. -/
def DS (x7 : FVec Ideal S4096x128 .f32) (a : Fin 2) (r : Fin 4096) (l : Fin 128) : EReal :=
  if keep a l.val then (x7 (ix2 r l) : EReal) else 0

theorem sel_slt {l n : ℕ} (hl : l < 1000) (hn : n < 1000) (a b : EReal) :
    Scalar.select (IntOp.cmpi .slt (BitVec.ofNat 32 l) (BitVec.ofNat 32 n)) a b = if l < n then a else b := by
  by_cases h : l < n
  · rw [if_pos h, (WordCmp.cmpi_slt_ofNat_eq_one_iff (by omega) (by omega)).2 h]; rfl
  · rw [if_neg h, (WordCmp.cmpi_slt_ofNat_eq_zero_iff (by omega) (by omega)).2 h]; rfl

theorem sel_sge {l n : ℕ} (hl : l < 1000) (hn : n < 1000) (a b : EReal) :
    Scalar.select (IntOp.xori (IntOp.cmpi .slt (BitVec.ofNat 32 l) (BitVec.ofNat 32 n)) 1#1) a b = if l < n then b else a := by
  by_cases h : l < n
  · rw [if_pos h, (WordCmp.cmpi_slt_ofNat_eq_one_iff (by omega) (by omega)).2 h]; rfl
  · rw [if_neg h, (WordCmp.cmpi_slt_ofNat_eq_zero_iff (by omega) (by omega)).2 h]; rfl

theorem sel_eq {l n : ℕ} (hl : l < 1000) (hn : n < 1000) (a b : EReal) :
    Scalar.select (IntOp.cmpi .eq (BitVec.ofNat 32 l) (BitVec.ofNat 32 n)) a b = if l = n then a else b := by
  by_cases h : l = n
  · subst h; rw [if_pos rfl]; simp [IntOp.cmpi, Scalar.select]
  · have hne : BitVec.ofNat 32 l ≠ BitVec.ofNat 32 n := fun e => h (by
      have := congrArg BitVec.toNat e
      rwa [BitVec.toNat_ofNat, BitVec.toNat_ofNat, Nat.mod_eq_of_lt (by omega), Nat.mod_eq_of_lt (by omega)] at this)
    have hb : (BitVec.ofNat 32 l == BitVec.ofNat 32 n) = false := beq_eq_false_iff_ne.2 hne
    rw [if_neg h]; simp [IntOp.cmpi, Scalar.select, hb]

variable (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole) (h1 : k0_cond1 i = 1#1) (𝒱 : Variants) (bd : Option 𝒱.V)
    (X_arg2 : BufTy.Contents (Elt Ideal) arg2.view.ty) (X_arg5 : BufTy.Contents (Elt Ideal) arg5.view.ty)
    (X_arg6 : BufTy.Contents (Elt Ideal) arg6.view.ty) (X_arg7 : BufTy.Contents (Elt Ideal) arg7.view.ty)
    (f_arg13 : BufTy.Contents (Elt Ideal) arg13.view.ty) (f_arg14 : BufTy.Contents (Elt Ideal) arg14.view.ty) (k : Fin k0_t1_loop.trips)

theorem t13_o8 (x : Fin 512) (l : Fin 128) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 (1 : Fin 2) (row k.val x) (⟨128 + l.val, by omega⟩ : Fin 256)) : EReal) = aux (arg5.view.read (Elt Ideal) X_arg5 (ix3 (0 : Fin 1) (row k.val x) (1 : Fin 4)) : EReal) l.val := by
  obtain ⟨hlt, o1, o2, o3, o4, o5, o7, o8, o9⟩ := off_t1 k
  unfold trip_k0_t1; dsimp only
  refine (View.read_writes_cons_unit_of_mem arg13.view _ _ _ _ (ix3 (1 : Fin 2) (row k.val x) (⟨128 + l.val, by omega⟩ : Fin 256)) (ix3 (0 : Fin 1) x l) o8 (fun b => by fin_cases b; exacts [rfl, row_val hlt x, rfl])).trans ?_
  simp only [trip_k0_t1.sl.arg20, trip_k0_t1.sl.cst_149, trip_k0_t1.sl.cst_150, trip_k0_t1.sl.cst_156, trip_k0_t1.sl.r, trip_k0_t1.sl.r_1, trip_k0_t1.sl.r_2, trip_k0_t1.sl.r_3, trip_k0_t1.sl.r_4, trip_k0_t1.sl.r_5, trip_k0_t1.sl.r_6, trip_k0_t1.sl.v272, trip_k0_t1.sl.v299, trip_k0_t1.sl.v314, trip_k0_t1.sl.v316, trip_k0_t1.sl.v317, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332, trip_k0_t1.sl.v334, trip_k0_t1.sl.v335, trip_k0_t1.sl.v338, trip_k0_t1.sl.v339, trip_k0_t1.sl.v341, trip_k0_t1.sl.v342, trip_k0_t1.sl.v343, trip_k0_t1.sl.v346, trip_k0_t1.sl.v347, trip_k0_t1.sl.v349, trip_k0_t1.sl.v350, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v361, trip_k0_t1.sl.v362, trip_k0_t1.sl.v363, trip_k0_t1.sl.v364, trip_k0_t1.sl.v365, trip_k0_t1.sl.v367, trip_k0_t1.sl.v369, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v383, trip_k0_t1.sl.v384, trip_k0_t1.sl.v385, trip_k0_t1.sl.v387, trip_k0_t1.sl.v388, trip_k0_t1.sl.v389, trip_k0_t1.sl.v391, trip_k0_t1.sl.v392, trip_k0_t1.sl.v394, trip_k0_t1.sl.v395, trip_k0_t1.sl.v396, trip_k0_t1.sl.v398, trip_k0_t1.sl.v399, trip_k0_t1.sl.v400]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg5.view (Rect.unit (s := S1x4096x4) (k0_off2 k) ![1, 512, 4] (k0_off2_inb i k h1)).toLoadRect X_arg5 (ix3 (0 : Fin 1) x (1 : Fin 4)) = arg5.view.read (Elt Ideal) X_arg5 (ix3 (0 : Fin 1) (row k.val x) (1 : Fin 4)) from readAt_eq arg5.view X_arg5 _ _ (ix3 (0 : Fin 1) (row k.val x) (1 : Fin 4)) (by
    intro b; refine Eq.trans ?_ (congrArg (· + _) (congrFun o2 b)).symm; fin_cases b <;> simp [row_val hlt, ix2, ix3])), sel_eq (by omega) (by omega), sel_eq (by omega) (by omega), sel_eq (by omega) (by omega), sel_slt (by omega) (by omega)]
  rfl

theorem t13_o7 (x : Fin 512) (l : Fin 128) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 (1 : Fin 2) (row k.val x) (⟨0 + l.val, by omega⟩ : Fin 256)) : EReal) = (if keep 1 l.val then (arg2.view.read (Elt Ideal) X_arg2 (ix2 (row k.val x) l) : EReal) * cq else 0) := by
  obtain ⟨hlt, o1, o2, o3, o4, o5, o7, o8, o9⟩ := off_t1 k
  unfold trip_k0_t1; dsimp only
  refine (View.read_writes_cons_unit_of_not_mem arg13.view _ _ _ _ (ix3 (1 : Fin 2) (row k.val x) (⟨0 + l.val, by omega⟩ : Fin 256)) o8 2 (Or.inl (by show 0 + l.val < 128; omega))).trans ?_
  refine (View.read_writes_cons_unit_of_mem arg13.view _ _ _ _ (ix3 (1 : Fin 2) (row k.val x) (⟨0 + l.val, by omega⟩ : Fin 256)) (ix3 (0 : Fin 1) x l) o7 (fun b => by fin_cases b; exacts [rfl, row_val hlt x, rfl])).trans ?_
  simp only [trip_k0_t1.sl.arg20, trip_k0_t1.sl.cst_149, trip_k0_t1.sl.cst_150, trip_k0_t1.sl.cst_156, trip_k0_t1.sl.r, trip_k0_t1.sl.r_1, trip_k0_t1.sl.r_2, trip_k0_t1.sl.r_3, trip_k0_t1.sl.r_4, trip_k0_t1.sl.r_5, trip_k0_t1.sl.r_6, trip_k0_t1.sl.v272, trip_k0_t1.sl.v299, trip_k0_t1.sl.v314, trip_k0_t1.sl.v316, trip_k0_t1.sl.v317, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332, trip_k0_t1.sl.v334, trip_k0_t1.sl.v335, trip_k0_t1.sl.v338, trip_k0_t1.sl.v339, trip_k0_t1.sl.v341, trip_k0_t1.sl.v342, trip_k0_t1.sl.v343, trip_k0_t1.sl.v346, trip_k0_t1.sl.v347, trip_k0_t1.sl.v349, trip_k0_t1.sl.v350, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v361, trip_k0_t1.sl.v362, trip_k0_t1.sl.v363, trip_k0_t1.sl.v364, trip_k0_t1.sl.v365, trip_k0_t1.sl.v367, trip_k0_t1.sl.v369, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v383, trip_k0_t1.sl.v384, trip_k0_t1.sl.v385, trip_k0_t1.sl.v387, trip_k0_t1.sl.v388, trip_k0_t1.sl.v389, trip_k0_t1.sl.v391, trip_k0_t1.sl.v392, trip_k0_t1.sl.v394, trip_k0_t1.sl.v395, trip_k0_t1.sl.v396, trip_k0_t1.sl.v398, trip_k0_t1.sl.v399, trip_k0_t1.sl.v400]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg2.view (Rect.unit (s := S4096x128) (k0_off1 k) ![512, 128] (k0_off1_inb i k h1)).toLoadRect X_arg2 (ix2 x l) = arg2.view.read (Elt Ideal) X_arg2 (ix2 (row k.val x) l) from readAt_eq arg2.view X_arg2 _ _ (ix2 (row k.val x) l) (by
    intro b; refine Eq.trans ?_ (congrArg (· + _) (congrFun o1 b)).symm; fin_cases b <;> simp [row_val hlt, ix2, ix3])), sel_sge (by omega) (by omega)]
  by_cases hl : l.val < 64 <;> simp [hl, keep] <;> rfl

theorem t13_o4 (x : Fin 512) (l : Fin 128) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 (0 : Fin 2) (row k.val x) (⟨128 + l.val, by omega⟩ : Fin 256)) : EReal) = aux (arg5.view.read (Elt Ideal) X_arg5 (ix3 (0 : Fin 1) (row k.val x) (0 : Fin 4)) : EReal) l.val := by
  obtain ⟨hlt, o1, o2, o3, o4, o5, o7, o8, o9⟩ := off_t1 k
  unfold trip_k0_t1; dsimp only
  refine (View.read_writes_cons_unit_of_not_mem arg13.view _ _ _ _ (ix3 (0 : Fin 2) (row k.val x) (⟨128 + l.val, by omega⟩ : Fin 256)) o8 0 (Or.inl (by show (0 : ℕ) < 1; decide))).trans ?_
  refine (View.read_writes_cons_unit_of_not_mem arg13.view _ _ _ _ (ix3 (0 : Fin 2) (row k.val x) (⟨128 + l.val, by omega⟩ : Fin 256)) o7 0 (Or.inl (by show (0 : ℕ) < 1; decide))).trans ?_
  refine (View.read_writes_cons_unit_of_mem arg13.view _ _ _ _ (ix3 (0 : Fin 2) (row k.val x) (⟨128 + l.val, by omega⟩ : Fin 256)) (ix3 (0 : Fin 1) x l) o4 (fun b => by fin_cases b; exacts [rfl, row_val hlt x, rfl])).trans ?_
  simp only [trip_k0_t1.sl.arg20, trip_k0_t1.sl.cst_149, trip_k0_t1.sl.cst_150, trip_k0_t1.sl.cst_156, trip_k0_t1.sl.r, trip_k0_t1.sl.r_1, trip_k0_t1.sl.r_2, trip_k0_t1.sl.r_3, trip_k0_t1.sl.r_4, trip_k0_t1.sl.r_5, trip_k0_t1.sl.r_6, trip_k0_t1.sl.v272, trip_k0_t1.sl.v299, trip_k0_t1.sl.v314, trip_k0_t1.sl.v316, trip_k0_t1.sl.v317, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332, trip_k0_t1.sl.v334, trip_k0_t1.sl.v335, trip_k0_t1.sl.v338, trip_k0_t1.sl.v339, trip_k0_t1.sl.v341, trip_k0_t1.sl.v342, trip_k0_t1.sl.v343, trip_k0_t1.sl.v346, trip_k0_t1.sl.v347, trip_k0_t1.sl.v349, trip_k0_t1.sl.v350, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v361, trip_k0_t1.sl.v362, trip_k0_t1.sl.v363, trip_k0_t1.sl.v364, trip_k0_t1.sl.v365, trip_k0_t1.sl.v367, trip_k0_t1.sl.v369, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v383, trip_k0_t1.sl.v384, trip_k0_t1.sl.v385, trip_k0_t1.sl.v387, trip_k0_t1.sl.v388, trip_k0_t1.sl.v389, trip_k0_t1.sl.v391, trip_k0_t1.sl.v392, trip_k0_t1.sl.v394, trip_k0_t1.sl.v395, trip_k0_t1.sl.v396, trip_k0_t1.sl.v398, trip_k0_t1.sl.v399, trip_k0_t1.sl.v400]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg5.view (Rect.unit (s := S1x4096x4) (k0_off2 k) ![1, 512, 4] (k0_off2_inb i k h1)).toLoadRect X_arg5 (ix3 (0 : Fin 1) x (0 : Fin 4)) = arg5.view.read (Elt Ideal) X_arg5 (ix3 (0 : Fin 1) (row k.val x) (0 : Fin 4)) from readAt_eq arg5.view X_arg5 _ _ (ix3 (0 : Fin 1) (row k.val x) (0 : Fin 4)) (by
    intro b; refine Eq.trans ?_ (congrArg (· + _) (congrFun o2 b)).symm; fin_cases b <;> simp [row_val hlt, ix2, ix3])), sel_eq (by omega) (by omega), sel_eq (by omega) (by omega), sel_eq (by omega) (by omega), sel_slt (by omega) (by omega)]
  rfl

theorem t13_o3 (x : Fin 512) (l : Fin 128) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 (0 : Fin 2) (row k.val x) (⟨0 + l.val, by omega⟩ : Fin 256)) : EReal) = (if keep 0 l.val then (arg2.view.read (Elt Ideal) X_arg2 (ix2 (row k.val x) l) : EReal) * cq else 0) := by
  obtain ⟨hlt, o1, o2, o3, o4, o5, o7, o8, o9⟩ := off_t1 k
  unfold trip_k0_t1; dsimp only
  refine (View.read_writes_cons_unit_of_not_mem arg13.view _ _ _ _ (ix3 (0 : Fin 2) (row k.val x) (⟨0 + l.val, by omega⟩ : Fin 256)) o8 0 (Or.inl (by show (0 : ℕ) < 1; decide))).trans ?_
  refine (View.read_writes_cons_unit_of_not_mem arg13.view _ _ _ _ (ix3 (0 : Fin 2) (row k.val x) (⟨0 + l.val, by omega⟩ : Fin 256)) o7 0 (Or.inl (by show (0 : ℕ) < 1; decide))).trans ?_
  refine (View.read_writes_cons_unit_of_not_mem arg13.view _ _ _ _ (ix3 (0 : Fin 2) (row k.val x) (⟨0 + l.val, by omega⟩ : Fin 256)) o4 2 (Or.inl (by show 0 + l.val < 128; omega))).trans ?_
  refine (View.read_writes_cons_unit_of_mem arg13.view _ _ _ _ (ix3 (0 : Fin 2) (row k.val x) (⟨0 + l.val, by omega⟩ : Fin 256)) (ix3 (0 : Fin 1) x l) o3 (fun b => by fin_cases b; exacts [rfl, row_val hlt x, rfl])).trans ?_
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg2.view (Rect.unit (s := S4096x128) (k0_off1 k) ![512, 128] (k0_off1_inb i k h1)).toLoadRect X_arg2 (ix2 x l) = arg2.view.read (Elt Ideal) X_arg2 (ix2 (row k.val x) l) from readAt_eq arg2.view X_arg2 _ _ (ix2 (row k.val x) l) (by
    intro b; refine Eq.trans ?_ (congrArg (· + _) (congrFun o1 b)).symm; fin_cases b <;> simp [row_val hlt, ix2, ix3])), sel_slt (by omega) (by omega)]
  by_cases hl : l.val < 64 <;> simp [hl, keep] <;> rfl

theorem t14_0 (x : Fin 512) (l : Fin 128) :
    (arg14.view.read (Elt Ideal) (arg14.view.writes (Elt Ideal) f_arg14 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).2.1) (ix3 (0 : Fin 2) (row k.val x) l) : EReal)
      = DS (arg7.view.read (Elt Ideal) X_arg7) 0 (row k.val x) l := by
  obtain ⟨hlt, o1, o2, o3, o4, o5, o7, o8, o9⟩ := off_t1 k
  unfold trip_k0_t1; dsimp only
  refine (View.read_writes_cons_unit_of_not_mem arg14.view _ _ _ _ (ix3 (0 : Fin 2) (row k.val x) l) o9 0 (Or.inl (by show (0 : ℕ) < 1; decide))).trans ?_
  refine (View.read_writes_cons_unit_of_mem arg14.view _ _ _ _ (ix3 (0 : Fin 2) (row k.val x) l) (ix3 (0 : Fin 1) x l) o5 (fun b => by fin_cases b; exacts [rfl, row_val hlt x, (Nat.zero_add _).symm])).trans ?_
  simp only [trip_k0_t1.sl.arg20, trip_k0_t1.sl.cst_149, trip_k0_t1.sl.cst_150, trip_k0_t1.sl.cst_156, trip_k0_t1.sl.r, trip_k0_t1.sl.r_1, trip_k0_t1.sl.r_2, trip_k0_t1.sl.r_3, trip_k0_t1.sl.r_4, trip_k0_t1.sl.r_5, trip_k0_t1.sl.r_6, trip_k0_t1.sl.v272, trip_k0_t1.sl.v299, trip_k0_t1.sl.v314, trip_k0_t1.sl.v316, trip_k0_t1.sl.v317, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332, trip_k0_t1.sl.v334, trip_k0_t1.sl.v335, trip_k0_t1.sl.v338, trip_k0_t1.sl.v339, trip_k0_t1.sl.v341, trip_k0_t1.sl.v342, trip_k0_t1.sl.v343, trip_k0_t1.sl.v346, trip_k0_t1.sl.v347, trip_k0_t1.sl.v349, trip_k0_t1.sl.v350, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v361, trip_k0_t1.sl.v362, trip_k0_t1.sl.v363, trip_k0_t1.sl.v364, trip_k0_t1.sl.v365, trip_k0_t1.sl.v367, trip_k0_t1.sl.v369, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v383, trip_k0_t1.sl.v384, trip_k0_t1.sl.v385, trip_k0_t1.sl.v387, trip_k0_t1.sl.v388, trip_k0_t1.sl.v389, trip_k0_t1.sl.v391, trip_k0_t1.sl.v392, trip_k0_t1.sl.v394, trip_k0_t1.sl.v395, trip_k0_t1.sl.v396, trip_k0_t1.sl.v398, trip_k0_t1.sl.v399, trip_k0_t1.sl.v400]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg7.view (Rect.unit (s := S4096x128) (k0_off1 k) ![512, 128] (k0_off1_inb i k h1)).toLoadRect X_arg7 (ix2 x l) = arg7.view.read (Elt Ideal) X_arg7 (ix2 (row k.val x) l) from readAt_eq arg7.view X_arg7 _ _ (ix2 (row k.val x) l) (by
    intro b; refine Eq.trans ?_ (congrArg (· + _) (congrFun o1 b)).symm; fin_cases b <;> simp [row_val hlt, ix2, ix3])), sel_slt (by omega) (by omega)]
  by_cases hl : l.val < 64 <;> simp [hl, keep, DS]

theorem t14_1 (x : Fin 512) (l : Fin 128) :
    (arg14.view.read (Elt Ideal) (arg14.view.writes (Elt Ideal) f_arg14 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).2.1) (ix3 (1 : Fin 2) (row k.val x) l) : EReal)
      = DS (arg7.view.read (Elt Ideal) X_arg7) 1 (row k.val x) l := by
  obtain ⟨hlt, o1, o2, o3, o4, o5, o7, o8, o9⟩ := off_t1 k
  unfold trip_k0_t1; dsimp only
  refine (View.read_writes_cons_unit_of_mem arg14.view _ _ _ _ (ix3 (1 : Fin 2) (row k.val x) l) (ix3 (0 : Fin 1) x l) o9 (fun b => by fin_cases b; exacts [rfl, row_val hlt x, (Nat.zero_add _).symm])).trans ?_
  simp only [trip_k0_t1.sl.arg20, trip_k0_t1.sl.cst_149, trip_k0_t1.sl.cst_150, trip_k0_t1.sl.cst_156, trip_k0_t1.sl.r, trip_k0_t1.sl.r_1, trip_k0_t1.sl.r_2, trip_k0_t1.sl.r_3, trip_k0_t1.sl.r_4, trip_k0_t1.sl.r_5, trip_k0_t1.sl.r_6, trip_k0_t1.sl.v272, trip_k0_t1.sl.v299, trip_k0_t1.sl.v314, trip_k0_t1.sl.v316, trip_k0_t1.sl.v317, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v327, trip_k0_t1.sl.v328, trip_k0_t1.sl.v329, trip_k0_t1.sl.v330, trip_k0_t1.sl.v331, trip_k0_t1.sl.v332, trip_k0_t1.sl.v334, trip_k0_t1.sl.v335, trip_k0_t1.sl.v338, trip_k0_t1.sl.v339, trip_k0_t1.sl.v341, trip_k0_t1.sl.v342, trip_k0_t1.sl.v343, trip_k0_t1.sl.v346, trip_k0_t1.sl.v347, trip_k0_t1.sl.v349, trip_k0_t1.sl.v350, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v361, trip_k0_t1.sl.v362, trip_k0_t1.sl.v363, trip_k0_t1.sl.v364, trip_k0_t1.sl.v365, trip_k0_t1.sl.v367, trip_k0_t1.sl.v369, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v383, trip_k0_t1.sl.v384, trip_k0_t1.sl.v385, trip_k0_t1.sl.v387, trip_k0_t1.sl.v388, trip_k0_t1.sl.v389, trip_k0_t1.sl.v391, trip_k0_t1.sl.v392, trip_k0_t1.sl.v394, trip_k0_t1.sl.v395, trip_k0_t1.sl.v396, trip_k0_t1.sl.v398, trip_k0_t1.sl.v399, trip_k0_t1.sl.v400]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  rw [(show View.readAt (Elt Ideal) arg7.view (Rect.unit (s := S4096x128) (k0_off1 k) ![512, 128] (k0_off1_inb i k h1)).toLoadRect X_arg7 (ix2 x l) = arg7.view.read (Elt Ideal) X_arg7 (ix2 (row k.val x) l) from readAt_eq arg7.view X_arg7 _ _ (ix2 (row k.val x) l) (by
    intro b; refine Eq.trans ?_ (congrArg (· + _) (congrFun o1 b)).symm; fin_cases b <;> simp [row_val hlt, ix2, ix3])), sel_sge (by omega) (by omega)]
  by_cases hl : l.val < 64 <;> simp [hl, keep, DS]

theorem t13_out (a : Fin 2) (r : Fin 4096) (l : Fin 256) (hr : r.val < 512 * k.val ∨ 512 * k.val + 512 ≤ r.val) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 a r l) : EReal)
      = arg13.view.read (Elt Ideal) f_arg13 (ix3 a r l) := by
  obtain ⟨hlt, o1, o2, o3, o4, o5, o7, o8, o9⟩ := off_t1 k
  unfold trip_k0_t1; dsimp only
  refine (View.read_writes_cons_unit_of_not_mem arg13.view _ _ _ _ (ix3 a r l) o8 1 (by simpa [ix3] using hr)).trans ?_
  refine (View.read_writes_cons_unit_of_not_mem arg13.view _ _ _ _ (ix3 a r l) o7 1 (by simpa [ix3] using hr)).trans ?_
  refine (View.read_writes_cons_unit_of_not_mem arg13.view _ _ _ _ (ix3 a r l) o4 1 (by simpa [ix3] using hr)).trans ?_
  refine (View.read_writes_cons_unit_of_not_mem arg13.view _ _ _ _ (ix3 a r l) o3 1 (by simpa [ix3] using hr)).trans ?_
  rfl

theorem t14_out (a : Fin 2) (r : Fin 4096) (l : Fin 128) (hr : r.val < 512 * k.val ∨ 512 * k.val + 512 ≤ r.val) :
    (arg14.view.read (Elt Ideal) (arg14.view.writes (Elt Ideal) f_arg14 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).2.1) (ix3 a r l) : EReal)
      = arg14.view.read (Elt Ideal) f_arg14 (ix3 a r l) := by
  obtain ⟨hlt, o1, o2, o3, o4, o5, o7, o8, o9⟩ := off_t1 k
  unfold trip_k0_t1; dsimp only
  refine (View.read_writes_cons_unit_of_not_mem arg14.view _ _ _ _ (ix3 a r l) o9 1 (by simpa [ix3] using hr)).trans ?_
  refine (View.read_writes_cons_unit_of_not_mem arg14.view _ _ _ _ (ix3 a r l) o5 1 (by simpa [ix3] using hr)).trans ?_
  rfl

/-- The scaled queries after one trip. -/
theorem t13 (a : Fin 2) (r : Fin 4096) (l : Fin 256) :
    (arg13.view.read (Elt Ideal) (arg13.view.writes (Elt Ideal) f_arg13 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).1) (ix3 a r l) : EReal)
      = if 512 * k.val ≤ r.val ∧ r.val < 512 * k.val + 512 then QS (arg2.view.read (Elt Ideal) X_arg2) (arg5.view.read (Elt Ideal) X_arg5) a r l
        else arg13.view.read (Elt Ideal) f_arg13 (ix3 a r l) := by
  by_cases hr : 512 * k.val ≤ r.val ∧ r.val < 512 * k.val + 512
  · rw [if_pos hr]
    have hlt : k.val < 8 := (off_t1 k).1
    obtain ⟨x, rfl⟩ : ∃ x : Fin 512, r = row k.val x := ⟨⟨r.val - 512 * k.val, by omega⟩, Fin.ext (by rw [row_val hlt]; show r.val = 512 * k.val + (r.val - 512 * k.val); omega)⟩
    by_cases hl : l.val < 128
    · obtain ⟨m, rfl⟩ : ∃ m : Fin 128, l = ⟨0 + m.val, Nat.lt_of_lt_of_le (Nat.add_lt_add_left m.isLt 0) (by decide)⟩ := ⟨⟨l.val, hl⟩, Fin.ext (Nat.zero_add _).symm⟩
      have hq : QS (arg2.view.read (Elt Ideal) X_arg2) (arg5.view.read (Elt Ideal) X_arg5) a (row k.val x) ⟨0 + m.val, by omega⟩
          = if keep a m.val then (arg2.view.read (Elt Ideal) X_arg2 (ix2 (row k.val x) m) : EReal) * cq else 0 := by
        unfold QS; rw [dif_pos hl]; simp only [Nat.zero_add]
      rw [hq]
      fin_cases a
      · exact t13_o3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg13 k x m
      · exact t13_o7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg13 k x m
    · obtain ⟨m, rfl⟩ : ∃ m : Fin 128, l = ⟨128 + m.val, Nat.add_lt_add_left m.isLt 128⟩ := ⟨⟨l.val - 128, by omega⟩, Fin.ext (by show l.val = 128 + (l.val - 128); omega)⟩
      have hq : QS (arg2.view.read (Elt Ideal) X_arg2) (arg5.view.read (Elt Ideal) X_arg5) a (row k.val x) ⟨128 + m.val, by omega⟩
          = aux (arg5.view.read (Elt Ideal) X_arg5 (ix3 (0 : Fin 1) (row k.val x) (⟨a.val, by omega⟩ : Fin 4)) : EReal) m.val := by
        unfold QS; rw [dif_neg hl]; simp only [Nat.add_sub_cancel_left]
      rw [hq]
      fin_cases a
      · exact t13_o4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg13 k x m
      · exact t13_o8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg13 k x m
  · rw [if_neg hr]
    exact t13_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg13 k a r l (by omega)

/-- The cotangent's rows after one trip. -/
theorem t14 (a : Fin 2) (r : Fin 4096) (l : Fin 128) :
    (arg14.view.read (Elt Ideal) (arg14.view.writes (Elt Ideal) f_arg14 (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 k).2.1) (ix3 a r l) : EReal)
      = if 512 * k.val ≤ r.val ∧ r.val < 512 * k.val + 512 then DS (arg7.view.read (Elt Ideal) X_arg7) a r l
        else arg14.view.read (Elt Ideal) f_arg14 (ix3 a r l) := by
  by_cases hr : 512 * k.val ≤ r.val ∧ r.val < 512 * k.val + 512
  · rw [if_pos hr]
    have hlt : k.val < 8 := (off_t1 k).1
    obtain ⟨x, rfl⟩ : ∃ x : Fin 512, r = row k.val x := ⟨⟨r.val - 512 * k.val, by omega⟩, Fin.ext (by rw [row_val hlt]; show r.val = 512 * k.val + (r.val - 512 * k.val); omega)⟩
    fin_cases a
    · exact t14_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg14 k x l
    · exact t14_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg14 k x l
  · rw [if_neg hr]
    exact t14_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 f_arg14 k a r l (by omega)

/-- The scaled queries after the first trips of the loop. -/
theorem loop13 (a : Fin 2) (r : Fin 4096) (l : Fin 256) : ∀ n : ℕ, n ≤ k0_t1_loop.trips →
    (arg13.view.read (Elt Ideal) (arg13.view.writes (Elt Ideal) f_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 n).1) (ix3 a r l) : EReal)
      = if r.val < 512 * n then QS (arg2.view.read (Elt Ideal) X_arg2) (arg5.view.read (Elt Ideal) X_arg5) a r l else arg13.view.read (Elt Ideal) f_arg13 (ix3 a r l)
  | 0, _ => by
    rw [if_neg (by omega)]; rfl
  | n + 1, h => by
    have ih := loop13 a r l n (by omega)
    rw [show n + 1 = (⟨n, h⟩ : Fin k0_t1_loop.trips).val + 1 from rfl, pb_k0_t1_succ]
    dsimp only
    rw [View.writes_append]
    refine (t13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 _ ⟨n, h⟩ a r l).trans ?_
    dsimp only
    rw [ih]
    by_cases h1 : r.val < 512 * n
    · rw [if_neg (by omega), if_pos h1, if_pos (by omega)]
    · by_cases h2 : r.val < 512 * n + 512
      · rw [if_pos (by omega), if_pos (by omega)]
      · rw [if_neg (by omega), if_neg h1, if_neg (by omega)]

/-- The cotangent rows after the first trips of the loop. -/
theorem loop14 (a : Fin 2) (r : Fin 4096) (l : Fin 128) : ∀ n : ℕ, n ≤ k0_t1_loop.trips →
    (arg14.view.read (Elt Ideal) (arg14.view.writes (Elt Ideal) f_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X_arg2 X_arg5 X_arg6 X_arg7 n).2.1) (ix3 a r l) : EReal)
      = if r.val < 512 * n then DS (arg7.view.read (Elt Ideal) X_arg7) a r l else arg14.view.read (Elt Ideal) f_arg14 (ix3 a r l)
  | 0, _ => by
    rw [if_neg (by omega)]; rfl
  | n + 1, h => by
    have ih := loop14 a r l n (by omega)
    rw [show n + 1 = (⟨n, h⟩ : Fin k0_t1_loop.trips).val + 1 from rfl, pb_k0_t1_succ]
    dsimp only
    rw [View.writes_append]
    refine (t14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 𝒱 bd X_arg2 X_arg5 X_arg6 X_arg7 _ ⟨n, h⟩ a r l).trans ?_
    dsimp only
    rw [ih]
    by_cases h1 : r.val < 512 * n
    · rw [if_neg (by omega), if_pos h1, if_pos (by omega)]
    · by_cases h2 : r.val < 512 * n + 512
      · rw [if_pos (by omega), if_pos (by omega)]
      · rw [if_neg (by omega), if_neg h1, if_neg (by omega)]

end Cert.Kernel17Ideal.Hand

end
-- ==== Proof.FKeys.lean ====
/-
  The keys of one block as the kernel's products take them: the head's lanes, and beside them the sums of decays in three parts.
-/
module

public import proofs.«01_k».proof.Proof.FFullB
public import proofs.«01_k».proof.Proof.FPre

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open Idealize.SL.Sem

variable (c : Dev nD) (i : grid0.Coords)
    (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

/-- The lanes beside the keys: three ones, then the row's number in three parts, taken away. -/
def kaux (w : EReal) (l : ℕ) : EReal :=
  if l < 3 then 1 else if l = 3 then 0 - w else if l = 4 then 0 - (w - w) else if l = 5 then 0 - (w - w - (w - w)) else 0

/-- The keys of one head's block, with the sums of decays beside them. -/
def KXf (x3 : FVec Ideal S512x128 .f32) (rows : FVec Ideal S1x4096x4 .f32) (a : Fin 4) (n : ℕ) (j : Fin 512) (l : Fin 256) : EReal :=
  if h : l.val < 128 then (x3 (ix2 j ⟨l.val, h⟩) : EReal) else kaux (rows (ix3 (0 : Fin 1) (row n j) a) : EReal) (l.val - 128)

theorem p69 (v : FVec Ideal S512x128 .f32) (j : Fin 512) (l : Fin 128) : (k0_pay69 (F := Ideal) v (ix2 j l) : EReal) = v (ix2 j l) := by
  pointwise [k0_pay69]

theorem p72 (v : FVec Ideal S1x512x4 .f32) (j : Fin 512) (a : Fin 4) : (k0_pay72 (F := Ideal) v (ix2 j a) : EReal) = v (ix3 (0 : Fin 1) j a) := by
  pointwise [k0_pay72]

theorem p73 (v : FVec Ideal S1x512x4 .f32) (j : Fin 512) : (k0_pay73 (F := Ideal) v (ix2 j (0 : Fin 1)) : EReal) = v (ix3 (0 : Fin 1) j (0 : Fin 4)) := by
  pointwise [k0_pay73, k0_pay72]

theorem p74 (v : FVec Ideal S1x512x4 .f32) (j : Fin 512) : (k0_pay74 (F := Ideal) v (ix2 j (0 : Fin 1)) : EReal) = v (ix3 (0 : Fin 1) j (0 : Fin 4)) := by
  pointwise [k0_pay74, k0_pay73, k0_pay72]

set_option maxHeartbeats 200000 in
theorem kx0 (j : Fin 512) (l : Fin 256) : (runB.sl.v68 (F := Ideal) i arg3 arg5 f3 f5 (ix2 j l) : EReal)
    = KXf (arg3.view.read (Elt Ideal) f3) (arg5.view.read (Elt Ideal) f5) 0 (i 1).val j l := by
  obtain ⟨hlt, o11, o14, o15, o18, o19⟩ := off_d i
  generalize hz : KXf (arg3.view.read (Elt Ideal) f3) (arg5.view.read (Elt Ideal) f5) 0 (i 1).val j l = z
  frame_out
  pointwise [runB.sl.v68, runB.sl.H18_2, runB.sl.H18_3, runB.sl.H18_1, runB.sl.cst_15, runB.sl.cst_19, runB.sl.cst_40, runB.sl.cst_82, runB.sl.cst_86, runB.sl.cst_89,
      runB.sl.r, runB.sl.r_1, runB.sl.r_2, runB.sl.r_3, runB.sl.r_4, runB.sl.r_5, runB.sl.r_6, runB.sl.r_7, runB.sl.r_8, runB.sl.r_9,
      runB.sl.r_10, runB.sl.r_11, runB.sl.r_12, runB.sl.r_13, runB.sl.r_14, runB.sl.v32, runB.sl.v35, runB.sl.v36, runB.sl.v37, runB.sl.v38,
      runB.sl.v39, runB.sl.v40, runB.sl.v41, runB.sl.v45, runB.sl.v46, runB.sl.v47, runB.sl.v50, runB.sl.v51, runB.sl.v54, runB.sl.v55,
      runB.sl.v56, runB.sl.v57, runB.sl.v58, runB.sl.v59, runB.sl.v60, runB.sl.v61, runB.sl.v62, runB.sl.v63, runB.sl.v64, runB.sl.v65,
      runB.sl.v66, runB.sl.v67, runB.sl.v69, runB.sl.v70, runB.sl.v71, runB.sl.v72, runB.sl.v73, runB.sl.v74, runB.sl.v75, runB.sl.v76,
      runB.sl.v77, runB.sl.v78, runB.sl.v84, runB.sl.v88, runB.sl.v92, runB.sl.v93, runB.sl.v94, runB.sl.v96, runB.sl.v97, runB.sl.v98,
      runB.sl.v99, runB.sl.v100, runB.sl.v101, runB.sl.v102, runB.sl.v104, runB.sl.v105, runB.sl.v109, runB.sl.v111, runB.sl.v113, runB.sl.v120,
      runB.sl.v123, runB.sl.v124, runB.sl.v134, runB.sl.v147, runB.sl.v170, runB.sl.v193, runB.sl.v202, runB.sl.v203, runB.sl.v204, runB.sl.v205,
      runB.sl.v206, runB.sl.v209, runB.sl.v210, runB.sl.v211, runB.sl.v213, runB.sl.v214, runB.sl.v215, runB.sl.v216, runB.sl.v217, runB.sl.v218,
      runB.sl.v220, runB.sl.v221, runB.sl.v222, runB.sl.v223, runB.sl.v224, runB.sl.v228, runB.sl.v229, runB.sl.v230, runB.sl.v231, runB.sl.v232,
      runB.sl.v234, runB.sl.v235, runB.sl.v238, runB.sl.v240, runB.sl.v241, runB.sl.v243, runB.sl.v244, runB.sl.v245, runB.sl.v246, runB.sl.v251,
      runB.sl.v254, runB.sl.v258, runB.sl.v262, runB.sl.v263]
  have h11 : ∀ (x : Fin 512) (l : Fin 4), View.ld (arg5.view.read (Elt Ideal) f5) (Rect.unit (s := S1x4096x4) (k0_off11 i) ![1, 512, 4] (k0_off11_inb i)) (ix3 (0 : Fin 1) x l)
      = arg5.view.read (Elt Ideal) f5 (ix3 (0 : Fin 1) (row (i 1).val x) l) := fun x l => ld_eq _ _ _ _ (by
    intro a; refine Eq.trans ?_ (congrArg (· + _) (congrFun o11 a)).symm; fin_cases a <;> simp [row_val hlt, ix2, ix3])
  rw [← hz]
  unfold KXf
  by_cases h : l.val < 128
  · rw [dif_pos h, dif_pos h]
    exact p69 _ j ⟨l.val, h⟩
  · rw [dif_neg h, dif_neg h, sel_slt (by omega) (by omega), sel_eq (by omega) (by omega), sel_eq (by omega) (by omega), sel_eq (by omega) (by omega)]
    rw [p73, p74, h11]
    rfl

set_option maxHeartbeats 200000 in
theorem kx1 (j : Fin 512) (l : Fin 256) : (runB.sl.v106 (F := Ideal) i arg3 arg5 f3 f5 (ix2 j l) : EReal)
    = KXf (arg3.view.read (Elt Ideal) f3) (arg5.view.read (Elt Ideal) f5) 1 (i 1).val j l := by
  obtain ⟨hlt, o11, o14, o15, o18, o19⟩ := off_d i
  generalize hz : KXf (arg3.view.read (Elt Ideal) f3) (arg5.view.read (Elt Ideal) f5) 1 (i 1).val j l = z
  frame_out
  pointwise [runB.sl.v106, runB.sl.H18_2, runB.sl.H18_3, runB.sl.H18_1, runB.sl.cst_15, runB.sl.cst_19, runB.sl.cst_40, runB.sl.cst_82, runB.sl.cst_86, runB.sl.cst_89,
      runB.sl.r, runB.sl.r_1, runB.sl.r_2, runB.sl.r_3, runB.sl.r_4, runB.sl.r_5, runB.sl.r_6, runB.sl.r_7, runB.sl.r_8, runB.sl.r_9,
      runB.sl.r_10, runB.sl.r_11, runB.sl.r_12, runB.sl.r_13, runB.sl.r_14, runB.sl.v32, runB.sl.v35, runB.sl.v36, runB.sl.v37, runB.sl.v38,
      runB.sl.v39, runB.sl.v40, runB.sl.v41, runB.sl.v45, runB.sl.v46, runB.sl.v47, runB.sl.v50, runB.sl.v51, runB.sl.v54, runB.sl.v55,
      runB.sl.v56, runB.sl.v57, runB.sl.v58, runB.sl.v59, runB.sl.v60, runB.sl.v61, runB.sl.v62, runB.sl.v63, runB.sl.v64, runB.sl.v65,
      runB.sl.v66, runB.sl.v67, runB.sl.v69, runB.sl.v70, runB.sl.v71, runB.sl.v72, runB.sl.v73, runB.sl.v74, runB.sl.v75, runB.sl.v76,
      runB.sl.v77, runB.sl.v78, runB.sl.v84, runB.sl.v88, runB.sl.v92, runB.sl.v93, runB.sl.v94, runB.sl.v96, runB.sl.v97, runB.sl.v98,
      runB.sl.v99, runB.sl.v100, runB.sl.v101, runB.sl.v102, runB.sl.v104, runB.sl.v105, runB.sl.v109, runB.sl.v111, runB.sl.v113, runB.sl.v120,
      runB.sl.v123, runB.sl.v124, runB.sl.v134, runB.sl.v147, runB.sl.v170, runB.sl.v193, runB.sl.v202, runB.sl.v203, runB.sl.v204, runB.sl.v205,
      runB.sl.v206, runB.sl.v209, runB.sl.v210, runB.sl.v211, runB.sl.v213, runB.sl.v214, runB.sl.v215, runB.sl.v216, runB.sl.v217, runB.sl.v218,
      runB.sl.v220, runB.sl.v221, runB.sl.v222, runB.sl.v223, runB.sl.v224, runB.sl.v228, runB.sl.v229, runB.sl.v230, runB.sl.v231, runB.sl.v232,
      runB.sl.v234, runB.sl.v235, runB.sl.v238, runB.sl.v240, runB.sl.v241, runB.sl.v243, runB.sl.v244, runB.sl.v245, runB.sl.v246, runB.sl.v251,
      runB.sl.v254, runB.sl.v258, runB.sl.v262, runB.sl.v263]
  have h11 : ∀ (x : Fin 512) (l : Fin 4), View.ld (arg5.view.read (Elt Ideal) f5) (Rect.unit (s := S1x4096x4) (k0_off11 i) ![1, 512, 4] (k0_off11_inb i)) (ix3 (0 : Fin 1) x l)
      = arg5.view.read (Elt Ideal) f5 (ix3 (0 : Fin 1) (row (i 1).val x) l) := fun x l => ld_eq _ _ _ _ (by
    intro a; refine Eq.trans ?_ (congrArg (· + _) (congrFun o11 a)).symm; fin_cases a <;> simp [row_val hlt, ix2, ix3])
  rw [← hz]
  unfold KXf
  by_cases h : l.val < 128
  · rw [dif_pos h, dif_pos h]
    exact p69 _ j ⟨l.val, h⟩
  · rw [dif_neg h, dif_neg h, sel_slt (by omega) (by omega), sel_eq (by omega) (by omega), sel_eq (by omega) (by omega), sel_eq (by omega) (by omega)]
    rw [p72, h11]
    rfl

end Cert.Kernel17Ideal.Hand

end
-- ==== Proof.FPoint.lean ====
/-
  The block of the values' gradient that one grid point writes, as a function of the blocks it reads.
-/
module

public import proofs.«01_k».proof.Proof.FFullA
public import proofs.«01_k».proof.Proof.FFullC
public import proofs.«01_k».proof.Proof.FKeys

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The scaled queries' buffer. -/
def QSv (x2 : FVec Ideal S4096x128 .f32) (x5 : FVec Ideal S1x4096x4 .f32) : FVec Ideal S2x4096x256 .bf16 :=
  fun p => QS x2 x5 (p 0) (p 1) (p 2)

/-- The cotangent rows' buffer. -/
def DSv (x7 : FVec Ideal S4096x128 .f32) : FVec Ideal S2x4096x128 .bf16 := fun p => DS x7 (p 0) (p 1) (p 2)

/-- The keys of one head's block. -/
def KXv (x3 : FVec Ideal S512x128 .f32) (x5 : FVec Ideal S1x4096x4 .f32) (a : Fin 4) (n : ℕ) : FVec Ideal S512x256 .bf16 :=
  fun p => KXf x3 x5 a n (p 0) (p 1)

/-- The block of the values' gradient a grid point writes, from its blocks of the arrays it reads. -/
def OUT (x2 : FVec Ideal S4096x128 .f32) (x3 : FVec Ideal S512x128 .f32) (x5 : FVec Ideal S1x4096x4 .f32) (x7 : FVec Ideal S4096x128 .f32) (n : ℕ) :
    FVec Ideal S512x128 .bf16 :=
  fun p => DV (QSv x2 x5) x5 (DSv x7) (KXv x3 x5 0 n) (KXv x3 x5 1 n) (p 0) (p 1) n

theorem DV_congr {q q' : FVec Ideal S2x4096x256 .bf16} {dos dos' : FVec Ideal S2x4096x128 .bf16} {k0 k0' k1 k1' : FVec Ideal S512x256 .bf16}
    (hq : q = q') (hd : dos = dos') (h0 : k0 = k0') (h1 : k1 = k1') (rows : FVec Ideal S1x4096x4 .f32) (j : Fin 512) (l : Fin 128) (n : ℕ) :
    DV q rows dos k0 k1 j l n = DV q' rows dos' k0' k1' j l n := by
  subst hq hd h0 h1; rfl

theorem eta2 {a b : ℕ} (p : (⟨2, ![a, b]⟩ : Shape).Idx) : ix2 (p 0) (p 1) = p := funext fun x => by fin_cases x <;> rfl
theorem eta3 {a b d : ℕ} (p : (⟨3, ![a, b, d]⟩ : Shape).Idx) : ix3 (p 0) (p 1) (p 2) = p := funext fun x => by fin_cases x <;> rfl

section
variable (c : Dev nD) (i : grid0.Coords) (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (f13 : BufTy.Contents (Elt Ideal) arg13.view.ty)
    (f14 : BufTy.Contents (Elt Ideal) arg14.view.ty)
    (f15 : BufTy.Contents (Elt Ideal) arg15.view.ty)
    (f16 : BufTy.Contents (Elt Ideal) arg16.view.ty)
    (f17 : BufTy.Contents (Elt Ideal) arg17.view.ty)
    (f18 : BufTy.Contents (Elt Ideal) arg18.view.ty)
    (f19 : BufTy.Contents (Elt Ideal) arg19.view.ty)

theorem kxv0 : runB.sl.v68 (F := Ideal) i arg3 arg5 f3 f5 = KXv (arg3.view.read (Elt Ideal) f3) (arg5.view.read (Elt Ideal) f5) 0 (i 1).val :=
  funext fun p => by rw [← eta2 p]; exact kx0 i arg3 arg5 f3 f5 (p 0) (p 1)
theorem kxv1 : runB.sl.v106 (F := Ideal) i arg3 arg5 f3 f5 = KXv (arg3.view.read (Elt Ideal) f3) (arg5.view.read (Elt Ideal) f5) 1 (i 1).val :=
  funext fun p => by rw [← eta2 p]; exact kx1 i arg3 arg5 f3 f5 (p 0) (p 1)

theorem ptB (h1 : ¬ k0_cond1 i = 1#1) (h2 : ¬ k0_cond2 i = 1#1) (h13 : arg13.view.read (Elt Ideal) f13 = QSv (arg2.view.read (Elt Ideal) f2) (arg5.view.read (Elt Ideal) f5)) (h14 : arg14.view.read (Elt Ideal) f14 = DSv (arg7.view.read (Elt Ideal) f7)) :
    arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 = OUT (arg2.view.read (Elt Ideal) f2) (arg3.view.read (Elt Ideal) f3) (arg5.view.read (Elt Ideal) f5) (arg7.view.read (Elt Ideal) f7) (i 1).val :=
  funext fun p => by
    rw [← eta2 p]
    refine (valB10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 (p 0) (p 1)).trans ?_
    exact DV_congr h13 h14 (kxv0 i arg3 arg5 f3 f5) (kxv1 i arg3 arg5 f3 f5) _ _ _ _

theorem ptC (h1 : ¬ k0_cond1 i = 1#1) (h2 : k0_cond2 i = 1#1) (h13 : arg13.view.read (Elt Ideal) f13 = QSv (arg2.view.read (Elt Ideal) f2) (arg5.view.read (Elt Ideal) f5)) (h14 : arg14.view.read (Elt Ideal) f14 = DSv (arg7.view.read (Elt Ideal) f7)) :
    arg10.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 = OUT (arg2.view.read (Elt Ideal) f2) (arg3.view.read (Elt Ideal) f3) (arg5.view.read (Elt Ideal) f5) (arg7.view.read (Elt Ideal) f7) (i 1).val :=
  funext fun p => by
    rw [← eta2 p]
    refine (valC10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 (p 0) (p 1)).trans ?_
    exact DV_congr h13 h14 (kxv0 i arg3 arg5 f3 f5) (kxv1 i arg3 arg5 f3 f5) _ _ _ _

theorem ptA13 (h1 : k0_cond1 i = 1#1) (h2 : ¬ k0_cond2 i = 1#1) : arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.1 = QSv (arg2.view.read (Elt Ideal) f2) (arg5.view.read (Elt Ideal) f5) :=
  funext fun p => by
    rw [← eta3 p]
    unfold runA; dsimp only
    refine (loop13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 Variants.none none f2 f5 f6 f7 f13 (p 0) (p 1) (p 2) k0_t1_loop.trips le_rfl).trans ?_
    exact (if_pos (show (p 1).val < 512 * k0_t1_loop.trips by rw [t1_trips]; exact (p 1).isLt)).trans rfl

theorem ptA14 (h1 : k0_cond1 i = 1#1) (h2 : ¬ k0_cond2 i = 1#1) : arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2.1 = DSv (arg7.view.read (Elt Ideal) f7) :=
  funext fun p => by
    rw [← eta3 p]
    unfold runA; dsimp only
    refine (loop14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 Variants.none none f2 f5 f6 f7 f14 (p 0) (p 1) (p 2) k0_t1_loop.trips le_rfl).trans ?_
    exact (if_pos (show (p 1).val < 512 * k0_t1_loop.trips by rw [t1_trips]; exact (p 1).isLt)).trans rfl

theorem ptA (h1 : k0_cond1 i = 1#1) (h2 : ¬ k0_cond2 i = 1#1) : arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).1 = OUT (arg2.view.read (Elt Ideal) f2) (arg3.view.read (Elt Ideal) f3) (arg5.view.read (Elt Ideal) f5) (arg7.view.read (Elt Ideal) f7) (i 1).val :=
  funext fun p => by
    rw [← eta2 p]
    refine (valA10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 (p 0) (p 1)).trans ?_
    exact DV_congr (ptA13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2) (ptA14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2) (kxv0 i arg3 arg5 f3 f5) (kxv1 i arg3 arg5 f3 f5) _ _ _ _
end

theorem cond_all : ∀ i : grid0.Coords, (k0_cond1 i = 1#1 → ¬ k0_cond2 i = 1#1) := by decide +kernel

set_option maxHeartbeats 1000000 in
/-- The body at a grid point: from its blocks, and past the first key block the buffers filled there, it leaves its block of the values'
    gradient and the two buffers filled. -/
theorem body (c : Dev nD) (i : grid0.Coords) (arg2 : Memref sig .tc .vmem S4096x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S1x4096x4 .f32) (harg5 : arg5.IsWhole)
    (arg6 : Memref sig .tc .vmem S4096x128 .f32) (harg6 : arg6.IsWhole) (arg7 : Memref sig .tc .vmem S4096x128 .f32) (harg7 : arg7.IsWhole)
    (arg8 : Memref sig .tc .vmem S4096x128 .bf16) (harg8 : arg8.IsWhole) (arg9 : Memref sig .tc .vmem S512x128 .bf16) (harg9 : arg9.IsWhole)
    (arg10 : Memref sig .tc .vmem S512x128 .bf16) (harg10 : arg10.IsWhole) (arg11 : Memref sig .tc .vmem S1x4096x2 .f32) (harg11 : arg11.IsWhole)
    (arg12 : Memref sig .tc .vmem S2x1x1x512 .f32) (harg12 : arg12.IsWhole)
    (arg13 : Memref sig .tc .vmem S2x4096x256 .bf16) (harg13 : arg13.IsWhole) (arg14 : Memref sig .tc .vmem S2x4096x128 .bf16) (harg14 : arg14.IsWhole)
    (arg15 : Memref sig .tc .vmem S4096x2 .f32) (harg15 : arg15.IsWhole) (arg16 : Memref sig .tc .vmem S4096x128 .f32) (harg16 : arg16.IsWhole)
    (arg17 : Memref sig .tc .vmem S512x128 .f32) (harg17 : arg17.IsWhole) (arg18 : Memref sig .tc .vmem S512x128 .f32) (harg18 : arg18.IsWhole)
    (arg19 : Memref sig .tc .vmem S2x512 .f32) (harg19 : arg19.IsWhole)
    (x2 : FVec Ideal S4096x128 .f32) (x3 : FVec Ideal S512x128 .f32) (x5 : FVec Ideal S1x4096x4 .f32) (x7 : FVec Ideal S4096x128 .f32)
    (d13 : FVec Ideal S2x4096x256 .bf16) (d14 : FVec Ideal S2x4096x128 .bf16)
    (hq : ¬ k0_cond1 i = 1#1 → d13 = QSv x2 x5 ∧ d14 = DSv x7) (K : PUnit → sProp 𝕄) :
    iprop((owns (c : Thread nD τ) arg2 fullShare x2 ∗ owns (c : Thread nD τ) arg3 fullShare x3 ∗ (∃ d, owns (c : Thread nD τ) arg4 fullShare d) ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d13 ∗ owns (c : Thread nD τ) arg14 fullShare d14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))
        ∗ (iprop(owns (c : Thread nD τ) arg2 fullShare x2 ∗ owns (c : Thread nD τ) arg3 fullShare x3 ∗ (∃ d, owns (c : Thread nD τ) arg4 fullShare d) ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ (∃ d, owns (c : Thread nD τ) arg9 fullShare d) ∗ owns (c : Thread nD τ) arg10 fullShare (OUT x2 x3 x5 x7 (i 1).val) ∗ (∃ d, owns (c : Thread nD τ) arg11 fullShare d) ∗ (∃ d, owns (c : Thread nD τ) arg12 fullShare d) ∗ owns (c : Thread nD τ) arg13 fullShare (QSv x2 x5) ∗ owns (c : Thread nD τ) arg14 fullShare (DSv x7) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) Set.univ
          (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨⟨%f2, %e2, H2⟩, ⟨%f3, %e3, H3⟩, ⟨%d4, %f4, -, H4⟩, ⟨%f5, %e5, H5⟩, ⟨%d6, %f6, -, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩⟩, Hk⟩
  by_cases h1 : k0_cond1 i = 1#1
  · have h2 := cond_all i h1
    iapply ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2.2.2 K)
    isplitl [H2 H3 H4 H5 H6 H7 H8 H9 H10 H11 H12 H13 H14 H15 H16 H17 H18 H19]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    iintro ⟨H2, H3, H4, H5, H6, H7, ⟨%g8, H8⟩, ⟨%g9, H9⟩, H10, ⟨%g11, H11⟩, ⟨%g12, H12⟩, H13, H14, ⟨%g15, H15⟩, ⟨%g16, H16⟩, ⟨%g17, H17⟩, H18, ⟨%g19, H19⟩⟩
    iapply Hk
    isplitl [H2]; · iexists _; isplitr; swap; iexact H2; ipureintro; exact e2
    isplitl [H3]; · iexists _; isplitr; swap; iexact H3; ipureintro; exact e3
    isplitl [H4]; · iexists _, _; isplitr; swap; iexact H4; ipureintro; rfl
    isplitl [H5]; · iexists _; isplitr; swap; iexact H5; ipureintro; exact e5
    isplitl [H6]; · iexists _, _; isplitr; swap; iexact H6; ipureintro; rfl
    isplitl [H7]; · iexists _; isplitr; swap; iexact H7; ipureintro; exact e7
    isplitl [H8]; · iexists _, _; isplitr; swap; iexact H8; ipureintro; rfl
    isplitl [H9]; · iexists _, _; isplitr; swap; iexact H9; ipureintro; rfl
    isplitl [H10]; · iexists _; isplitr; swap; iexact H10; ipureintro; exact (ptA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).trans (by rw [e2, e3, e5, e7])
    isplitl [H11]; · iexists _, _; isplitr; swap; iexact H11; ipureintro; rfl
    isplitl [H12]; · iexists _, _; isplitr; swap; iexact H12; ipureintro; rfl
    isplitl [H13]; · iexists _; isplitr; swap; iexact H13; ipureintro; exact (ptA13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).trans (by rw [e2, e5])
    isplitl [H14]; · iexists _; isplitr; swap; iexact H14; ipureintro; exact (ptA14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).trans (by rw [e7])
    isplitl [H15]; · iexists _, _; isplitr; swap; iexact H15; ipureintro; rfl
    isplitl [H16]; · iexists _, _; isplitr; swap; iexact H16; ipureintro; rfl
    isplitl [H17]; · iexists _, _; isplitr; swap; iexact H17; ipureintro; rfl
    isplitl [H18]; · iexists _, _; isplitr; swap; iexact H18; ipureintro; rfl
    iexists _, _; isplitr; swap; iexact H19; ipureintro; rfl
  · have q13 : arg13.view.read (Elt Ideal) f13 = QSv (arg2.view.read (Elt Ideal) f2) (arg5.view.read (Elt Ideal) f5) := by
      rw [e13, e2, e5]; exact (hq h1).1
    have q14 : arg14.view.read (Elt Ideal) f14 = DSv (arg7.view.read (Elt Ideal) f7) := by
      rw [e14, e7]; exact (hq h1).2
    by_cases h2 : k0_cond2 i = 1#1
    · skip
      iapply ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2 K)
      isplitl [H2 H3 H4 H5 H6 H7 H8 H9 H10 H11 H12 H13 H14 H15 H16 H17 H18 H19]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      iintro ⟨H2, H3, H4, H5, H6, H7, ⟨%g8, H8⟩, ⟨%g9, H9⟩, H10, ⟨%g11, H11⟩, ⟨%g12, H12⟩, H13, H14, H15, ⟨%g16, H16⟩, ⟨%g17, H17⟩, H18, ⟨%g19, H19⟩⟩
      iapply Hk
      isplitl [H2]; · iexists _; isplitr; swap; iexact H2; ipureintro; exact e2
      isplitl [H3]; · iexists _; isplitr; swap; iexact H3; ipureintro; exact e3
      isplitl [H4]; · iexists _, _; isplitr; swap; iexact H4; ipureintro; rfl
      isplitl [H5]; · iexists _; isplitr; swap; iexact H5; ipureintro; exact e5
      isplitl [H6]; · iexists _, _; isplitr; swap; iexact H6; ipureintro; rfl
      isplitl [H7]; · iexists _; isplitr; swap; iexact H7; ipureintro; exact e7
      isplitl [H8]; · iexists _, _; isplitr; swap; iexact H8; ipureintro; rfl
      isplitl [H9]; · iexists _, _; isplitr; swap; iexact H9; ipureintro; rfl
      isplitl [H10]; · iexists _; isplitr; swap; iexact H10; ipureintro; exact (ptC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 q13 q14).trans (by rw [e2, e3, e5, e7])
      isplitl [H11]; · iexists _, _; isplitr; swap; iexact H11; ipureintro; rfl
      isplitl [H12]; · iexists _, _; isplitr; swap; iexact H12; ipureintro; rfl
      isplitl [H13]; · iexists _; isplitr; swap; iexact H13; ipureintro; exact q13.trans (by rw [e2, e5])
      isplitl [H14]; · iexists _; isplitr; swap; iexact H14; ipureintro; exact q14.trans (by rw [e7])
      isplitl [H15]; · iexists _, _; isplitr; swap; iexact H15; ipureintro; rfl
      isplitl [H16]; · iexists _, _; isplitr; swap; iexact H16; ipureintro; rfl
      isplitl [H17]; · iexists _, _; isplitr; swap; iexact H17; ipureintro; rfl
      isplitl [H18]; · iexists _, _; isplitr; swap; iexact H18; ipureintro; rfl
      iexists _, _; isplitr; swap; iexact H19; ipureintro; rfl
    · skip
      iapply ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2).2.2 K)
      isplitl [H2 H3 H4 H5 H6 H7 H8 H9 H10 H11 H12 H13 H14 H15 H16 H17 H18 H19]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      iintro ⟨H2, H3, H4, H5, H6, H7, ⟨%g8, H8⟩, ⟨%g9, H9⟩, H10, ⟨%g11, H11⟩, ⟨%g12, H12⟩, H13, H14, H15, ⟨%g16, H16⟩, ⟨%g17, H17⟩, H18, ⟨%g19, H19⟩⟩
      iapply Hk
      isplitl [H2]; · iexists _; isplitr; swap; iexact H2; ipureintro; exact e2
      isplitl [H3]; · iexists _; isplitr; swap; iexact H3; ipureintro; exact e3
      isplitl [H4]; · iexists _, _; isplitr; swap; iexact H4; ipureintro; rfl
      isplitl [H5]; · iexists _; isplitr; swap; iexact H5; ipureintro; exact e5
      isplitl [H6]; · iexists _, _; isplitr; swap; iexact H6; ipureintro; rfl
      isplitl [H7]; · iexists _; isplitr; swap; iexact H7; ipureintro; exact e7
      isplitl [H8]; · iexists _, _; isplitr; swap; iexact H8; ipureintro; rfl
      isplitl [H9]; · iexists _, _; isplitr; swap; iexact H9; ipureintro; rfl
      isplitl [H10]; · iexists _; isplitr; swap; iexact H10; ipureintro; exact (ptB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 h1 h2 q13 q14).trans (by rw [e2, e3, e5, e7])
      isplitl [H11]; · iexists _, _; isplitr; swap; iexact H11; ipureintro; rfl
      isplitl [H12]; · iexists _, _; isplitr; swap; iexact H12; ipureintro; rfl
      isplitl [H13]; · iexists _; isplitr; swap; iexact H13; ipureintro; exact q13.trans (by rw [e2, e5])
      isplitl [H14]; · iexists _; isplitr; swap; iexact H14; ipureintro; exact q14.trans (by rw [e7])
      isplitl [H15]; · iexists _, _; isplitr; swap; iexact H15; ipureintro; rfl
      isplitl [H16]; · iexists _, _; isplitr; swap; iexact H16; ipureintro; rfl
      isplitl [H17]; · iexists _, _; isplitr; swap; iexact H17; ipureintro; rfl
      isplitl [H18]; · iexists _, _; isplitr; swap; iexact H18; ipureintro; rfl
      iexists _, _; isplitr; swap; iexact H19; ipureintro; rfl

end Cert.Kernel17Ideal.Hand

end
-- ==== Proof.FRdat.lean ====
/-
  The gradient of the values, `Kernel17Ideal`: the proof data of the pipeline with what the body leaves. The staging buffers of the
  arrays read stay as fetched, the output block of the values' gradient is named, and the two filled scratch buffers are carried from
  one key block to the next.
-/
module

public import proofs.«01_k».proof.Proof.FPoint
public import proofs.«01_k».proof.Proof.KRun17
public import Idealize.ShloMosaic.Lib.Pipeline.FrameBody

@[expose] public section

set_option maxRecDepth 16384
noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (RDat cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The queries' columns at a grid point. -/
abbrev bq (c : Dev nD) (t : Fin cfg0.N) : FVec Ideal S4096x128 .f32 := iblk m c 0 t
/-- The keys' block at a grid point. -/
abbrev bk (c : Dev nD) (t : Fin cfg0.N) : FVec Ideal S512x128 .f32 := iblk m c 1 t
/-- The two heads' rows of sums and logarithms at a grid point. -/
abbrev br (c : Dev nD) (t : Fin cfg0.N) : FVec Ideal S1x4096x4 .f32 := iblk m c 3 t
/-- The cotangent's columns at a grid point. -/
abbrev bd (c : Dev nD) (t : Fin cfg0.N) : FVec Ideal S4096x128 .f32 := iblk m c 5 t

/-- What the body may leave in a staging buffer, from what it found there. -/
def left (c : Dev nD) : (w : Fin cfg0.W) → Fin cfg0.N → ((cfg0.win w).block.Idx → Elt Ideal (cfg0.win w).elt) →
    ((cfg0.win w).block.Idx → Elt Ideal (cfg0.win w).elt) → Prop
  | ⟨0, _⟩, _, Y, X => X = Y
  | ⟨1, _⟩, _, Y, X => X = Y
  | ⟨3, _⟩, _, Y, X => X = Y
  | ⟨5, _⟩, _, Y, X => X = Y
  | ⟨8, _⟩, t, _, X => X = OUT (bq m c t) (bk m c t) (br m c t) (bd m c t) (t.val % 8)
  | _, _, _, _ => True

/-- Whether the scaled queries' buffer holds what the point before the `n`-th filled it with. -/
def keptQ (c : Dev nD) (n : Fin (cfg0.N + 1)) (d : FVec Ideal S2x4096x256 .bf16) : Prop :=
  ∀ t : Fin cfg0.N, n.val = t.val + 1 → d = QSv (bq m c t) (br m c t)
/-- Whether the cotangent rows' buffer holds what the point before the `n`-th filled it with. -/
def keptD (c : Dev nD) (n : Fin (cfg0.N + 1)) (d : FVec Ideal S2x4096x128 .bf16) : Prop :=
  ∀ t : Fin cfg0.N, n.val = t.val + 1 → d = DSv (bd m c t)

/-- The scratch buffers between two grid points. -/
def ΦV (c : Dev nD) (n : Fin (cfg0.N + 1)) : sProp 𝕄 :=
  iprop(((∃ d : FVec Ideal S2x4096x256 .bf16, iprop(⌜keptQ m c n d⌝ ∗ owns (c : Thread nD τ) (Memref.whole cc0_scratch0) fullShare d))
    ∗ (∃ d : FVec Ideal S2x4096x128 .bf16, iprop(⌜keptD m c n d⌝ ∗ owns (c : Thread nD τ) (Memref.whole cc0_scratch1) fullShare d))
    ∗ some' (F := Ideal) c (Memref.whole cc0_scratch2)
    ∗ some' (F := Ideal) c (Memref.whole cc0_scratch3) ∗ some' (F := Ideal) c (Memref.whole cc0_scratch4) ∗ some' (F := Ideal) c (Memref.whole cc0_scratch5)
    ∗ some' (F := Ideal) c (Memref.whole cc0_scratch6)) ∗ ∃ r, prngReg c r)

/-- The proof data with the values. -/
def rdatV (c : Dev nD) : RDat τ (Elt Ideal) Unit ℕ (UR sig nD τ) ℕ cfg0 c where
  A w := V m c (Pipeline.arrRef spec0 w)
  after := left m c
  Φ := ΦV m c
  q w := Pipeline.shareOf spec0 w
  owed _ := 0

theorem coord_val : ∀ t : Fin cfg0.N, ((cfg0.grid.coords t) 1).val = t.val % 8 :=
  (by decide +kernel : ∀ t : Fin grid0.N, ((grid0.coords t) 1).val = t.val % 8)
theorem cond_val : ∀ t : Fin cfg0.N, k0_cond1 (cfg0.grid.coords t) = 1#1 ↔ t.val % 8 = 0 :=
  (by decide +kernel : ∀ t : Fin grid0.N, k0_cond1 (grid0.coords t) = 1#1 ↔ t.val % 8 = 0)

/-- Window 0 is found holding its block. -/
theorem found0 (c : Dev nD) (t : Fin cfg0.N) (Y) (h : (rdatV m c).Finds 0 t Y) : Y = bq m c t := by
  obtain ⟨d, hd⟩ := (rdatV m c).finds_in_eq_fetched 0 rfl (fun _ _ _ => rfl) (fun _ _ _ h => h) t Y h
  exact hd.trans rfl
/-- The block of window 0 does not move within a head pair. -/
theorem same0 (c : Dev nD) (t s : Fin cfg0.N) (hs : t.val = s.val + 1) (ht : t.val % 8 ≠ 0) : bq m c s = bq m c t := by
  have hf : (cfg0.win 0).fetch t = false := by
    rw [← Bool.not_eq_true, fetch0_0]; exact ht
  obtain ⟨h0, hix⟩ := (cfg0.win 0).index_eq_of_fetch rfl t hf
  have e : (⟨t.val - 1, by have := t.isLt; omega⟩ : Fin cfg0.N) = s := Fin.ext (by show t.val - 1 = s.val; omega)
  have hix' : (cfg0.win 0).index s = (cfg0.win 0).index t := by rw [← e]; first | exact hix | exact hix.symm
  have d0 := Classical.arbitrary ((cfg0.win 0).block.Idx → Elt Ideal (cfg0.win 0).elt)
  have := (rdatV m c).fetched_congr 0 hix' rfl d0
  exact this
/-- Window 1 is found holding its block. -/
theorem found1 (c : Dev nD) (t : Fin cfg0.N) (Y) (h : (rdatV m c).Finds 1 t Y) : Y = bk m c t := by
  obtain ⟨d, hd⟩ := (rdatV m c).finds_in_eq_fetched 1 rfl (fun _ _ _ => rfl) (fun _ _ _ h => h) t Y h
  exact hd.trans rfl
/-- Window 3 is found holding its block. -/
theorem found3 (c : Dev nD) (t : Fin cfg0.N) (Y) (h : (rdatV m c).Finds 3 t Y) : Y = br m c t := by
  obtain ⟨d, hd⟩ := (rdatV m c).finds_in_eq_fetched 3 rfl (fun _ _ _ => rfl) (fun _ _ _ h => h) t Y h
  exact hd.trans rfl
/-- The block of window 3 does not move within a head pair. -/
theorem same3 (c : Dev nD) (t s : Fin cfg0.N) (hs : t.val = s.val + 1) (ht : t.val % 8 ≠ 0) : br m c s = br m c t := by
  have hf : (cfg0.win 3).fetch t = false := by
    rw [← Bool.not_eq_true, fetch0_3]; exact ht
  obtain ⟨h0, hix⟩ := (cfg0.win 3).index_eq_of_fetch rfl t hf
  have e : (⟨t.val - 1, by have := t.isLt; omega⟩ : Fin cfg0.N) = s := Fin.ext (by show t.val - 1 = s.val; omega)
  have hix' : (cfg0.win 3).index s = (cfg0.win 3).index t := by rw [← e]; first | exact hix | exact hix.symm
  have d0 := Classical.arbitrary ((cfg0.win 3).block.Idx → Elt Ideal (cfg0.win 3).elt)
  have := (rdatV m c).fetched_congr 3 hix' rfl d0
  exact this
/-- Window 5 is found holding its block. -/
theorem found5 (c : Dev nD) (t : Fin cfg0.N) (Y) (h : (rdatV m c).Finds 5 t Y) : Y = bd m c t := by
  obtain ⟨d, hd⟩ := (rdatV m c).finds_in_eq_fetched 5 rfl (fun _ _ _ => rfl) (fun _ _ _ h => h) t Y h
  exact hd.trans rfl
/-- The block of window 5 does not move within a head pair. -/
theorem same5 (c : Dev nD) (t s : Fin cfg0.N) (hs : t.val = s.val + 1) (ht : t.val % 8 ≠ 0) : bd m c s = bd m c t := by
  have hf : (cfg0.win 5).fetch t = false := by
    rw [← Bool.not_eq_true, fetch0_5]; exact ht
  obtain ⟨h0, hix⟩ := (cfg0.win 5).index_eq_of_fetch rfl t hf
  have e : (⟨t.val - 1, by have := t.isLt; omega⟩ : Fin cfg0.N) = s := Fin.ext (by show t.val - 1 = s.val; omega)
  have hix' : (cfg0.win 5).index s = (cfg0.win 5).index t := by rw [← e]; first | exact hix | exact hix.symm
  have d0 := Classical.arbitrary ((cfg0.win 5).block.Idx → Elt Ideal (cfg0.win 5).elt)
  have := (rdatV m c).fetched_congr 5 hix' rfl d0
  exact this

/-- The body at every grid point: it leaves the block of the values' gradient and keeps the two filled buffers. -/
theorem obligationV (c : Dev nD) : (rdatV m c).BodyObligation (defs₀ (F := Ideal)) Variants.none () Set.univ := fun t Y hY => by
  rw [bigSep_W0, bigSep_W0, defs₀_row]
  rw [show (rdatV m c).Φ t.succ = ΦV m c t.succ from rfl, show (rdatV m c).Φ t.castSucc = ΦV m c t.castSucc from rfl,
    show (rdatV m c).owesAt () t.succ = (rdatV m c).owesAt () t.castSucc from rfl]
  have y0 := found0 m c t _ (hY 0)
  have y1 := found1 m c t _ (hY 1)
  have y3 := found3 m c t _ (hY 3)
  have y5 := found5 m c t _ (hY 5)
  unfold ΦV
  iintro ⟨⟨⟨⟨%q13, %hq13, S0⟩, ⟨%q14, %hq14, S1⟩, S2, S3, S4, S5, S6⟩, Hg⟩, HO, H0, H1, H2, H3, H4, H5, H6, H7, H8, H9, H10⟩
  have hq : ¬ k0_cond1 (cfg0.grid.coords t) = 1#1 → q13 = QSv (bq m c t) (br m c t) ∧ q14 = DSv (bd m c t) := fun hn => by
    have ht : t.val % 8 ≠ 0 := fun e => hn ((cond_val t).2 e)
    have e : t.val = (⟨t.val - 1, by have := t.isLt; omega⟩ : Fin cfg0.N).val + 1 := by
      show t.val = t.val - 1 + 1; have : t.val ≠ 0 := fun e => ht (by rw [e]); omega
    exact ⟨(hq13 _ e).trans (by rw [same0 m c t _ e ht, same3 m c t _ e ht]), (hq14 _ e).trans (by rw [same5 m c t _ e ht])⟩
  iapply (body c (cfg0.grid.coords t) _ _ _ _ _ _ _ _ _ _ _ _ _ _ _ _ _ _ _ _ _ _ _ _ _ _ _ _ _ _ _ _ _ _ _ _ (bq m c t) (bk m c t) (br m c t) (bd m c t) q13 q14 hq _)
  isplitl [H0 H1 H2 H3 H4 H5 H6 H7 H8 H9 H10 S0 S1 S2 S3 S4 S5 S6]
  · isplitl [H0]; · rw [← y0]; iexact H0
    isplitl [H1]; · rw [← y1]; iexact H1
    isplitl [H2]; · iexists _; iexact H2
    isplitl [H3]; · rw [← y3]; iexact H3
    isplitl [H4]; · iexists _; iexact H4
    isplitl [H5]; · rw [← y5]; iexact H5
    isplitl [H6]; · iexists _; iexact H6
    isplitl [H7]; · iexists _; iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iintro ⟨H0, H1, ⟨%d2, H2⟩, H3, ⟨%d4, H4⟩, H5, ⟨%d6, H6⟩, ⟨%d7, H7⟩, H8, ⟨%d9, H9⟩, ⟨%d10, H10⟩,
    S0, S1, S2, S3, S4, S5, S6⟩
  isplitl [S0 S1 S2 S3 S4 S5 S6 Hg]
  · isplitl [S0 S1 S2 S3 S4 S5 S6]
    · isplitl [S0]
      · iexists _; isplitr; swap; · iexact S0
        ipureintro; intro s hs; have e : s = t := Fin.ext (by simpa using hs.symm); rw [e]
      isplitl [S1]
      · iexists _; isplitr; swap; · iexact S1
        ipureintro; intro s hs; have e : s = t := Fin.ext (by simpa using hs.symm); rw [e]
      isplitl [S2]; · iexact S2
      isplitl [S3]; · iexact S3
      isplitl [S4]; · iexact S4
      isplitl [S5]; · iexact S5
      iexact S6
    iexact Hg
  isplitl [HO]; · iexact HO
  isplitl [H0]
  · iexists _; isplitr; swap; · iexact H0
    ipureintro; exact y0.symm
  isplitl [H1]
  · iexists _; isplitr; swap; · iexact H1
    ipureintro; exact y1.symm
  isplitl [H2]
  · iexists d2; isplitr; swap; · iexact H2
    ipureintro; trivial
  isplitl [H3]
  · iexists _; isplitr; swap; · iexact H3
    ipureintro; exact y3.symm
  isplitl [H4]
  · iexists d4; isplitr; swap; · iexact H4
    ipureintro; trivial
  isplitl [H5]
  · iexists _; isplitr; swap; · iexact H5
    ipureintro; exact y5.symm
  isplitl [H6]
  · iexists d6; isplitr; swap; · iexact H6
    ipureintro; trivial
  isplitl [H7]
  · iexists d7; isplitr; swap; · iexact H7
    ipureintro; trivial
  isplitl [H8]
  · iexists _; isplitr; swap; · iexact H8
    ipureintro; exact congrArg _ (coord_val t)
  isplitl [H9]
  · iexists d9; isplitr; swap; · iexact H9
    ipureintro; trivial
  iexists d10; isplitr; swap; · iexact H10
  ipureintro; trivial

set_option backward.isDefEq.respectTransparency.types false in
/-- Every run of `main` ends with the arrays as the proof data says, and every semaphore counter at zero. -/
theorem run_mainV :
    θ_run defs (onTc (τ := τ) (main (F := Ideal))) (s₀ m ρ)
      (fun r => RDat.FramePost (cfgs 0) (rdatV m) (V m) r ∧ r.2.sem = fun _ => 0) :=
  Pipeline.RDat.θ_run_frame_track_shared (Q' := _) cfgs (0 : Fin 1) launch₀0 defs₀ Variants.none (rdatV m) m ρ main
    (hbody := obligationV m) (hq := fun _ _ _ => rfl) (howed := fun _ _ => rfl) (V := V m) (hmain := hmain m Variants.none)
    (hA := fun _ _ => rfl)
    (hin := fun c => by
      rw [ΦA0_eq, show (rdatV m c).Φ _ = ΦV m c _ from rfl]; unfold ΦV
      iintro ⟨⟨⟨%a, S0⟩, ⟨%b, S1⟩, S2, S3, S4, S5, S6⟩, Hg⟩
      isplitr [Hg]; swap; · iexact Hg
      isplitl [S0]
      · iexists a; isplitr; swap; · iexact S0
        ipureintro; intro s hs; exact absurd hs (Nat.succ_ne_zero _).symm
      isplitl [S1]
      · iexists b; isplitr; swap; · iexact S1
        ipureintro; intro s hs; exact absurd hs (Nat.succ_ne_zero _).symm
      isplitl [S2]; · iexact S2
      isplitl [S3]; · iexact S3
      isplitl [S4]; · iexact S4
      isplitl [S5]; · iexact S5
      iexact S6)
    (hout := fun c => by
      rw [ΦA0_eq, show (rdatV m c).Φ _ = ΦV m c _ from rfl]; unfold ΦV
      iintro ⟨⟨⟨%a, -, S0⟩, ⟨%b, -, S1⟩, S2, S3, S4, S5, S6⟩, Hg⟩
      isplitr [Hg]; swap; · iexact Hg
      isplitl [S0]; · iexists a; iexact S0
      isplitl [S1]; · iexists b; iexact S1
      isplitl [S2]; · iexact S2
      isplitl [S3]; · iexact S3
      isplitl [S4]; · iexact S4
      isplitl [S5]; · iexact S5
      iexact S6)

end Cert.Kernel17Ideal.Hand

end
-- ==== Proof.FBlk.lean ====
/-
  The blocks the kernel reads at a grid point, entry by entry, off the arrays the region finds.
-/
module

public import proofs.«01_k».proof.Proof.FRdat

@[expose] public section

set_option maxRecDepth 16384
set_option maxHeartbeats 400000

noncomputable section

namespace Cert.Kernel17Ideal.Hand

open Cert.Kernel17Ideal Cert.Kernel17Ideal.Gen
open Idealize.ShloMosaic Idealize.ShloMosaic.TcCoe Idealize.ShloMosaic.Tactic

variable (m : (ℓ : Loc nD τ sig) → Buf (Elt Ideal) ℓ)

/-- Where each window's block lies at a point. -/
theorem idx_val : ∀ t : Fin cfg0.N, win0_0.index t = ![0, t.val / 8] ∧ win0_1.index t = ![t.val % 8, 8 + t.val / 8]
    ∧ win0_3.index t = ![t.val / 8, 0, 0] ∧ win0_5.index t = ![0, t.val / 8] ∧ win0_8.index t = ![t.val % 8, t.val / 8] :=
  (by decide +kernel : ∀ t : Fin grid0.N, _)

theorem hp_lt (t : Fin cfg0.N) : t.val / 8 < 8 := by have : t.val < 64 := t.isLt; omega

/-- The queries' columns. -/
theorem bq_at (c : Dev nD) (t : Fin cfg0.N) (r : Fin 4096) (l : Fin 128) :
    (bq m c t (ix2 r l) : EReal) = (V m c main_arg0 : FVec Ideal S4096x3200 .f32) (ix2 r (⟨128 * (t.val / 8) + l.val, by have := hp_lt t; omega⟩ : Fin 3200)) := by
  blk_point [bq, iblk, V, idx_val t]

/-- The keys' block. -/
theorem bk_at (c : Dev nD) (t : Fin cfg0.N) (j : Fin 512) (l : Fin 128) :
    (bk m c t (ix2 j l) : EReal) = (V m c main_arg0 : FVec Ideal S4096x3200 .f32) (ix2 (⟨512 * (t.val % 8) + j.val, by omega⟩ : Fin 4096)
      (⟨1024 + (128 * (t.val / 8) + l.val), by have := hp_lt t; omega⟩ : Fin 3200)) := by
  blk_point [bk, iblk, V, idx_val t]

/-- The rows of sums and logarithms. -/
theorem br_at (c : Dev nD) (t : Fin cfg0.N) (r : Fin 4096) (a : Fin 4) :
    (br m c t (ix3 (0 : Fin 1) r a) : EReal) = (V m c main_v39 : FVec Ideal S8x4096x4 .f32) (ix3 (⟨t.val / 8, hp_lt t⟩ : Fin 8) r a) := by
  blk_point [br, iblk, V, idx_val t]

/-- The cotangent's columns. -/
theorem bd_at (c : Dev nD) (t : Fin cfg0.N) (r : Fin 4096) (l : Fin 128) :
    (bd m c t (ix2 r l) : EReal) = (V m c main_arg2 : FVec Ideal S4096x1024 .f32) (ix2 r (⟨128 * (t.val / 8) + l.val, by have := hp_lt t; omega⟩ : Fin 1024)) := by
  blk_point [bd, iblk, V, idx_val t]

end Cert.Kernel17Ideal.Hand

end
-- ==== Proof.FMath.lean ====
/-
  The real mathematics of a softmax weight, over the extended reals at real numbers: the lanes that carry the sums of decays, the
  score of one head among the 128 lanes of two, and two to the score less the row's logarithm as the weight.
-/
module

public import proofs.«01_k».proof.Proof.FPoint
public import proofs.«01_k».proof.Proof.Gate

@[expose] public section

set_option maxRecDepth 16384
set_option maxHeartbeats 400000

noncomputable section

namespace Cert.Kernel17Ideal.Hand

open Cert.Kernel17Ideal Cert.Kernel17Ideal.Gen
open Idealize.ShloMosaic Idealize.ShloMosaic.TcCoe Idealize.ShloMosaic.Tactic
open Cert.Gate (IsReal)

/-- A sum over the 64 lanes of one head among the 128 of two. -/
theorem sum_keep {M : Type*} [AddCommMonoid M] (a : Fin 2) (f : ℕ → M) :
    (∑ l : Fin 128, if keep a l.val then f l.val else 0) = ∑ d : Fin 64, f (64 * a.val + d.val) := by
  rw [show (∑ l : Fin 128, if keep a l.val then f l.val else 0) = ∑ l : Fin (64 + 64), if keep a l.val then f l.val else 0 from rfl, Fin.sum_univ_add]
  fin_cases a
  · have h1 : ∀ l : Fin 64, (if keep (0 : Fin 2) (Fin.castAdd 64 l).val then f (Fin.castAdd 64 l).val else 0) = f (64 * 0 + l.val) := fun l => by
      have : (Fin.castAdd 64 l).val = 64 * 0 + l.val := by simp
      rw [this]; exact if_pos (by unfold keep; simp)
    have h2 : ∀ l : Fin 64, (if keep (0 : Fin 2) (Fin.natAdd 64 l).val then f (Fin.natAdd 64 l).val else 0) = 0 := fun l =>
      if_neg (by unfold keep; simp)
    have e1 := Finset.sum_congr (rfl : (Finset.univ : Finset (Fin 64)) = _) fun l _ => h1 l
    have e2 := Finset.sum_congr (rfl : (Finset.univ : Finset (Fin 64)) = _) fun l _ => h2 l
    exact (congrArg₂ (· + ·) e1 e2).trans (by simp)
  · have h1 : ∀ l : Fin 64, (if keep (1 : Fin 2) (Fin.castAdd 64 l).val then f (Fin.castAdd 64 l).val else 0) = 0 := fun l =>
      if_neg (by unfold keep; simp)
    have h2 : ∀ l : Fin 64, (if keep (1 : Fin 2) (Fin.natAdd 64 l).val then f (Fin.natAdd 64 l).val else 0) = f (64 * 1 + l.val) := fun l => by
      have : (Fin.natAdd 64 l).val = 64 * 1 + l.val := by simp [Nat.add_comm]
      rw [this]; exact if_pos (by unfold keep; simp)
    have e1 := Finset.sum_congr (rfl : (Finset.univ : Finset (Fin 64)) = _) fun l _ => h1 l
    have e2 := Finset.sum_congr (rfl : (Finset.univ : Finset (Fin 64)) = _) fun l _ => h2 l
    exact (congrArg₂ (· + ·) e1 e2).trans (by simp)

/-- The lanes that carry two numbers: their product's sum is the difference. -/
theorem sum_aux (w v : ℝ) : (∑ l : Fin 128, aux (w : EReal) l.val * kaux (v : EReal) l.val) = ((w - v : ℝ) : EReal) := by
  rw [show (∑ l : Fin 128, aux (w : EReal) l.val * kaux (v : EReal) l.val) = ∑ l : Fin (6 + 122), aux (w : EReal) l.val * kaux (v : EReal) l.val from rfl,
    Fin.sum_univ_add]
  have e2 : (∑ l : Fin 122, aux (w : EReal) (Fin.natAdd 6 l).val * kaux (v : EReal) (Fin.natAdd 6 l).val) = 0 :=
    Finset.sum_eq_zero fun l _ => by
      have h : kaux (v : EReal) (Fin.natAdd 6 l).val = 0 := by
        unfold kaux; simp only [Fin.val_natAdd]
        rw [if_neg (by omega), if_neg (by omega), if_neg (by omega), if_neg (by omega)]
      rw [h, mul_zero]
  rw [e2, add_zero, Fin.sum_univ_six]
  have e : ∀ x y : ℝ, (x : EReal) - (y : EReal) = ((x - y : ℝ) : EReal) := fun x y => (EReal.coe_sub x y).symm
  simp only [aux, kaux, Fin.val_castAdd]
  norm_num
  simp only [e, sub_self, ← EReal.coe_neg, ← EReal.coe_add, ← EReal.coe_zero, ← EReal.coe_one, zero_sub, neg_zero, mul_zero, mul_one, one_mul, add_zero, zero_add, sub_eq_add_neg, add_neg_cancel]

/-- The scale is a real. -/
theorem cq_eq : cq = (((1 / 8) * (Real.log 2)⁻¹ : ℝ) : EReal) := by
  unfold cq
  rfl

/-- A score of the kernel, in base two: the head's product scaled, the two sums of decays. -/
theorem score (x2 : FVec Ideal S4096x128 .f32) (x3 : FVec Ideal S512x128 .f32) (rows : FVec Ideal S1x4096x4 .f32) (a : Fin 2) (a4 : Fin 4) (ha : a4.val = a.val) (n : ℕ)
    (r : Fin 4096) (j : Fin 512) (q k : ℕ → ℝ) (w v : ℝ)
    (hq : ∀ l : Fin 128, (x2 (ix2 r l) : EReal) = (q l.val : EReal)) (hk : ∀ l : Fin 128, (x3 (ix2 j l) : EReal) = (k l.val : EReal))
    (hw : (rows (ix3 (0 : Fin 1) r a4) : EReal) = (w : EReal)) (hv : (rows (ix3 (0 : Fin 1) (row n j) a4) : EReal) = (v : EReal)) :
    (∑ l : Fin 256, (QSv x2 rows (ix3 a r l) : EReal) * KXv x3 rows a4 n (ix2 j l) : EReal)
      = (((∑ d : Fin 64, q (64 * a.val + d.val) * k (64 * a.val + d.val)) * (1 / 8) / Real.log 2 + (w - v) : ℝ) : EReal) := by
  have ea : (⟨a.val, by omega⟩ : Fin 4) = a4 := Fin.ext ha.symm
  rw [show (∑ l : Fin 256, (QSv x2 rows (ix3 a r l) : EReal) * KXv x3 rows a4 n (ix2 j l) : EReal)
    = ∑ l : Fin (128 + 128), QS x2 rows a r l * KXf x3 rows a4 n j l from rfl, Fin.sum_univ_add]
  have e1 : (∑ l : Fin 128, QS x2 rows a r (Fin.castAdd 128 l) * KXf x3 rows a4 n j (Fin.castAdd 128 l))
      = ∑ l : Fin 128, if keep a l.val then ((q l.val * k l.val * (1 / 8) / Real.log 2 : ℝ) : EReal) else 0 :=
    Finset.sum_congr rfl fun l _ => by
      unfold QS KXf
      rw [dif_pos (show (Fin.castAdd 128 l).val < 128 from l.isLt), dif_pos (show (Fin.castAdd 128 l).val < 128 from l.isLt)]
      have hq' := hq l
      have hk' := hk l
      by_cases hc : keep a l.val
      · rw [if_pos (show keep a (Fin.castAdd 128 l).val from hc), if_pos hc]
        refine (congrArg₂ (· * ·) (congrArg₂ (· * ·) hq' cq_eq) hk').trans ?_
        show ((q l.val : EReal) * (((1 / 8) * (Real.log 2)⁻¹ : ℝ) : EReal)) * (k l.val : EReal) = _
        rw [← EReal.coe_mul, ← EReal.coe_mul]; congr 1; ring
      · rw [if_neg (show ¬ keep a (Fin.castAdd 128 l).val from hc), if_neg hc]; exact zero_mul _
  have e2 : (∑ l : Fin 128, QS x2 rows a r (Fin.natAdd 128 l) * KXf x3 rows a4 n j (Fin.natAdd 128 l))
      = ∑ l : Fin 128, aux (w : EReal) l.val * kaux (v : EReal) l.val :=
    Finset.sum_congr rfl fun l _ => by
      unfold QS KXf
      have hn : ¬ (Fin.natAdd 128 l).val < 128 := by simp
      rw [dif_neg hn, dif_neg hn, ea, hw, hv]
      have : (Fin.natAdd 128 l).val - 128 = l.val := by simp
      rw [this]
  refine (congrArg₂ (· + ·) (e1.trans (sum_keep a fun l => ((q l * k l * (1 / 8) / Real.log 2 : ℝ) : EReal))) (e2.trans (sum_aux w v))).trans ?_
  show (∑ d : Fin 64, ((q (64 * a.val + d.val) * k (64 * a.val + d.val) * (1 / 8) / Real.log 2 : ℝ) : EReal)) + ((w - v : ℝ) : EReal) = _
  rw [← Cert.Gate.coe_sum, ← EReal.coe_add]
  congr 2
  rw [Finset.sum_mul, Finset.sum_div]

/-- Two to a score in base two less a row's logarithm in base two. -/
theorem weight (s c d m z : ℝ) (hz : 0 < z) :
    FloatOps.exp2 (F := Ideal) (φ := .f32) (((s / Real.log 2 + (c / Real.log 2 - d / Real.log 2) : ℝ) : EReal) - (((m + Real.log z) / Real.log 2 : ℝ) : EReal) : EReal)
      = ((Real.exp (s + (c - d) - m) / z : ℝ) : EReal) := by
  rw [← EReal.coe_sub]
  show ((Real.rpow 2 _ : ℝ) : EReal) = _
  congr 1
  have hl : Real.log 2 ≠ 0 := (Real.log_pos one_lt_two).ne'
  show (2 : ℝ) ^ (_ : ℝ) = _
  rw [Real.rpow_def_of_pos two_pos]
  have e : Real.log 2 * (s / Real.log 2 + (c / Real.log 2 - d / Real.log 2) - (m + Real.log z) / Real.log 2) = (s + (c - d) - m) - Real.log z := by
    field_simp
    ring
  rw [e, Real.exp_sub, Real.exp_log hz]

end Cert.Kernel17Ideal.Hand

end
-- ==== Proof.FHost.lean ====
/-
  The softmax weights of the forgetting attention on the host, over the extended reals: the masked scores, their row maxima, the row
  sums, the weights, and the gradient of the values as the reference writes it; then the rows of sums and logarithms the kernel is given.
  Each is read at an index.
-/
module

public import proofs.«01_k».proof.Proof.Gen.Reference17Ideal.Run
public import proofs.«01_k».proof.Proof.Gen.Kernel17Ideal.Frame
public import Idealize.ShloMosaic.Lib.Pointwise
public import Idealize.ShloMosaic.Lib.Pipeline.ValueKit
public import Idealize.ShloMosaic.PureOps.Ideal.Laws

@[expose] public section

set_option maxRecDepth 16384
set_option maxHeartbeats 400000

noncomputable section

namespace Cert.Attn

open Cert.Reference17Ideal Cert.Reference17Ideal.Gen
open Idealize.ShloMosaic Idealize.ShloMosaic.TcCoe Idealize.ShloMosaic.Tactic

/-- The masked scores. -/
def SC (proj : FVec Ideal S4096x3200 .f32) (cum : FVec Ideal S16x4096 .f32) : FVec Ideal S16x4096x4096 .f32 :=
  select (broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (mulf (Host.dotGeneral dot_S4096x16x64_S4096x16x64_S16x4096x4096_2_2_0_0_1_1 none (shapeCast S4096x16x64 (extractStridedSlice S4096x1024 ![0, 0] proj slices_S4096x3200_S4096x1024_0_0) shapeCasts_S4096x1024_S4096x16x64) (shapeCast S4096x16x64 (extractStridedSlice S4096x1024 ![0, 1024] proj slices_S4096x3200_S4096x1024_0_1024) shapeCasts_S4096x1024_S4096x16x64)) (broadcastInDim S16x4096x4096 ![] bcast_S_S16x4096x4096 (constant S_ .f32 0x3E000000#32)))
      (subf (broadcastInDim S16x4096x4096 ![0, 1, 2] bcast_S16x4096x1_S16x4096x4096_0_1_2 (broadcastInDim S16x4096x1 ![0, 1] bcast_S16x4096_S16x4096x1_0_1 cum)) (broadcastInDim S16x4096x4096 ![0, 1, 2] bcast_S16x1x4096_S16x4096x4096_0_1_2 (broadcastInDim S16x1x4096 ![0, 2] bcast_S16x4096_S16x1x4096_0_2 cum))))
    (broadcastInDim S16x4096x4096 ![] bcast_S_S16x4096x4096 (id (constant S_ .f32 0xFF800000#32)))

/-- The row maxima. -/
def MX (S : FVec Ideal S16x4096x4096 .f32) : FVec Ideal S16x4096 .f32 :=
  Host.reduce (FloatOps.maximumf (F := Ideal) (φ := .f32)) S (constant S_ .f32 0xFF800000#32) reducesTo_S16x4096x4096_S16x4096_d2 h_S_

/-- The row maxima, with minus infinity among the numbers compared. -/
def MX' (M : FVec Ideal S16x4096 .f32) : FVec Ideal S16x4096 .f32 :=
  maximumf (broadcastInDim S16x4096 ![] bcast_S_S16x4096 (constant S_ .f32 0xFF800000#32)) M

/-- The exponentials of the scores less a number per row. -/
def EX (S : FVec Ideal S16x4096x4096 .f32) (M : FVec Ideal S16x4096 .f32) : FVec Ideal S16x4096x4096 .f32 :=
  Host.exp (subf S (broadcastInDim S16x4096x4096 ![0, 1, 2] bcast_S16x4096x1_S16x4096x4096_0_1_2 (broadcastInDim S16x4096x1 ![0, 1] bcast_S16x4096_S16x4096x1_0_1 M)))

/-- The row sums. -/
def ZS (E : FVec Ideal S16x4096x4096 .f32) : FVec Ideal S16x4096 .f32 :=
  Host.reduceAdd E (constant S_ .f32 0x00000000#32) reducesTo_S16x4096x4096_S16x4096_d2 h_S_

/-- The softmax weights. -/
def PR (S : FVec Ideal S16x4096x4096 .f32) (M : FVec Ideal S16x4096 .f32) : FVec Ideal S16x4096x4096 .f32 :=
  Host.divf (EX S M) (broadcastInDim S16x4096x4096 ![0, 1, 2] bcast_S16x4096x1_S16x4096x4096_0_1_2 (broadcastInDim S16x4096x1 ![0, 1] bcast_S16x4096_S16x4096x1_0_1 (ZS (EX S M))))

/-- The gradient of the values from the weights. -/
def GV (P : FVec Ideal S16x4096x4096 .f32) (ct : FVec Ideal S4096x1024 .f32) : FVec Ideal S4096x1024 .bf16 :=
  truncf .bf16 (shapeCast S4096x1024 (transpose S4096x16x64 [2, 0, 1] (Host.dotGeneral dot_S16x64x4096_S16x4096x4096_S16x64x4096_2_1_1_2_0_0 none (transpose S16x64x4096 [1, 2, 0] (shapeCast S4096x16x64 ct shapeCasts_S4096x1024_S4096x16x64) transposes_S4096x16x64_S16x64x4096_1_2_0) P) transposes_S16x64x4096_S4096x16x64_2_0_1) shapeCasts_S4096x16x64_S4096x1024) bitsLt_bf16_f32

/-- The gradient of the values, as the reference writes it. -/
def REFV (proj : FVec Ideal S4096x3200 .f32) (cum : FVec Ideal S16x4096 .f32) (ct : FVec Ideal S4096x1024 .f32) : FVec Ideal S4096x1024 .bf16 :=
  GV (PR (SC proj cum) (MX' (MX (SC proj cum)))) ct

/-- The reference's run returns that array. -/
theorem ref_eq (m : (ℓ : Loc nD τ sig) → Buf (Elt Ideal) ℓ) (c : Dev nD) :
    Cert.Reference17Ideal.Value.res_main_v41 (F := Ideal) m c
      = REFV (m ((c.tc : Idealize.ShloMosaic.Thread nD τ).loc main_arg0)) (m ((c.tc : Idealize.ShloMosaic.Thread nD τ).loc main_arg1)) (m ((c.tc : Idealize.ShloMosaic.Thread nD τ).loc main_arg2)) := by
  unfold Cert.Reference17Ideal.Value.res_main_v41 REFV GV PR ZS EX MX' MX SC
  rfl

end Cert.Attn

end
-- ==== Proof.FHostAt.lean ====
/-
  The softmax weights on the host, read at an index: a score, an exponential, a row sum, a weight, and the gradient of the values.
-/
module

public import proofs.«01_k».proof.Proof.FHost

@[expose] public section

set_option maxRecDepth 16384
set_option maxHeartbeats 400000

noncomputable section

namespace Cert.Attn

open Cert.Reference17Ideal Cert.Reference17Ideal.Gen
open Idealize.ShloMosaic Idealize.ShloMosaic.TcCoe Idealize.ShloMosaic.Tactic

/-- A choice by the order of two small numbers. -/
theorem sel_sle {l n : ℕ} (hl : l < 4096) (hn : n < 4096) (a b : EReal) :
    Scalar.select (IntOp.cmpi .sle (BitVec.ofNat 32 l) (BitVec.ofNat 32 n)) a b = if l ≤ n then a else b := by
  have h : IntOp.cmpi .sle (BitVec.ofNat 32 l) (BitVec.ofNat 32 n) = 1#1 ↔ l ≤ n :=
    WordCmp.cmpi_sle_ofNat_eq_one_iff (by omega) (by omega)
  by_cases hc : l ≤ n
  · rw [if_pos hc]; exact if_pos (h.2 hc)
  · rw [if_neg hc]; exact if_neg fun e => hc (h.1 e)

/-- A score. -/
theorem SC_at (proj : FVec Ideal S4096x3200 .f32) (cum : FVec Ideal S16x4096 .f32) (h : Fin 16) (r j : Fin 4096) :
    (SC proj cum (ix3 h r j) : EReal) = if j.val ≤ r.val then
      (∑ d : Fin 64, (proj (ix2 r (⟨64 * h.val + d.val, by omega⟩ : Fin 3200)) : EReal) * proj (ix2 j (⟨1024 + (64 * h.val + d.val), by omega⟩ : Fin 3200)))
        * Ideal.ofBits .f32 0x3E000000#32 + ((cum (ix2 h r) : EReal) - cum (ix2 h j)) else Ideal.ofBits .f32 0xFF800000#32 := by
  refine Eq.trans ?_ (sel_sle j.isLt r.isLt _ _)
  pointwise [SC]
  have e : ∀ d : ℕ, h.val * 64 + d = 64 * h.val + d := fun d => by omega
  simp only [e]
  rfl

/-- An exponential. -/
theorem EX_at (S : FVec Ideal S16x4096x4096 .f32) (M : FVec Ideal S16x4096 .f32) (h : Fin 16) (r j : Fin 4096) :
    (EX S M (ix3 h r j) : EReal) = Ideal.exp ((S (ix3 h r j) : EReal) - M (ix2 h r) : EReal) := by
  pointwise [EX]

/-- A row sum. -/
theorem ZS_at (E : FVec Ideal S16x4096x4096 .f32) (h : Fin 16) (r : Fin 4096) :
    (ZS E (ix2 h r) : EReal) = ∑ j : Fin 4096, (E (ix3 h r j) : EReal) := by
  pointwise [ZS]

/-- A weight. -/
theorem PR_at (S : FVec Ideal S16x4096x4096 .f32) (M : FVec Ideal S16x4096 .f32) (h : Fin 16) (r j : Fin 4096) :
    (PR S M (ix3 h r j) : EReal) = Ideal.div (EX S M (ix3 h r j) : EReal) (ZS (EX S M) (ix2 h r) : EReal) := by
  pointwise [PR]

/-- The gradient of the values at an index. -/
theorem GV_at (P : FVec Ideal S16x4096x4096 .f32) (ct : FVec Ideal S4096x1024 .f32) (j : Fin 4096) (col : Fin 1024) :
    (GV P ct (ix2 j col) : EReal) = ∑ r : Fin 4096, (ct (ix2 r col) : EReal) * P (ix3 (⟨col.val / 64, by omega⟩ : Fin 16) r j) := by
  pointwise [GV]

/-- Minus infinity. -/
theorem ninf : Ideal.ofBits .f32 0xFF800000#32 = (⊥ : EReal) := by
  simp [Ideal.ofBits, Ideal.ieee]

/-- The row maximum with minus infinity is the row maximum. -/
theorem MX'_eq (M : FVec Ideal S16x4096 .f32) : MX' M = M := by
  funext i
  unfold MX'
  show max (Ideal.ofBits .f32 0xFF800000#32) (M i : EReal) = M i
  rw [ninf]; exact bot_sup_eq _

end Cert.Attn

end
-- ==== Proof.FMax.lean ====
/-
  The row maximum of the masked scores is a real number where a score is, and the rows of sums and logarithms the kernel is given, read
  at an index.
-/
module

public import proofs.«01_k».proof.Proof.FHostAt

@[expose] public section

set_option maxRecDepth 16384
set_option maxHeartbeats 400000

noncomputable section

namespace Cert.Attn

open Idealize.ShloMosaic Idealize.ShloMosaic.TcCoe Idealize.ShloMosaic.Tactic

section
open Cert.Reference17Ideal Cert.Reference17Ideal.Gen

/-- Dropping the last coordinate. -/
theorem drop_eq (h : Fin 16) (r j : Fin 4096) :
    Shape.ReducesTo.drop reducesTo_S16x4096x4096_S16x4096_d2 (ix3 h r j : S16x4096x4096.Idx) = (ix2 h r : S16x4096.Idx) := by
  funext b
  refine Fin.ext ?_
  match b with
  | ⟨0, _⟩ => exact Shape.ReducesTo.drop_apply_val_of_eq reducesTo_S16x4096x4096_S16x4096_d2 (ix3 h r j) (0 : Fin 2) (0 : Fin 3)
  | ⟨1, _⟩ => exact Shape.ReducesTo.drop_apply_val_of_eq reducesTo_S16x4096x4096_S16x4096_d2 (ix3 h r j) (1 : Fin 2) (1 : Fin 3)

/-- The row maximum is a real, of scores none of which is plus infinity and one of which is a real. -/
theorem MX_real (S : FVec Ideal S16x4096x4096 .f32) (h : Fin 16) (r j : Fin 4096) (ht : ∀ i, (S i : EReal) ≠ ⊤) (hb : (S (ix3 h r j) : EReal) ≠ ⊥) :
    ∃ x : ℝ, (MX S (ix2 h r) : EReal) = x := by
  have e : (MX S (ix2 h r) : EReal) = (Finset.univ.filter fun i => Shape.ReducesTo.drop reducesTo_S16x4096x4096_S16x4096_d2 i = (ix2 h r : S16x4096.Idx)).fold
      (FloatOps.maximumf (F := Ideal) (φ := .f32)) (Ideal.ofBits .f32 0xFF800000#32) S :=
    Host.reduce_eq_fold _ _ _ _ _ _
  have e' : (MX S (ix2 h r) : EReal) = (Finset.univ.filter fun i => Shape.ReducesTo.drop reducesTo_S16x4096x4096_S16x4096_d2 i = (ix2 h r : S16x4096.Idx)).fold
      (max : EReal → EReal → EReal) (⊥ : EReal) (fun i => (S i : EReal)) := by
    rw [e, ninf]; rfl
  have h1 : (MX S (ix2 h r) : EReal) ≠ ⊤ := by
    rw [e']
    refine ne_of_lt (Finset.fold_max_lt (⊤ : EReal) |>.2 ⟨bot_lt_top, fun i _ => lt_top_iff_ne_top.2 (ht i)⟩)
  have h2 : (MX S (ix2 h r) : EReal) ≠ ⊥ := by
    rw [e']
    refine ne_of_gt (lt_of_lt_of_le (bot_lt_iff_ne_bot.2 hb) ?_)
    exact (Finset.le_fold_max (S (ix3 h r j) : EReal)).2 (Or.inr ⟨ix3 h r j, Finset.mem_filter.2 ⟨Finset.mem_univ _, drop_eq h r j⟩, le_rfl⟩)
  exact ⟨_, (EReal.coe_toReal h1 h2).symm⟩

/-- The rows' logarithms. -/
def LSE (S : FVec Ideal S16x4096x4096 .f32) : FVec Ideal S16x4096 .f32 := addf (MX S) (Host.log (ZS (EX S (MX S))))

/-- A row's logarithm. -/
theorem lse_add (M Z : FVec Ideal S16x4096 .f32) (h : Fin 16) (r : Fin 4096) :
    (addf M (Host.log Z) (ix2 h r) : EReal) = (M (ix2 h r) : EReal) + Ideal.log (Z (ix2 h r) : EReal) := by
  pointwise []

theorem LSE_at (S : FVec Ideal S16x4096x4096 .f32) (h : Fin 16) (r : Fin 4096) :
    (LSE S (ix2 h r) : EReal) = (MX S (ix2 h r) : EReal) + Ideal.log (ZS (EX S (MX S)) (ix2 h r) : EReal) := by
  unfold LSE; exact lse_add _ _ h r

end

open Cert.Kernel17Ideal Cert.Kernel17Ideal.Gen

/-- A number per head and row, divided by the logarithm of two, by pairs of heads. -/
def TP (x : FVec Ideal S16x4096 .f32) : FVec Ideal S8x4096x2 .f32 :=
  transpose S8x4096x2 [0, 2, 1] (shapeCast S8x2x4096 (Host.divf x (broadcastInDim S16x4096 ![] bcast_S_S16x4096 (Host.log (constant (F := Ideal) S_ .f32 0x40000000#32)))) shapeCasts_S16x4096_S8x2x4096) transposes_S8x2x4096_S8x4096x2_0_2_1

/-- Two such arrays side by side. -/
def CC (x y : FVec Ideal S8x4096x2 .f32) : FVec Ideal S8x4096x4 .f32 :=
  concatenate S8x4096x4 2 [⟨S8x4096x2, x⟩, ⟨S8x4096x2, y⟩] concatenates_S8x4096x2_S8x4096x2_S8x4096x4_d2

/-- The rows the kernel is given. -/
def RW (S : FVec Ideal S16x4096x4096 .f32) (cum : FVec Ideal S16x4096 .f32) : FVec Ideal S8x4096x4 .f32 := CC (TP cum) (TP (LSE S))

/-- Such a number. -/
theorem TP_at (x : FVec Ideal S16x4096 .f32) (hp : Fin 8) (r : Fin 4096) (a : Fin 2) :
    (TP x (ix3 hp r a) : EReal) = Ideal.div (x (ix2 (⟨2 * hp.val + a.val, by omega⟩ : Fin 16) r) : EReal) (Ideal.log (Ideal.ofBits .f32 0x40000000#32)) := by
  pointwise [TP]
  have e : hp.val * 2 + a.val = 2 * hp.val + a.val := by omega
  simp only [e]

/-- The first two columns. -/
theorem CC_lo (x y : FVec Ideal S8x4096x2 .f32) (hp : Fin 8) (r : Fin 4096) (a : Fin 2) :
    (CC x y (ix3 hp r (⟨a.val, by omega⟩ : Fin 4)) : EReal) = x (ix3 hp r a) := by
  pointwise [CC]

/-- The last two columns. -/
theorem CC_hi (x y : FVec Ideal S8x4096x2 .f32) (hp : Fin 8) (r : Fin 4096) (a : Fin 2) :
    (CC x y (ix3 hp r (⟨2 + a.val, by omega⟩ : Fin 4)) : EReal) = y (ix3 hp r a) := by
  pointwise [CC]

end Cert.Attn

end
-- ==== Proof.FEntry.lean ====
/-
  The rows of sums and logarithms, as the kernel's region finds them: the host operations before it computed them from the arguments.
-/
module

public import proofs.«01_k».proof.Proof.FMax
public import Idealize.ShloMosaic.Lib.StableHlo.Run

@[expose] public section

set_option maxRecDepth 16384
set_option maxHeartbeats 2000000

noncomputable section

namespace Cert.Attn

open Idealize.ShloMosaic Idealize.ShloMosaic.TcCoe Idealize.ShloMosaic.Tactic

open Cert.Kernel17Ideal Cert.Kernel17Ideal.Gen

/-- The rows as the region finds them. -/
theorem entry_rows (m : (ℓ : Loc nD τ sig) → Buf (Elt Ideal) ℓ) (c : Dev nD) :
    V m c main_v39 = RW (SC (m ((c.tc : Idealize.ShloMosaic.Thread nD τ).loc main_arg0)) (m ((c.tc : Idealize.ShloMosaic.Thread nD τ).loc main_arg1)))
      (m ((c.tc : Idealize.ShloMosaic.Thread nD τ).loc main_arg1)) := by
  unfold V
  simp only [hostOps0, hostOps0_1, hostOps0_2, hostOps0_3, hostOps0_4, List.flatten_cons, List.flatten_nil, List.append_nil, List.cons_append,
    List.nil_append, StableHlo.TRef.ternary, StableHlo.TRef.unary, StableHlo.TRef.toBuf, StableHlo.TRef.ofBuf, cast_eq]
  after_results_simp
  unfold RW
  change CC _ _ = CC _ _
  refine congrArg₂ CC ?_ ?_
  · after_results_simp
    unfold TP
    rfl
  · after_results_simp
    unfold TP LSE ZS EX MX SC
    rfl

end Cert.Attn

end
-- ==== Proof.FSoft.lean ====
/-
  The softmax weights on the host at real arguments: a row's maximum and sum are real, a weight is an exponential over the sum, and the row's
  logarithm is the maximum plus the logarithm of the sum.
-/
module

public import proofs.«01_k».proof.Proof.FHostAt
public import proofs.«01_k».proof.Proof.FMax
public import proofs.«01_k».proof.Proof.Gate

@[expose] public section

set_option maxRecDepth 16384
set_option maxHeartbeats 400000

noncomputable section

namespace Cert.Attn

open Cert.Reference17Ideal Cert.Reference17Ideal.Gen
open Idealize.ShloMosaic Idealize.ShloMosaic.TcCoe Idealize.ShloMosaic.Tactic
open Cert.Gate (IsReal)

theorem ex3 {a b d : ℕ} (p : (⟨3, ![a, b, d]⟩ : Shape).Idx) : ∃ (x : Fin a) (y : Fin b) (z : Fin d), p = ix3 x y z :=
  ⟨p 0, p 1, p 2, funext fun x => by fin_cases x <;> rfl⟩

theorem eighth : Ideal.ofBits .f32 0x3E000000#32 = ((1 / 8 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_eq, Ideal.log_coe, if_neg (by norm_num)]

/-- An element of the projection as a real, by the number of its column. -/
def pr (proj : FVec Ideal S4096x3200 .f32) (r : Fin 4096) (n : ℕ) : ℝ := if h : n < 3200 then (proj (ix2 r (⟨n, h⟩ : Fin 3200)) : EReal).toReal else 0

/-- A cumulated decay as a real. -/
def cr (cum : FVec Ideal S16x4096 .f32) (h : Fin 16) (r : Fin 4096) : ℝ := (cum (ix2 h r) : EReal).toReal

theorem coe_of_real {x : EReal} (h : IsReal x) : x = ((x.toReal : ℝ) : EReal) := by obtain ⟨y, rfl⟩ := h; rfl

/-- The queries and the keys are real. -/
def RealP (proj : FVec Ideal S4096x3200 .f32) : Prop := ∀ (r : Fin 4096) (l : Fin 3200), l.val < 2048 → IsReal (proj (ix2 r l) : EReal)

/-- The cumulated decays are real. -/
def RealC (cum : FVec Ideal S16x4096 .f32) : Prop := ∀ (h : Fin 16) (r : Fin 4096), IsReal (cum (ix2 h r) : EReal)

theorem pr_eq {proj : FVec Ideal S4096x3200 .f32} (hp : RealP proj) (r : Fin 4096) (l : Fin 3200) (hl : l.val < 2048) :
    (proj (ix2 r l) : EReal) = ((pr proj r l.val : ℝ) : EReal) := by
  unfold pr; rw [dif_pos l.isLt]; exact coe_of_real (hp r l hl)

theorem cr_eq {cum : FVec Ideal S16x4096 .f32} (hc : RealC cum) (h : Fin 16) (r : Fin 4096) : (cum (ix2 h r) : EReal) = ((cr cum h r : ℝ) : EReal) :=
  coe_of_real (hc h r)

/-- A head's product of a query and a key, scaled. -/
def qk (proj : FVec Ideal S4096x3200 .f32) (h : ℕ) (r j : Fin 4096) : ℝ :=
  (∑ d : Fin 64, pr proj r (64 * h + d.val) * pr proj j (1024 + (64 * h + d.val))) * (1 / 8)

/-- A score as a real. -/
def sr (proj : FVec Ideal S4096x3200 .f32) (cum : FVec Ideal S16x4096 .f32) (h : Fin 16) (r j : Fin 4096) : ℝ :=
  qk proj h.val r j + (cr cum h r - cr cum h j)

theorem SC_real {proj : FVec Ideal S4096x3200 .f32} {cum : FVec Ideal S16x4096 .f32} (hp : RealP proj) (hc : RealC cum) (h : Fin 16) (r j : Fin 4096) :
    (SC proj cum (ix3 h r j) : EReal) = if j.val ≤ r.val then ((sr proj cum h r j : ℝ) : EReal) else ⊥ := by
  rw [SC_at, ninf]
  refine if_congr Iff.rfl ?_ rfl
  have e : (∑ d : Fin 64, (proj (ix2 r (⟨64 * h.val + d.val, by omega⟩ : Fin 3200)) : EReal) * proj (ix2 j (⟨1024 + (64 * h.val + d.val), by omega⟩ : Fin 3200)))
      = ((∑ d : Fin 64, pr proj r (64 * h.val + d.val) * pr proj j (1024 + (64 * h.val + d.val)) : ℝ) : EReal) := by
    rw [Cert.Gate.coe_sum]
    refine Finset.sum_congr rfl fun d _ => ?_
    have hd := d.isLt; have hh := h.isLt
    rw [pr_eq hp r _ (by show 64 * h.val + d.val < 2048; omega), pr_eq hp j _ (by show 1024 + (64 * h.val + d.val) < 2048; omega), ← EReal.coe_mul]
  rw [e, eighth, cr_eq hc, cr_eq hc, ← EReal.coe_mul, ← EReal.coe_sub, ← EReal.coe_add]
  rfl

/-- A row of weights. -/
theorem row_facts {proj : FVec Ideal S4096x3200 .f32} {cum : FVec Ideal S16x4096 .f32} (hp : RealP proj) (hc : RealC cum) (h : Fin 16) (r : Fin 4096) :
    ∃ m z : ℝ, 0 < z ∧ (LSE (SC proj cum) (ix2 h r) : EReal) = ((m + Real.log z : ℝ) : EReal)
      ∧ ∀ j : Fin 4096, (PR (SC proj cum) (MX' (MX (SC proj cum))) (ix3 h r j) : EReal)
        = if j.val ≤ r.val then ((Real.exp (sr proj cum h r j - m) / z : ℝ) : EReal) else 0 := by
  have hs := SC_real hp hc
  have ht : ∀ i, (SC proj cum i : EReal) ≠ ⊤ := fun i => by
    obtain ⟨a, b, d, rfl⟩ := ex3 i
    rw [hs]
    split
    · exact EReal.coe_ne_top _
    · exact bot_ne_top
  have hb : (SC proj cum (ix3 h r r) : EReal) ≠ ⊥ := by rw [hs, if_pos le_rfl]; exact EReal.coe_ne_bot _
  obtain ⟨m, hm⟩ := MX_real (SC proj cum) h r r ht hb
  rw [MX'_eq]
  have he : ∀ j : Fin 4096, (EX (SC proj cum) (MX (SC proj cum)) (ix3 h r j) : EReal)
      = ((if j.val ≤ r.val then Real.exp (sr proj cum h r j - m) else 0 : ℝ) : EReal) := fun j => by
    rw [EX_at, hm, hs]
    by_cases hj : j.val ≤ r.val
    · rw [if_pos hj, if_pos hj, ← EReal.coe_sub, Ideal.exp_coe]
    · rw [if_neg hj, if_neg hj, EReal.bot_sub, Ideal.exp_bot, EReal.coe_zero]
  have hz : (ZS (EX (SC proj cum) (MX (SC proj cum))) (ix2 h r) : EReal)
      = ((∑ j : Fin 4096, (if j.val ≤ r.val then Real.exp (sr proj cum h r j - m) else 0) : ℝ) : EReal) := by
    rw [ZS_at, Cert.Gate.coe_sum]
    exact Finset.sum_congr rfl fun j _ => he j
  have hpos : 0 < ∑ j : Fin 4096, (if j.val ≤ r.val then Real.exp (sr proj cum h r j - m) else 0) := by
    refine Finset.sum_pos' (fun j _ => ?_) ⟨r, Finset.mem_univ r, ?_⟩
    · split
      · exact (Real.exp_pos _).le
      · exact le_rfl
    · rw [if_pos le_rfl]; exact Real.exp_pos _
  generalize (∑ j : Fin 4096, (if j.val ≤ r.val then Real.exp (sr proj cum h r j - m) else 0)) = z at hz hpos
  refine ⟨m, z, hpos, ?_, fun j => ?_⟩
  · rw [LSE_at, hm, hz, Ideal.log_coe, if_neg (not_le.2 hpos), ← EReal.coe_add]
  · rw [PR_at, hz, he, Ideal.div_coe hpos.ne']
    by_cases hj : j.val ≤ r.val
    · rw [if_pos hj, if_pos hj, ← EReal.coe_mul, mul_one_div]
    · rw [if_neg hj, if_neg hj, EReal.coe_zero, zero_mul]

end Cert.Attn

end
-- ==== Proof.FPt.lean ====
/-
  A grid point's block of the values' gradient is the host's: the kernel's weight, two to a score in base two less the row's logarithm in base two,
  is the softmax's weight, and the sum over the blocks of rows from the diagonal on is the sum over all rows, the ones above the diagonal being zero.
-/
module

public import proofs.«01_k».proof.Proof.FBlk
public import proofs.«01_k».proof.Proof.FMath
public import proofs.«01_k».proof.Proof.FEntry
public import proofs.«01_k».proof.Proof.FSoft

@[expose] public section

set_option maxRecDepth 16384
set_option maxHeartbeats 400000

noncomputable section

namespace Cert.Kernel17Ideal.Hand

open Cert.Kernel17Ideal Cert.Kernel17Ideal.Gen
open Idealize.ShloMosaic Idealize.ShloMosaic.TcCoe Idealize.ShloMosaic.Tactic
open Cert.Gate (IsReal)
open Cert.Attn

/-- A sum over 4096 rows is the sum over eight blocks of 512. -/
theorem sum_blocks (f : Fin 4096 → EReal) : (∑ r : Fin 4096, f r) = ∑ b ∈ Finset.range 8, ∑ x : Fin 512, f (row b x) := by
  rw [Finset.sum_range, ← (finProdFinEquiv (m := 8) (n := 512)).sum_comp f, Fintype.sum_prod_type]
  refine Finset.sum_congr rfl fun b _ => Finset.sum_congr rfl fun x _ => congrArg f (Fin.ext ?_)
  rw [row_val b.isLt]
  show x.val + 512 * b.val = _
  omega

/-- Eight blocks, of which the first are zero. -/
theorem sum_from (n : ℕ) (hn : n < 8) (F : ℕ → EReal) (h0 : ∀ b, b < n → F b = 0) :
    (∑ b ∈ Finset.range 8, F b) = F n + ∑ m ∈ Finset.range (7 - n), F (n + 1 + m) := by
  have e8 : 8 = n + ((7 - n) + 1) := by omega
  rw [show Finset.range 8 = Finset.range (n + ((7 - n) + 1)) from congrArg _ e8, Finset.sum_range_add, Finset.sum_eq_zero (fun b hb => h0 b (Finset.mem_range.1 hb)),
    zero_add, Finset.sum_range_succ', add_comm]
  refine congrArg₂ (· + ·) rfl (Finset.sum_congr rfl fun m _ => congrArg F (by omega))

/-- The kernel's sum over blocks, head by head: the head that owns the lane gives the weights times the cotangent, the other nothing. -/
theorem dv_sum (q : FVec Ideal S2x4096x256 .bf16) (rows : FVec Ideal S1x4096x4 .f32) (x7 : FVec Ideal S4096x128 .f32) (kx0 kx1 : FVec Ideal S512x256 .bf16)
    (j : Fin 512) (l : Fin 128) (n : ℕ) (hn : n < 8) (w : Fin 4096 → EReal)
    (h0 : keep 0 l.val → ∀ r : Fin 4096, 512 * n + j.val ≤ r.val → Pf q rows kx0 0 2 r j = w r)
    (h1 : keep 1 l.val → ∀ r : Fin 4096, 512 * n + j.val ≤ r.val → Pf q rows kx1 1 3 r j = w r)
    (hw : ∀ r : Fin 4096, r.val < 512 * n + j.val → w r = 0) :
    DV q rows (DSv x7) kx0 kx1 j l n = ∑ r : Fin 4096, (x7 (ix2 r l) : EReal) * w r := by
  have hd : ∀ (a : Fin 2) (r : Fin 4096), (DSv x7 (ix3 a r l) : EReal) = if keep a l.val then (x7 (ix2 r l) : EReal) else 0 := fun a r => rfl
  have hb : ∀ b, n < b → b < 8 → BV q rows (DSv x7) kx0 kx1 j l b = ∑ x : Fin 512, (x7 (ix2 (row b x) l) : EReal) * w (row b x) := fun b hnb hb8 => by
    have hr : ∀ x : Fin 512, 512 * n + j.val ≤ (row b x).val := fun x => by rw [row_val hb8]; have := j.isLt; omega
    unfold BV
    by_cases hl : l.val < 64
    · have k0 : keep 0 l.val := by unfold keep; simp [hl]
      have k1 : ¬ keep 1 l.val := by unfold keep; simp [hl]
      rw [Finset.sum_congr rfl fun x _ => by rw [hd, if_pos k0, h0 k0 _ (hr x), mul_comm],
        Finset.sum_eq_zero (s := Finset.univ) (f := fun x : Fin 512 => Pf q rows kx1 1 3 (row b x) j * (DSv x7 (ix3 (1 : Fin 2) (row b x) l) : EReal))
          (fun x _ => by rw [hd, if_neg k1, mul_zero]), add_zero]
    · have k0 : ¬ keep 0 l.val := by unfold keep; simp [hl]
      have k1 : keep 1 l.val := by unfold keep; simp [hl]
      rw [Finset.sum_eq_zero (s := Finset.univ) (f := fun x : Fin 512 => Pf q rows kx0 0 2 (row b x) j * (DSv x7 (ix3 (0 : Fin 2) (row b x) l) : EReal))
          (fun x _ => by rw [hd, if_neg k0, mul_zero]), zero_add]
      exact Finset.sum_congr rfl fun x _ => by rw [hd, if_pos k1, h1 k1 _ (hr x), mul_comm]
  have hdg : DB q rows (DSv x7) kx0 kx1 j l n = ∑ x : Fin 512, (x7 (ix2 (row n x) l) : EReal) * w (row n x) := by
    have hm : ∀ (x : Fin 512) (p : EReal), (512 * n + j.val ≤ (row n x).val → p = w (row n x)) → (if j.val ≤ x.val then p else 0) = w (row n x) := fun x p hp => by
      by_cases hjx : j.val ≤ x.val
      · rw [if_pos hjx]; exact hp (by rw [row_val hn]; omega)
      · rw [if_neg hjx]; exact (hw _ (by rw [row_val hn]; omega)).symm
    unfold DB
    by_cases hl : l.val < 64
    · have k0 : keep 0 l.val := by unfold keep; simp [hl]
      have k1 : ¬ keep 1 l.val := by unfold keep; simp [hl]
      rw [Finset.sum_congr rfl fun x _ => by rw [hd, if_pos k0, hm x _ (h0 k0 _), mul_comm],
        Finset.sum_eq_zero (s := Finset.univ) (f := fun x : Fin 512 => (if j.val ≤ x.val then Pf q rows kx1 1 3 (row n x) j else 0) * (DSv x7 (ix3 (1 : Fin 2) (row n x) l) : EReal))
          (fun x _ => by rw [hd, if_neg k1, mul_zero]), add_zero]
    · have k0 : ¬ keep 0 l.val := by unfold keep; simp [hl]
      have k1 : keep 1 l.val := by unfold keep; simp [hl]
      rw [Finset.sum_eq_zero (s := Finset.univ) (f := fun x : Fin 512 => (if j.val ≤ x.val then Pf q rows kx0 0 2 (row n x) j else 0) * (DSv x7 (ix3 (0 : Fin 2) (row n x) l) : EReal))
          (fun x _ => by rw [hd, if_neg k0, mul_zero]), zero_add]
      exact Finset.sum_congr rfl fun x _ => by rw [hd, if_pos k1, hm x _ (h1 k1 _), mul_comm]
  rw [sum_blocks, sum_from n hn]
  · unfold DV
    rw [hdg]
    refine congrArg₂ (· + ·) rfl (Finset.sum_congr rfl fun m hm => ?_)
    have := Finset.mem_range.1 hm
    exact hb _ (by omega) (by omega)
  · intro b hbn
    refine Finset.sum_eq_zero fun x _ => ?_
    rw [hw _ (by rw [row_val (by omega)]; have := x.isLt; omega), mul_zero]

variable (m : (ℓ : Loc nD τ sig) → Buf (Elt Ideal) ℓ)

/-- The projections, the cumulated decays and the cotangent, as a device holds them. -/
abbrev aP (c : Dev nD) : FVec Ideal S4096x3200 .f32 := m ((c.tc : Idealize.ShloMosaic.Thread nD τ).loc main_arg0)
@[inherit_doc aP] abbrev aC (c : Dev nD) : FVec Ideal S16x4096 .f32 := m ((c.tc : Idealize.ShloMosaic.Thread nD τ).loc main_arg1)
@[inherit_doc aP] abbrev aT (c : Dev nD) : FVec Ideal S4096x1024 .f32 := m ((c.tc : Idealize.ShloMosaic.Thread nD τ).loc main_arg2)

/-- The head a point's half of the lanes belongs to. -/
def hd (t : Fin cfg0.N) (a : Fin 2) : Fin 16 := ⟨2 * (t.val / 8) + a.val, by have := hp_lt t; omega⟩

/-- The kernel's weight is the softmax's. -/
theorem pf_at (c : Dev nD) (t : Fin cfg0.N) (hp : RealP (aP m c)) (hc : RealC (aC m c)) (a : Fin 2) (a4 a4' : Fin 4) (ha : a4.val = a.val)
    (ha' : a4'.val = 2 + a.val) (r : Fin 4096) (j : Fin 512) (hj : 512 * (t.val % 8) + j.val ≤ r.val) :
    Pf (QSv (bq m c t) (br m c t)) (br m c t) (KXv (bk m c t) (br m c t) a4 (t.val % 8)) a a4' r j
      = PR (SC (aP m c) (aC m c)) (MX' (MX (SC (aP m c) (aC m c)))) (ix3 (hd t a) r (row (t.val % 8) j)) := by
  obtain ⟨x, z, hz, hl, hw⟩ := row_facts hp hc (hd t a) r
  have hlo : ∀ s : Fin 4096, (br m c t (ix3 (0 : Fin 1) s a4) : EReal) = ((cr (aC m c) (hd t a) s / Real.log 2 : ℝ) : EReal) := fun s => by
    have e : a4 = (⟨a.val, by omega⟩ : Fin 4) := Fin.ext ha
    rw [br_at, entry_rows, e]
    unfold RW
    rw [CC_lo, TP_at, log_two, Ideal.div_coe (Real.log_pos one_lt_two).ne']
    refine (congrArg (· * ((1 / Real.log 2 : ℝ) : EReal)) (cr_eq hc (hd t a) s)).trans ?_
    rw [← EReal.coe_mul, mul_one_div]
  have hhi : (br m c t (ix3 (0 : Fin 1) r a4') : EReal) = (((x + Real.log z) / Real.log 2 : ℝ) : EReal) := by
    have e : a4' = (⟨2 + a.val, by omega⟩ : Fin 4) := Fin.ext ha'
    rw [br_at, entry_rows, e]
    unfold RW
    rw [CC_hi, TP_at, log_two, Ideal.div_coe (Real.log_pos one_lt_two).ne']
    refine (congrArg (· * ((1 / Real.log 2 : ℝ) : EReal)) hl).trans ?_
    rw [← EReal.coe_mul, mul_one_div]
  have hn : t.val % 8 < 8 := Nat.mod_lt _ (by decide)
  have ht := hp_lt t
  unfold Pf
  rw [hhi, score (bq m c t) (bk m c t) (br m c t) a a4 ha (t.val % 8) r j (fun l => pr (aP m c) r (128 * (t.val / 8) + l))
    (fun l => pr (aP m c) (row (t.val % 8) j) (1024 + (128 * (t.val / 8) + l))) _ _ (fun l => ?_) (fun l => ?_) (hlo r) (hlo _), weight _ _ _ _ _ hz, hw,
    if_pos (by rw [row_val hn]; exact hj)]
  · unfold sr qk
    have e : ∀ d : ℕ, 128 * (t.val / 8) + (64 * a.val + d) = 64 * (hd t a).val + d := fun d => by
      show _ = 64 * (2 * (t.val / 8) + a.val) + d
      omega
    simp only [e]
  · rw [bq_at, V_main_arg0]
    exact pr_eq hp r _ (by show 128 * (t.val / 8) + l.val < 2048; omega)
  · rw [bk_at, V_main_arg0]
    refine (pr_eq hp _ _ (by show 1024 + (128 * (t.val / 8) + l.val) < 2048; omega)).trans ?_
    refine congrArg (fun s => ((pr (aP m c) s (1024 + (128 * (t.val / 8) + l.val)) : ℝ) : EReal)) (Fin.ext ?_)
    rw [row_val hn]

/-- A grid point's block. -/
theorem point (c : Dev nD) (t : Fin cfg0.N) (hp : RealP (aP m c)) (hc : RealC (aC m c)) (j : Fin 512) (l : Fin 128) :
    (OUT (bq m c t) (bk m c t) (br m c t) (bd m c t) (t.val % 8) (ix2 j l) : EReal)
      = REFV (aP m c) (aC m c) (aT m c) (ix2 (⟨512 * (t.val % 8) + j.val, by omega⟩ : Fin 4096) (⟨128 * (t.val / 8) + l.val, by have := hp_lt t; omega⟩ : Fin 1024)) := by
  have hn : t.val % 8 < 8 := Nat.mod_lt _ (by decide)
  have hcol : (128 * (t.val / 8) + l.val) / 64 < 16 := by have := hp_lt t; omega
  unfold REFV
  rw [GV_at]
  refine (dv_sum _ _ _ _ _ j l (t.val % 8) hn
    (fun r => PR (SC (aP m c) (aC m c)) (MX' (MX (SC (aP m c) (aC m c)))) (ix3 (⟨(128 * (t.val / 8) + l.val) / 64, hcol⟩ : Fin 16) r (row (t.val % 8) j)))
    (fun k r hr => ?_) (fun k r hr => ?_) (fun r hr => ?_)).trans ?_
  · rw [pf_at m c t hp hc 0 0 2 rfl rfl r j hr]
    have hl : l.val < 64 := k.2 rfl
    refine congrArg (fun h => PR (SC (aP m c) (aC m c)) (MX' (MX (SC (aP m c) (aC m c)))) (ix3 h r (row (t.val % 8) j))) (Fin.ext ?_)
    show 2 * (t.val / 8) + 0 = (128 * (t.val / 8) + l.val) / 64
    omega
  · rw [pf_at m c t hp hc 1 1 3 rfl rfl r j hr]
    have hl : ¬ l.val < 64 := fun h => absurd (k.1 h) (by decide)
    refine congrArg (fun h => PR (SC (aP m c) (aC m c)) (MX' (MX (SC (aP m c) (aC m c)))) (ix3 h r (row (t.val % 8) j))) (Fin.ext ?_)
    show 2 * (t.val / 8) + 1 = (128 * (t.val / 8) + l.val) / 64
    have := l.isLt
    omega
  · obtain ⟨x, z, hz, _, hw⟩ := row_facts hp hc (⟨(128 * (t.val / 8) + l.val) / 64, hcol⟩ : Fin 16) r
    show PR _ _ _ = _
    rw [hw, if_neg (by rw [row_val hn]; omega)]
  · refine Finset.sum_congr rfl fun r _ => congrArg₂ (· * ·) ?_ ?_
    · rw [bd_at, V_main_arg2]
    · refine congrArg (fun s => PR (SC (aP m c) (aC m c)) (MX' (MX (SC (aP m c) (aC m c)))) (ix3 (⟨(128 * (t.val / 8) + l.val) / 64, hcol⟩ : Fin 16) r s)) (Fin.ext ?_)
      exact row_val hn j

end Cert.Kernel17Ideal.Hand

end
-- ==== Proof.FArr.lean ====
/-
  The array the call leaves is the gradient of the values as the host computes it.
-/
module

public import proofs.«01_k».proof.Proof.FRdat
public import proofs.«01_k».proof.Proof.FPt
public import Idealize.ShloMosaic.Lib.Pipeline.ArrRel

@[expose] public section

set_option maxRecDepth 16384
set_option maxHeartbeats 400000

noncomputable section

namespace Cert.Kernel17Ideal.Hand

open Cert.Kernel17Ideal Cert.Kernel17Ideal.Gen
open Idealize.ShloMosaic Idealize.ShloMosaic.TcCoe Idealize.ShloMosaic.Tactic
open Idealize.SL.Sem
open Cert.Attn

variable (m : (ℓ : Loc nD τ sig) → Buf (Elt Ideal) ℓ) (ρ : Dev nD → PrngReg)

/-- The array, from what the body leaves at each point. -/
theorem arr_eq (c : Dev nD) (hp : RealP (aP m c)) (hc : RealC (aC m c))
    (after : (w : Fin cfg0.W) → Fin cfg0.N → (cfg0.win w).block.Idx → Elt Ideal (cfg0.win w).elt)
    (ha : ∀ t : Fin cfg0.N, after (8 : Fin 11) t = OUT (bq m c t) (bk m c t) (br m c t) (bd m c t) (t.val % 8)) :
    ((rdatV m c).withAfter after).arrAt (8 : Fin 11) cfg0.N = REFV (aP m c) (aC m c) (aT m c) := by
  refine ((rdatV m c).withAfter after).arrAt_eq_of_covers (8 : Fin 11) _ (by decide +kernel) fun t hf y => ?_
  obtain ⟨j, l, rfl⟩ : ∃ (j : Fin 512) (l : Fin 128), y = ix2 j l := ⟨y 0, y 1, funext fun x => by fin_cases x <;> rfl⟩
  refine Eq.trans ?_ ((point m c t hp hc j l).trans ?_)
  · rw [Pipeline.RDat.withAfter_after, ha]
    blk_simp
  · obtain ⟨_, _, _, _, e⟩ := idx_val t
    blk_point [e]

/-- Every run of the call ends with that array, the arguments as they were. -/
theorem run_value (hp : ∀ c, RealP (aP m c)) (hc : ∀ c, RealC (aC m c)) :
    θ_run defs (onTc (τ := τ) (main (F := Ideal))) ⟨m, fun _ => 0, ρ⟩ (fun r => ∀ c : Dev nD,
      r.2.mem ((c.tc : Thread nD τ).loc main_v73_2) = REFV (aP m c) (aC m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := Pipeline.RDat.FramePost.exists_exact h.1 c
    refine ⟨(hA (8 : Fin 11)).trans (arr_eq m c (hp c) (hc c) after fun t => ?_), (h.1.arr_in c 0 rfl).trans (V_main_arg0 m c),
      ((h.1 c).2 main_arg1 (Pipeline.mem_restRefs_of main_arg1 (by decide) (by decide))).trans (V_main_arg1 m c),
      (h.1.arr_in c 5 rfl).trans (V_main_arg2 m c)⟩
    obtain ⟨Y, _, hX⟩ := hL (8 : Fin 11) t ((by decide +kernel : ∀ t : Fin cfg0.N, (cfg0.win (8 : Fin 11)).flush t = true) t)
    exact hX) (run_mainV m ρ)

end Cert.Kernel17Ideal.Hand

end
-- ==== Proof.AttnClaims.lean ====
/-
  The attention's gradient of the values: the claims, from the array `FArr` finds and the reference's own run.
-/
module

public import proofs.«01_k».proof.Defs
public import proofs.«01_k».proof.Proof.FArr
public import proofs.«01_k».proof.Proof.PRun17
public import proofs.«01_k».proof.Proof.FfnClaims
public import proofs.«01_k».proof.Proof.Gen.Pre_finite

@[expose] public section

set_option maxRecDepth 16384

noncomputable section

open Idealize.ShloMosaic Idealize.ShloMosaic.TcCoe Idealize.SL.Sem

namespace Cert.AttnClaims

/-- The reference runs, ends with every counter at zero and keeps its arguments. -/
theorem frame_r17 : quiescent_Reference17Ideal (hReference17Ideal := Cert.Reference17Ideal.Gen.facts) := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- What the precondition says: the queries, the keys and the cumulated decays are real. -/
theorem real_of_pre (m : (ℓ : Loc Cert.Kernel17Ideal.nD Cert.Kernel17Ideal.τ Cert.Kernel17Ideal.sig) → Buf (Elt Ideal) ℓ)
    (hpre : Pre_Kernel17Ideal_finite (hPre_finite := Cert.Pre_finite.Gen.facts) m) (c : Dev Cert.Kernel17Ideal.nD) :
    Cert.Attn.RealP (Cert.Kernel17Ideal.Hand.aP m c) ∧ Cert.Attn.RealC (Cert.Kernel17Ideal.Hand.aC m c) := by
  have h := congrFun (hpre c) (fun a => a.elim0)
  dsimp only [Cert.Pre_finite.fn] at h
  obtain ⟨h0, h1⟩ := Cert.FfnClaims.both _ _ _ h
  refine ⟨fun r l hl => ?_, fun hh r => Cert.Gate.isReal_of_lt (Host.reduce_andi_all _ _ _ _ _ h1 (ix2 hh r))⟩
  have e := Cert.Gate.isReal_of_lt (Host.reduce_andi_all _ _ _ _ _ h0 (ix2 r (⟨l.val, hl⟩ : Fin 2048)))
  refine Eq.mp (congrArg Cert.Gate.IsReal ?_) e
  pointwise

/-- The array the reference returns is the gradient of the values. -/
theorem result_17 (m : (ℓ : Loc Cert.Kernel17Ideal.nD Cert.Kernel17Ideal.τ Cert.Kernel17Ideal.sig) → Buf (Elt Ideal) ℓ)
    (m' : (ℓ : Loc Cert.Reference17Ideal.nD Cert.Reference17Ideal.τ Cert.Reference17Ideal.sig) → Buf (Elt Ideal) ℓ) (ρ' : Dev Cert.Reference17Ideal.nD → PrngReg)
    (hagree : ∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) :
    θ_run Cert.Reference17Ideal.defs (onTc (τ := Cert.Reference17Ideal.τ) (Cert.Reference17Ideal.main (F := Ideal))) ⟨m', fun _ => 0, ρ'⟩ fun r => ∀ c : Dev Cert.Reference17Ideal.nD,
      r.2.mem ((c.tc : Thread Cert.Reference17Ideal.nD Cert.Reference17Ideal.τ).loc Cert.Reference17Ideal.main_v41)
        = Cert.Attn.REFV (Cert.Kernel17Ideal.Hand.aP m c) (Cert.Kernel17Ideal.Hand.aC m c) (Cert.Kernel17Ideal.Hand.aT m c)
      ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2) := by
  refine (θ_run Cert.Reference17Ideal.defs _ _).mono (fun r h c => ⟨(h c).1.trans ?_, (h c).2⟩) (Cert.Reference17Ideal.Value.run (F := Ideal) m' ρ')
  obtain ⟨h0, h1, h2⟩ := hagree c
  rw [Cert.Attn.ref_eq, h0, h1, h2]

/-- The kernel and the reference return equal arrays. -/
theorem value_17 : algebraic_Kernel17Ideal_Reference17Ideal_pre_finite (hKernel17Ideal := Cert.Kernel17Ideal.Gen.facts)
    (hReference17Ideal := Cert.Reference17Ideal.Gen.facts) (hPre_finite := Cert.Pre_finite.Gen.facts) := fun m ρ m' ρ' hpre hagree =>
  ⟨fun c => Cert.Attn.REFV (Cert.Kernel17Ideal.Hand.aP m c) (Cert.Kernel17Ideal.Hand.aC m c) (Cert.Kernel17Ideal.Hand.aT m c),
    Cert.Kernel17Ideal.Hand.run_value m ρ (fun c => (real_of_pre m hpre c).1) (fun c => (real_of_pre m hpre c).2), result_17 m m' ρ' hagree⟩

end Cert.AttnClaims

end
-- ==== Proof.lean ====
/-
  The claims of the statement, put together from the modules that prove them: `PRun` and `KRun` (the frames of the attention's backward
  call), `FfnClaims` (the four products of the feed-forward block's backward pass), `FwdClaims` (the block's two forward calls), `MmClaims`
  (the products of the projections), `PRun17`, `KRun17` and `AttnClaims` (the attention's gradient of the values).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_ffn
public import proofs.«01_k».proof.Proof.Gen.Kernel17
public import proofs.«01_k».proof.Proof.Gen.Kernel17.Skeleton
public import proofs.«01_k».proof.Proof.Gen.Kernel17.Loops
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Loops
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.PRun
public import proofs.«01_k».proof.Proof.KRun
public import proofs.«01_k».proof.Proof.FfnClaims
public import proofs.«01_k».proof.Proof.FwdClaims
public import proofs.«01_k».proof.Proof.MmClaims
public import proofs.«01_k».proof.Proof.KRun17
public import proofs.«01_k».proof.Proof.AttnClaims
public import Idealize.ShloMosaic.Adequacy
public import Idealize.ShloMosaic.Init

@[expose] public section

noncomputable section

namespace Cert.Proof

open Idealize.ShloMosaic Idealize.SL.Sem

/-- The three constants of the attention's backward call that are read exactly. -/
theorem preserves : preserves_Kernel_KernelIdeal :=
  ⟨IdealRules.named_const.statement Cert.KernelIdeal.κ "scale_log2e" .f32 0x3E38AA3B#32 (((1 / 8) * (Real.log 2)⁻¹ : ℝ) : EReal) rfl,
    IdealRules.named_const.statement Cert.KernelIdeal.κ "neg_inf" .f32 0xF149F2CA#32 ⊥ rfl,
    IdealRules.named_const.statement Cert.KernelIdeal.κ "ln2" .f32 0x3F317218#32 ((Real.log 2 : ℝ) : EReal) rfl⟩

/-- The same three constants in the call that returns the gradient of the values. -/
theorem preserves_17 : preserves_Kernel17_Kernel17Ideal :=
  ⟨IdealRules.named_const.statement Cert.Kernel17Ideal.κ "scale_log2e" .f32 0x3E38AA3B#32 (((1 / 8) * (Real.log 2)⁻¹ : ℝ) : EReal) rfl,
    IdealRules.named_const.statement Cert.Kernel17Ideal.κ "neg_inf" .f32 0xF149F2CA#32 ⊥ rfl,
    IdealRules.named_const.statement Cert.Kernel17Ideal.κ "ln2" .f32 0x3F317218#32 ((Real.log 2 : ℝ) : EReal) rfl⟩

/-- The plain attention's gradient runs, ends with every counter at zero and keeps its arguments. -/
theorem frame_r : quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite_ffn.Gen.facts, Cert.Pre_finite.Gen.facts,
    fun m ρ _ => Cert.Kernel.Hand.frame m ρ,
    fun m ρ _ => Cert.KernelIdeal.Hand.frame m ρ,
    frame_r,
    fun m ρ _ => Cert.Kernel2.Gen.frame m ρ,
    fun m ρ _ => Cert.Kernel2Ideal.Gen.frame m ρ,
    Cert.FfnClaims.frame_r2,
    fun m ρ _ => Cert.Kernel3.Gen.frame m ρ,
    fun m ρ _ => Cert.Kernel3Ideal.Gen.frame m ρ,
    Cert.FfnClaims.frame_r3,
    fun m ρ _ => Cert.Kernel4.Gen.frame m ρ,
    fun m ρ _ => Cert.Kernel4Ideal.Gen.frame m ρ,
    Cert.FfnClaims.frame_r4,
    fun m ρ _ => Cert.Kernel5.Gen.frame m ρ,
    fun m ρ _ => Cert.Kernel5Ideal.Gen.frame m ρ,
    fun m ρ _ => Cert.Kernel5Ideal.Gen.frame m ρ,
    Cert.FfnClaims.frame_r5,
    fun m ρ _ => Cert.FfnClaims.frame_r5 m ρ trivial,
    fun m ρ _ => Cert.Kernel6.Gen.frame m ρ,
    fun m ρ _ => Cert.Kernel6Ideal.Gen.frame m ρ,
    Cert.FwdClaims.frame_r6,
    fun m ρ _ => Cert.Kernel7.Gen.frame m ρ,
    fun m ρ _ => Cert.Kernel7Ideal.Gen.frame m ρ,
    Cert.FwdClaims.frame_r7,
    fun m ρ _ => Cert.Kernel8.Gen.frame m ρ,
    fun m ρ _ => Cert.Kernel8Ideal.Gen.frame m ρ,
    Cert.MmClaims.frame_r8,
    fun m ρ _ => Cert.Kernel9.Gen.frame m ρ,
    fun m ρ _ => Cert.Kernel9Ideal.Gen.frame m ρ,
    Cert.MmClaims.frame_r9,
    fun m ρ _ => Cert.Kernel10.Gen.frame m ρ,
    fun m ρ _ => Cert.Kernel10Ideal.Gen.frame m ρ,
    Cert.MmClaims.frame_r10,
    fun m ρ _ => Cert.Kernel11.Gen.frame m ρ,
    fun m ρ _ => Cert.Kernel11Ideal.Gen.frame m ρ,
    Cert.MmClaims.frame_r11,
    fun m ρ _ => Cert.Kernel12.Gen.frame m ρ,
    fun m ρ _ => Cert.Kernel12Ideal.Gen.frame m ρ,
    Cert.MmClaims.frame_r12,
    fun m ρ _ => Cert.Kernel13.Gen.frame m ρ,
    fun m ρ _ => Cert.Kernel13Ideal.Gen.frame m ρ,
    Cert.MmClaims.frame_r13,
    fun m ρ _ => Cert.Kernel14.Gen.frame m ρ,
    fun m ρ _ => Cert.Kernel14Ideal.Gen.frame m ρ,
    Cert.MmClaims.frame_r14,
    fun m ρ _ => Cert.Kernel15.Gen.frame m ρ,
    fun m ρ _ => Cert.Kernel15Ideal.Gen.frame m ρ,
    Cert.MmClaims.frame_r15,
    fun m ρ _ => Cert.Kernel16.Gen.frame m ρ,
    fun m ρ _ => Cert.Kernel16Ideal.Gen.frame m ρ,
    Cert.MmClaims.frame_r16,
    fun m ρ _ => Cert.Kernel17.Hand.frame m ρ,
    fun m ρ _ => Cert.Kernel17Ideal.Hand.frame m ρ,
    fun m ρ _ => Cert.Kernel17Ideal.Hand.frame m ρ,
    Cert.AttnClaims.frame_r17,
    fun m ρ _ => Cert.AttnClaims.frame_r17 m ρ trivial,
    preserves,
    trivial, Cert.FfnClaims.value_2,
    trivial, Cert.FfnClaims.value_3,
    trivial, Cert.FfnClaims.value_4,
    trivial, Cert.FfnClaims.value_5,
    trivial, Cert.FwdClaims.value_6,
    trivial, Cert.FwdClaims.value_7,
    trivial, Cert.MmClaims.value_8,
    trivial, Cert.MmClaims.value_9,
    trivial, Cert.MmClaims.value_10,
    trivial, Cert.MmClaims.value_11,
    trivial, Cert.MmClaims.value_12,
    trivial, Cert.MmClaims.value_13,
    trivial, Cert.MmClaims.value_14,
    trivial, Cert.MmClaims.value_15,
    trivial, Cert.MmClaims.value_16,
    preserves_17, Cert.AttnClaims.value_17⟩

end Cert.Proof

end
